-- ==== Defs.lean ====
def Pre_Kernel [hPre_exceptions_in_range : Cert.Pre_exceptions_in_range.Facts] (m : (ℓ : Loc Cert.Kernel.nD Cert.Kernel.τ Cert.Kernel.sig) → Buf (Elt Bits) ℓ) : Prop :=
  ∀ c : Dev Cert.Kernel.nD,
    (Cert.Pre_exceptions_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_exceptions_in_range : Cert.Pre_exceptions_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_exceptions_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_exceptions_in_range : Cert.Pre_exceptions_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_exceptions_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Prep (m : (ℓ : Loc Cert.Prep.nD Cert.Prep.τ Cert.Prep.sig) → Buf (Elt Bits) ℓ) : Prop :=
  True

def Pre_PrepIdeal (m : (ℓ : Loc Cert.PrepIdeal.nD Cert.PrepIdeal.τ Cert.PrepIdeal.sig) → Buf (Elt Ideal) ℓ) : Prop :=
  True

def Pre_PrepIdeal_scales_normal [hPre_scales_normal : Cert.Pre_scales_normal.Facts] (m : (ℓ : Loc Cert.PrepIdeal.nD Cert.PrepIdeal.τ Cert.PrepIdeal.sig) → Buf (Elt Ideal) ℓ) : Prop :=
  ∀ c : Dev Cert.PrepIdeal.nD,
    (Cert.Pre_scales_normal.fn (F := Ideal) (m ((c.tc : Thread Cert.PrepIdeal.nD Cert.PrepIdeal.τ).loc Cert.PrepIdeal.main_arg0)) (m ((c.tc : Thread Cert.PrepIdeal.nD Cert.PrepIdeal.τ).loc Cert.PrepIdeal.main_arg1)) (m ((c.tc : Thread Cert.PrepIdeal.nD Cert.PrepIdeal.τ).loc Cert.PrepIdeal.main_arg2))) = (fun _ => 1#1)

def Pre_PrepReferenceIdeal (m : (ℓ : Loc Cert.PrepReferenceIdeal.nD Cert.PrepReferenceIdeal.τ Cert.PrepReferenceIdeal.sig) → Buf (Elt Ideal) ℓ) : Prop :=
  True

def Pre_PrepReferenceIdeal_scales_normal [hPre_scales_normal : Cert.Pre_scales_normal.Facts] (m : (ℓ : Loc Cert.PrepReferenceIdeal.nD Cert.PrepReferenceIdeal.τ Cert.PrepReferenceIdeal.sig) → Buf (Elt Ideal) ℓ) : Prop :=
  ∀ c : Dev Cert.PrepReferenceIdeal.nD,
    (Cert.Pre_scales_normal.fn (F := Ideal) (m ((c.tc : Thread Cert.PrepReferenceIdeal.nD Cert.PrepReferenceIdeal.τ).loc Cert.PrepReferenceIdeal.main_arg0)) (m ((c.tc : Thread Cert.PrepReferenceIdeal.nD Cert.PrepReferenceIdeal.τ).loc Cert.PrepReferenceIdeal.main_arg1)) (m ((c.tc : Thread Cert.PrepReferenceIdeal.nD Cert.PrepReferenceIdeal.τ).loc Cert.PrepReferenceIdeal.main_arg2))) = (fun _ => 1#1)

def quiescent_Kernel [hKernel : Cert.Kernel.Facts] [hPre_exceptions_in_range : Cert.Pre_exceptions_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] [hPre_exceptions_in_range : Cert.Pre_exceptions_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] [hPre_exceptions_in_range : Cert.Pre_exceptions_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Prep [hPrep : Cert.Prep.Facts] : Prop :=
  ∀ (m : (ℓ : Loc Cert.Prep.nD Cert.Prep.τ Cert.Prep.sig) → Buf (Elt Bits) ℓ) (g : Dev Cert.Prep.nD → PrngReg), Pre_Prep m →
    θ_run (Cert.Prep.defs (F := Bits)) (onTc (τ := Cert.Prep.τ) (Cert.Prep.main (F := Bits))) ⟨m, fun _ => 0, g⟩ (fun r => (∀ c : Dev Cert.Prep.nD,
      r.2.mem ((c.tc : Thread Cert.Prep.nD Cert.Prep.τ).loc Cert.Prep.main_arg0) = m ((c.tc : Thread Cert.Prep.nD Cert.Prep.τ).loc Cert.Prep.main_arg0)
      ∧ r.2.mem ((c.tc : Thread Cert.Prep.nD Cert.Prep.τ).loc Cert.Prep.main_arg1) = m ((c.tc : Thread Cert.Prep.nD Cert.Prep.τ).loc Cert.Prep.main_arg1)
      ∧ r.2.mem ((c.tc : Thread Cert.Prep.nD Cert.Prep.τ).loc Cert.Prep.main_arg2) = m ((c.tc : Thread Cert.Prep.nD Cert.Prep.τ).loc Cert.Prep.main_arg2))
      ∧ r.2.sem = fun _ => 0)

def quiescent_PrepIdeal [hPrepIdeal : Cert.PrepIdeal.Facts] : Prop :=
  ∀ (m : (ℓ : Loc Cert.PrepIdeal.nD Cert.PrepIdeal.τ Cert.PrepIdeal.sig) → Buf (Elt Ideal) ℓ) (g : Dev Cert.PrepIdeal.nD → PrngReg), Pre_PrepIdeal m →
    θ_run (Cert.PrepIdeal.defs (F := Ideal)) (onTc (τ := Cert.PrepIdeal.τ) (Cert.PrepIdeal.main (F := Ideal))) ⟨m, fun _ => 0, g⟩ (fun r => (∀ c : Dev Cert.PrepIdeal.nD,
      r.2.mem ((c.tc : Thread Cert.PrepIdeal.nD Cert.PrepIdeal.τ).loc Cert.PrepIdeal.main_arg0) = m ((c.tc : Thread Cert.PrepIdeal.nD Cert.PrepIdeal.τ).loc Cert.PrepIdeal.main_arg0)
      ∧ r.2.mem ((c.tc : Thread Cert.PrepIdeal.nD Cert.PrepIdeal.τ).loc Cert.PrepIdeal.main_arg1) = m ((c.tc : Thread Cert.PrepIdeal.nD Cert.PrepIdeal.τ).loc Cert.PrepIdeal.main_arg1)
      ∧ r.2.mem ((c.tc : Thread Cert.PrepIdeal.nD Cert.PrepIdeal.τ).loc Cert.PrepIdeal.main_arg2) = m ((c.tc : Thread Cert.PrepIdeal.nD Cert.PrepIdeal.τ).loc Cert.PrepIdeal.main_arg2))
      ∧ r.2.sem = fun _ => 0)

def quiescent_PrepIdeal_pre_scales_normal [hPrepIdeal : Cert.PrepIdeal.Facts] [hPre_scales_normal : Cert.Pre_scales_normal.Facts] : Prop :=
  ∀ (m : (ℓ : Loc Cert.PrepIdeal.nD Cert.PrepIdeal.τ Cert.PrepIdeal.sig) → Buf (Elt Ideal) ℓ) (g : Dev Cert.PrepIdeal.nD → PrngReg), Pre_PrepIdeal_scales_normal m →
    θ_run (Cert.PrepIdeal.defs (F := Ideal)) (onTc (τ := Cert.PrepIdeal.τ) (Cert.PrepIdeal.main (F := Ideal))) ⟨m, fun _ => 0, g⟩ (fun r => (∀ c : Dev Cert.PrepIdeal.nD,
      r.2.mem ((c.tc : Thread Cert.PrepIdeal.nD Cert.PrepIdeal.τ).loc Cert.PrepIdeal.main_arg0) = m ((c.tc : Thread Cert.PrepIdeal.nD Cert.PrepIdeal.τ).loc Cert.PrepIdeal.main_arg0)
      ∧ r.2.mem ((c.tc : Thread Cert.PrepIdeal.nD Cert.PrepIdeal.τ).loc Cert.PrepIdeal.main_arg1) = m ((c.tc : Thread Cert.PrepIdeal.nD Cert.PrepIdeal.τ).loc Cert.PrepIdeal.main_arg1)
      ∧ r.2.mem ((c.tc : Thread Cert.PrepIdeal.nD Cert.PrepIdeal.τ).loc Cert.PrepIdeal.main_arg2) = m ((c.tc : Thread Cert.PrepIdeal.nD Cert.PrepIdeal.τ).loc Cert.PrepIdeal.main_arg2))
      ∧ r.2.sem = fun _ => 0)

def quiescent_PrepReferenceIdeal [hPrepReferenceIdeal : Cert.PrepReferenceIdeal.Facts] : Prop :=
  ∀ (m : (ℓ : Loc Cert.PrepReferenceIdeal.nD Cert.PrepReferenceIdeal.τ Cert.PrepReferenceIdeal.sig) → Buf (Elt Ideal) ℓ) (g : Dev Cert.PrepReferenceIdeal.nD → PrngReg), Pre_PrepReferenceIdeal m →
    θ_run (Cert.PrepReferenceIdeal.defs (F := Ideal)) (onTc (τ := Cert.PrepReferenceIdeal.τ) (Cert.PrepReferenceIdeal.main (F := Ideal))) ⟨m, fun _ => 0, g⟩ (fun r => (∀ c : Dev Cert.PrepReferenceIdeal.nD,
      r.2.mem ((c.tc : Thread Cert.PrepReferenceIdeal.nD Cert.PrepReferenceIdeal.τ).loc Cert.PrepReferenceIdeal.main_arg0) = m ((c.tc : Thread Cert.PrepReferenceIdeal.nD Cert.PrepReferenceIdeal.τ).loc Cert.PrepReferenceIdeal.main_arg0)
      ∧ r.2.mem ((c.tc : Thread Cert.PrepReferenceIdeal.nD Cert.PrepReferenceIdeal.τ).loc Cert.PrepReferenceIdeal.main_arg1) = m ((c.tc : Thread Cert.PrepReferenceIdeal.nD Cert.PrepReferenceIdeal.τ).loc Cert.PrepReferenceIdeal.main_arg1)
      ∧ r.2.mem ((c.tc : Thread Cert.PrepReferenceIdeal.nD Cert.PrepReferenceIdeal.τ).loc Cert.PrepReferenceIdeal.main_arg2) = m ((c.tc : Thread Cert.PrepReferenceIdeal.nD Cert.PrepReferenceIdeal.τ).loc Cert.PrepReferenceIdeal.main_arg2))
      ∧ r.2.sem = fun _ => 0)

def quiescent_PrepReferenceIdeal_pre_scales_normal [hPrepReferenceIdeal : Cert.PrepReferenceIdeal.Facts] [hPre_scales_normal : Cert.Pre_scales_normal.Facts] : Prop :=
  ∀ (m : (ℓ : Loc Cert.PrepReferenceIdeal.nD Cert.PrepReferenceIdeal.τ Cert.PrepReferenceIdeal.sig) → Buf (Elt Ideal) ℓ) (g : Dev Cert.PrepReferenceIdeal.nD → PrngReg), Pre_PrepReferenceIdeal_scales_normal m →
    θ_run (Cert.PrepReferenceIdeal.defs (F := Ideal)) (onTc (τ := Cert.PrepReferenceIdeal.τ) (Cert.PrepReferenceIdeal.main (F := Ideal))) ⟨m, fun _ => 0, g⟩ (fun r => (∀ c : Dev Cert.PrepReferenceIdeal.nD,
      r.2.mem ((c.tc : Thread Cert.PrepReferenceIdeal.nD Cert.PrepReferenceIdeal.τ).loc Cert.PrepReferenceIdeal.main_arg0) = m ((c.tc : Thread Cert.PrepReferenceIdeal.nD Cert.PrepReferenceIdeal.τ).loc Cert.PrepReferenceIdeal.main_arg0)
      ∧ r.2.mem ((c.tc : Thread Cert.PrepReferenceIdeal.nD Cert.PrepReferenceIdeal.τ).loc Cert.PrepReferenceIdeal.main_arg1) = m ((c.tc : Thread Cert.PrepReferenceIdeal.nD Cert.PrepReferenceIdeal.τ).loc Cert.PrepReferenceIdeal.main_arg1)
      ∧ r.2.mem ((c.tc : Thread Cert.PrepReferenceIdeal.nD Cert.PrepReferenceIdeal.τ).loc Cert.PrepReferenceIdeal.main_arg2) = m ((c.tc : Thread Cert.PrepReferenceIdeal.nD Cert.PrepReferenceIdeal.τ).loc Cert.PrepReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_exceptions_in_range : Cert.Pre_exceptions_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v95) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Prep_PrepIdeal : Prop :=
  True

def algebraic_PrepIdeal_PrepReferenceIdeal_pre_scales_normal [hPrepIdeal : Cert.PrepIdeal.Facts] [hPrepReferenceIdeal : Cert.PrepReferenceIdeal.Facts] [hPre_scales_normal : Cert.Pre_scales_normal.Facts] : Prop :=
  ∀ (m : (ℓ : Loc Cert.PrepIdeal.nD Cert.PrepIdeal.τ Cert.PrepIdeal.sig) → Buf (Elt Ideal) ℓ) (g : Dev Cert.PrepIdeal.nD → PrngReg)
    (m' : (ℓ : Loc Cert.PrepReferenceIdeal.nD Cert.PrepReferenceIdeal.τ Cert.PrepReferenceIdeal.sig) → Buf (Elt Ideal) ℓ) (g' : Dev Cert.PrepReferenceIdeal.nD → PrngReg), Pre_PrepIdeal_scales_normal m →
    (∀ c : Dev Cert.PrepIdeal.nD,
      m' ((c.tc : Thread Cert.PrepReferenceIdeal.nD Cert.PrepReferenceIdeal.τ).loc Cert.PrepReferenceIdeal.main_arg0) = m ((c.tc : Thread Cert.PrepIdeal.nD Cert.PrepIdeal.τ).loc Cert.PrepIdeal.main_arg0)
      ∧ m' ((c.tc : Thread Cert.PrepReferenceIdeal.nD Cert.PrepReferenceIdeal.τ).loc Cert.PrepReferenceIdeal.main_arg1) = m ((c.tc : Thread Cert.PrepIdeal.nD Cert.PrepIdeal.τ).loc Cert.PrepIdeal.main_arg1)
      ∧ m' ((c.tc : Thread Cert.PrepReferenceIdeal.nD Cert.PrepReferenceIdeal.τ).loc Cert.PrepReferenceIdeal.main_arg2) = m ((c.tc : Thread Cert.PrepIdeal.nD Cert.PrepIdeal.τ).loc Cert.PrepIdeal.main_arg2)) →
    ∃ (v0 : (c : Dev Cert.PrepIdeal.nD) → Buf (Elt Ideal) ((c.tc : Thread Cert.PrepIdeal.nD Cert.PrepIdeal.τ).loc Cert.PrepIdeal.main_v4_0)) (v1 : (c : Dev Cert.PrepIdeal.nD) → Buf (Elt Ideal) ((c.tc : Thread Cert.PrepIdeal.nD Cert.PrepIdeal.τ).loc Cert.PrepIdeal.main_v4_1)),
      θ_run (Cert.PrepIdeal.defs (F := Ideal)) (onTc (τ := Cert.PrepIdeal.τ) (Cert.PrepIdeal.main (F := Ideal))) ⟨m, fun _ => 0, g⟩ (fun r => ∀ c : Dev Cert.PrepIdeal.nD,
          r.2.mem ((c.tc : Thread Cert.PrepIdeal.nD Cert.PrepIdeal.τ).loc Cert.PrepIdeal.main_v4_0) = v0 c
          ∧ r.2.mem ((c.tc : Thread Cert.PrepIdeal.nD Cert.PrepIdeal.τ).loc Cert.PrepIdeal.main_v4_1) = v1 c
          ∧ r.2.mem ((c.tc : Thread Cert.PrepIdeal.nD Cert.PrepIdeal.τ).loc Cert.PrepIdeal.main_arg0) = m ((c.tc : Thread Cert.PrepIdeal.nD Cert.PrepIdeal.τ).loc Cert.PrepIdeal.main_arg0)
          ∧ r.2.mem ((c.tc : Thread Cert.PrepIdeal.nD Cert.PrepIdeal.τ).loc Cert.PrepIdeal.main_arg1) = m ((c.tc : Thread Cert.PrepIdeal.nD Cert.PrepIdeal.τ).loc Cert.PrepIdeal.main_arg1)
          ∧ r.2.mem ((c.tc : Thread Cert.PrepIdeal.nD Cert.PrepIdeal.τ).loc Cert.PrepIdeal.main_arg2) = m ((c.tc : Thread Cert.PrepIdeal.nD Cert.PrepIdeal.τ).loc Cert.PrepIdeal.main_arg2))
      ∧ θ_run (Cert.PrepReferenceIdeal.defs (F := Ideal)) (onTc (τ := Cert.PrepReferenceIdeal.τ) (Cert.PrepReferenceIdeal.main (F := Ideal))) ⟨m', fun _ => 0, g'⟩ (fun r => ∀ c : Dev Cert.PrepReferenceIdeal.nD,
          r.2.mem ((c.tc : Thread Cert.PrepReferenceIdeal.nD Cert.PrepReferenceIdeal.τ).loc Cert.PrepReferenceIdeal.main_v34) = v0 c
          ∧ r.2.mem ((c.tc : Thread Cert.PrepReferenceIdeal.nD Cert.PrepReferenceIdeal.τ).loc Cert.PrepReferenceIdeal.main_v33) = v1 c
          ∧ r.2.mem ((c.tc : Thread Cert.PrepReferenceIdeal.nD Cert.PrepReferenceIdeal.τ).loc Cert.PrepReferenceIdeal.main_arg0) = m' ((c.tc : Thread Cert.PrepReferenceIdeal.nD Cert.PrepReferenceIdeal.τ).loc Cert.PrepReferenceIdeal.main_arg0)
          ∧ r.2.mem ((c.tc : Thread Cert.PrepReferenceIdeal.nD Cert.PrepReferenceIdeal.τ).loc Cert.PrepReferenceIdeal.main_arg1) = m' ((c.tc : Thread Cert.PrepReferenceIdeal.nD Cert.PrepReferenceIdeal.τ).loc Cert.PrepReferenceIdeal.main_arg1)
          ∧ r.2.mem ((c.tc : Thread Cert.PrepReferenceIdeal.nD Cert.PrepReferenceIdeal.τ).loc Cert.PrepReferenceIdeal.main_arg2) = m' ((c.tc : Thread Cert.PrepReferenceIdeal.nD Cert.PrepReferenceIdeal.τ).loc Cert.PrepReferenceIdeal.main_arg2))

def Claim : Prop :=
  ∃ (hKernel : Cert.Kernel.Facts) (hKernelIdeal : Cert.KernelIdeal.Facts) (hReferenceIdeal : Cert.ReferenceIdeal.Facts) (hPrep : Cert.Prep.Facts) (hPrepIdeal : Cert.PrepIdeal.Facts) (hPrepReferenceIdeal : Cert.PrepReferenceIdeal.Facts) (hPre_exceptions_in_range : Cert.Pre_exceptions_in_range.Facts) (hPre_scales_normal : Cert.Pre_scales_normal.Facts),
    quiescent_Kernel (hKernel := hKernel) (hPre_exceptions_in_range := hPre_exceptions_in_range)
    ∧ quiescent_KernelIdeal (hKernelIdeal := hKernelIdeal) (hPre_exceptions_in_range := hPre_exceptions_in_range)
    ∧ quiescent_ReferenceIdeal (hReferenceIdeal := hReferenceIdeal) (hPre_exceptions_in_range := hPre_exceptions_in_range)
    ∧ quiescent_Prep (hPrep := hPrep)
    ∧ quiescent_PrepIdeal (hPrepIdeal := hPrepIdeal)
    ∧ quiescent_PrepIdeal_pre_scales_normal (hPrepIdeal := hPrepIdeal) (hPre_scales_normal := hPre_scales_normal)
    ∧ quiescent_PrepReferenceIdeal (hPrepReferenceIdeal := hPrepReferenceIdeal)
    ∧ quiescent_PrepReferenceIdeal_pre_scales_normal (hPrepReferenceIdeal := hPrepReferenceIdeal) (hPre_scales_normal := hPre_scales_normal)
    ∧ preserves_Kernel_KernelIdeal
    ∧ algebraic_KernelIdeal_ReferenceIdeal (hKernelIdeal := hKernelIdeal) (hReferenceIdeal := hReferenceIdeal) (hPre_exceptions_in_range := hPre_exceptions_in_range)
    ∧ preserves_Prep_PrepIdeal
    ∧ algebraic_PrepIdeal_PrepReferenceIdeal_pre_scales_normal (hPrepIdeal := hPrepIdeal) (hPrepReferenceIdeal := hPrepReferenceIdeal) (hPre_scales_normal := hPre_scales_normal)
-- ==== Pre_exceptions_in_range.lean ====
abbrev S2048 : Shape := ⟨1, ![2048]⟩
abbrev S30x16x336x128 : Shape := ⟨4, ![30, 16, 336, 128]⟩
abbrev S160x768 : Shape := ⟨2, ![160, 768]⟩
abbrev S17168x128 : Shape := ⟨2, ![17168, 128]⟩
abbrev S32x4x16 : Shape := ⟨3, ![32, 4, 16]⟩
abbrev S32x1x15 : Shape := ⟨3, ![32, 1, 15]⟩
abbrev S32x15 : Shape := ⟨2, ![32, 15]⟩
abbrev S_ : Shape := ⟨0, ![]⟩

class Facts : Prop where
  shapeCasts_S2048_S32x4x16 : S2048.ShapeCasts S32x4x16
  slices_S32x4x16_S32x1x15_0_0_0 : S32x4x16.Slices ![0, 0, 0] S32x1x15
  shapeCasts_S32x1x15_S32x15 : S32x1x15.ShapeCasts S32x15
  slices_S32x4x16_S32x1x15_0_2_0 : S32x4x16.Slices ![0, 2, 0] S32x1x15
  bcast_S_S32x15 : S_.BroadcastsInDim S32x15 (![] : Fin 0 → Fin S32x15.rank)
  reducesTo_S32x15_S_d0_1 : S32x15.ReducesTo [0, 1] S_
  h_S_ : 0 < S_.numel

variable [Facts]

def fn_part1 {F : FTy → Type} [FloatOps F] (main_v2 : IVec S32x15 32) (main_v4 : IVec S32x15 32) (main_v17 : IVec S32x15 1) (main_c_4 : IVec S_ 32) : IVec S_ 1 :=
  let main_v18 : IVec S32x15 32 := broadcastInDim S32x15 ![] bcast_S_S32x15 main_c_4
  let main_v19 : IVec S32x15 32 := subi main_v18 main_v4
  let main_v20 : IVec S32x15 1 := cmpi .sle main_v2 main_v19
  let main_v21 : IVec S32x15 1 := andi main_v17 main_v20
  let main_c_5 : IVec S_ 1 := constantI S_ 1 1#1
  let main_v22 : IVec S_ 1 := (fun x v => Host.reduce IntOp.andi x v reducesTo_S32x15_S_d0_1 h_S_) main_v21 main_c_5
  main_v22

def fn {F : FTy → Type} [FloatOps F] (main_arg0 : IVec S2048 32) (main_arg1 : IVec S30x16x336x128 32) (main_arg2 : FVec F S160x768 .bf16) (main_arg3 : IVec S17168x128 32) : IVec S_ 1 :=
  let main_v0 : IVec S32x4x16 32 := shapeCast S32x4x16 main_arg0 shapeCasts_S2048_S32x4x16
  let main_v1 : IVec S32x1x15 32 := (extractStridedSlice S32x1x15 ![0, 0, 0] · slices_S32x4x16_S32x1x15_0_0_0) main_v0
  let main_v2 : IVec S32x15 32 := shapeCast S32x15 main_v1 shapeCasts_S32x1x15_S32x15
  let main_v3 : IVec S32x1x15 32 := (extractStridedSlice S32x1x15 ![0, 2, 0] · slices_S32x4x16_S32x1x15_0_2_0) main_v0
  let main_v4 : IVec S32x15 32 := shapeCast S32x15 main_v3 shapeCasts_S32x1x15_S32x15
  let main_c : IVec S_ 32 := constantI S_ 32 0#32
  let main_v5 : IVec S32x15 32 := broadcastInDim S32x15 ![] bcast_S_S32x15 main_c
  let main_v6 : IVec S32x15 1 := cmpi .sge main_v2 main_v5
  let main_c_0 : IVec S_ 32 := constantI S_ 32 0#32
  let main_v7 : IVec S32x15 32 := broadcastInDim S32x15 ![] bcast_S_S32x15 main_c_0
  let main_v8 : IVec S32x15 1 := cmpi .sge main_v4 main_v7
  let main_v9 : IVec S32x15 1 := andi main_v6 main_v8
  let main_c_1 : IVec S_ 32 := constantI S_ 32 1023#32
  let main_v10 : IVec S32x15 32 := broadcastInDim S32x15 ![] bcast_S_S32x15 main_c_1
  let main_v11 : IVec S32x15 32 := andi main_v4 main_v10
  let main_c_2 : IVec S_ 32 := constantI S_ 32 0#32
  let main_v12 : IVec S32x15 32 := broadcastInDim S32x15 ![] bcast_S_S32x15 main_c_2
  let main_v13 : IVec S32x15 1 := cmpi .eq main_v11 main_v12
  let main_v14 : IVec S32x15 1 := andi main_v9 main_v13
  let main_c_3 : IVec S_ 32 := constantI S_ 32 2197504#32
  let main_v15 : IVec S32x15 32 := broadcastInDim S32x15 ![] bcast_S_S32x15 main_c_3
  let main_v16 : IVec S32x15 1 := cmpi .sle main_v4 main_v15
  let main_v17 : IVec S32x15 1 := andi main_v14 main_v16
  let main_c_4 : IVec S_ 32 := constantI S_ 32 2197504#32
  fn_part1 (F := F) main_v2 main_v4 main_v17 main_c_4
-- ==== Pre_scales_normal.lean ====
abbrev S768x160 : Shape := ⟨2, ![768, 160]⟩
abbrev S768 : Shape := ⟨1, ![768]⟩
abbrev S384000 : Shape := ⟨1, ![384000]⟩
abbrev S_ : Shape := ⟨0, ![]⟩

class Facts : Prop where
  natLt_8_32 : 8 < 32
  bcast_S_S768 : S_.BroadcastsInDim S768 (![] : Fin 0 → Fin S768.rank)
  reducesTo_S768_S_d0 : S768.ReducesTo [0] S_
  h_S_ : 0 < S_.numel

variable [Facts]

def fn {F : FTy → Type} [FloatOps F] (main_arg0 : FVec F S768x160 .bf16) (main_arg1 : IVec S768 8) (main_arg2 : IVec S384000 8) : IVec S_ 1 :=
  let main_v0 : IVec S768 32 := (extui 32 · natLt_8_32) main_arg1
  let main_c : IVec S_ 32 := constantI S_ 32 1#32
  let main_v1 : IVec S768 32 := broadcastInDim S768 ![] bcast_S_S768 main_c
  let main_v2 : IVec S768 1 := cmpi .sge main_v0 main_v1
  let main_c_0 : IVec S_ 32 := constantI S_ 32 254#32
  let main_v3 : IVec S768 32 := broadcastInDim S768 ![] bcast_S_S768 main_c_0
  let main_v4 : IVec S768 1 := cmpi .sle main_v0 main_v3
  let main_v5 : IVec S768 1 := andi main_v2 main_v4
  let main_c_1 : IVec S_ 1 := constantI S_ 1 1#1
  let main_v6 : IVec S_ 1 := (fun x v => Host.reduce IntOp.andi x v reducesTo_S768_S_d0 h_S_) main_v5 main_c_1
  main_v6
-- ==== Kernel.lean ====
abbrev S2048 : Shape := ⟨1, ![2048]⟩
abbrev S30x16x336x128 : Shape := ⟨4, ![30, 16, 336, 128]⟩
abbrev S160x768 : Shape := ⟨2, ![160, 768]⟩
abbrev S17168x128 : Shape := ⟨2, ![17168, 128]⟩
abbrev S160x160000 : Shape := ⟨2, ![160, 160000]⟩
abbrev S1x16x336x128 : Shape := ⟨4, ![1, 16, 336, 128]⟩
abbrev S160x5376 : Shape := ⟨2, ![160, 5376]⟩
abbrev S384x256 : Shape := ⟨2, ![384, 256]⟩
abbrev S160x256 : Shape := ⟨2, ![160, 256]⟩
abbrev S8x128 : Shape := ⟨2, ![8, 128]⟩
abbrev S_ : Shape := ⟨0, ![]⟩
abbrev S1x1x8x128 : Shape := ⟨4, ![1, 1, 8, 128]⟩
abbrev S768x256 : Shape := ⟨2, ![768, 256]⟩
abbrev S1 : Shape := ⟨1, ![1]⟩
abbrev S1x1 : Shape := ⟨2, ![1, 1]⟩
abbrev S160 : Shape := ⟨1, ![160]⟩
abbrev S160x1 : Shape := ⟨2, ![160, 1]⟩

abbrev nBuf : Space → Nat
  | .hbm => 4
  | .vmem => 7
  | .smem => 2
  | _ => 0

abbrev bufTy : (tb : Table) → Fin (tcTables nBuf tb) → BufTy
  | .hbm, ⟨0, _⟩ => ⟨S30x16x336x128, .i32⟩
  | .hbm, ⟨1, _⟩ => ⟨S160x768, .bf16⟩
  | .hbm, ⟨2, _⟩ => ⟨S17168x128, .i32⟩
  | .hbm, ⟨3, _⟩ => ⟨S160x160000, .bf16⟩
  | .local _ .vmem, ⟨0, _⟩ => ⟨S1x16x336x128, .i32⟩
  | .local _ .vmem, ⟨1, _⟩ => ⟨S1x16x336x128, .i32⟩
  | .local _ .vmem, ⟨2, _⟩ => ⟨S160x768, .bf16⟩
  | .local _ .vmem, ⟨3, _⟩ => ⟨S160x5376, .bf16⟩
  | .local _ .vmem, ⟨4, _⟩ => ⟨S160x5376, .bf16⟩
  | .local _ .vmem, ⟨5, _⟩ => ⟨S384x256, .i32⟩
  | .local _ .vmem, ⟨6, _⟩ => ⟨S160x256, .f32⟩
  | .local _ .smem, ⟨0, _⟩ => ⟨S2048, .i32⟩
  | .local _ .smem, ⟨1, _⟩ => ⟨S8x128, .i32⟩
  | _, _ => ⟨S30x16x336x128, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .smem, ⟨1, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_v0 : Ref sig .tc := ⟨.hbm, 3, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_scratch1 : Ref sig .tc := ⟨.vmem, 6, rfl⟩
abbrev cc0_scratch2 : Ref sig .tc := ⟨.smem, 1, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![30], ![false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

@[reducible] def k0_t1_loop : Scf.Loop 32 :=
  let c0_i32 : BitVec 32 := 0#32
  let c21_i32 : BitVec 32 := 21#32
  let v2 : BitVec 32 := Scalar.addi c0_i32 c21_i32
  let c1_i32_1 : BitVec 32 := 1#32
  ⟨c0_i32, v2, c1_i32_1⟩
def k0_mult1 (k0_t1 : Fin k0_t1_loop.trips) : BitVec 32 :=
  let c0_i32 : BitVec 32 := 0#32
  let c1_i32_1 : BitVec 32 := 1#32
  let arg10 : BitVec 32 := Scf.iv c0_i32 c1_i32_1 k0_t1
  let c256_i32 : BitVec 32 := 256#32
  let v8 : BitVec 32 := Scalar.muli arg10 c256_i32
  v8
def k0_mult2 (k0_t1 : Fin k0_t1_loop.trips) : BitVec 32 :=
  let c0_i32 : BitVec 32 := 0#32
  let c1_i32_1 : BitVec 32 := 1#32
  let arg10 : BitVec 32 := Scf.iv c0_i32 c1_i32_1 k0_t1
  let c16_i32_9 : BitVec 32 := 16#32
  let v10 : BitVec 32 := Scalar.muli arg10 c16_i32_9
  v10
def k0_off1 (k0_t1 : Fin k0_t1_loop.trips) (c0_i32_10 : BitVec 32) : Fin 4 → Nat :=
  let c0 : Index := 0#32
  let c0_11 : Index := 0#32
  let c0_i32 : BitVec 32 := 0#32
  let c1_i32_1 : BitVec 32 := 1#32
  let arg10 : BitVec 32 := Scf.iv c0_i32 c1_i32_1 k0_t1
  let c16_i32_9 : BitVec 32 := 16#32
  let v10 : BitVec 32 := Scalar.muli arg10 c16_i32_9
  let v11 : BitVec 32 := v10
  let v12 : BitVec 32 := Scalar.addi v11 c0_i32_10
  let v13 : Index := Scalar.indexCast v12
  let c0_12 : Index := 0#32
  ![0, 0, v13.toNat, 0]
def k0_mult3 (k0_t1 : Fin k0_t1_loop.trips) : BitVec 32 :=
  let c0_i32 : BitVec 32 := 0#32
  let c1_i32_1 : BitVec 32 := 1#32
  let arg10 : BitVec 32 := Scf.iv c0_i32 c1_i32_1 k0_t1
  let c16_i32_21 : BitVec 32 := 16#32
  let v41 : BitVec 32 := Scalar.muli arg10 c16_i32_21
  v41
def k0_mult4 (k0_t1 : Fin k0_t1_loop.trips) : BitVec 32 :=
  let c0_i32 : BitVec 32 := 0#32
  let c1_i32_1 : BitVec 32 := 1#32
  let arg10 : BitVec 32 := Scf.iv c0_i32 c1_i32_1 k0_t1
  let c16_i32_38 : BitVec 32 := 16#32
  let v72 : BitVec 32 := Scalar.muli arg10 c16_i32_38
  v72
def k0_off2 (k0_t1 : Fin k0_t1_loop.trips) (c0_i32_39 : BitVec 32) : Fin 4 → Nat :=
  let c0_40 : Index := 0#32
  let c1 : Index := 1#32
  let c0_i32 : BitVec 32 := 0#32
  let c1_i32_1 : BitVec 32 := 1#32
  let arg10 : BitVec 32 := Scf.iv c0_i32 c1_i32_1 k0_t1
  let c16_i32_38 : BitVec 32 := 16#32
  let v72 : BitVec 32 := Scalar.muli arg10 c16_i32_38
  let v73 : BitVec 32 := v72
  let v74 : BitVec 32 := Scalar.addi v73 c0_i32_39
  let v75 : Index := Scalar.indexCast v74
  let c0_41 : Index := 0#32
  ![0, 1, v75.toNat, 0]
def k0_mult5 (k0_t1 : Fin k0_t1_loop.trips) : BitVec 32 :=
  let c0_i32 : BitVec 32 := 0#32
  let c1_i32_1 : BitVec 32 := 1#32
  let arg10 : BitVec 32 := Scf.iv c0_i32 c1_i32_1 k0_t1
  let c16_i32_53 : BitVec 32 := 16#32
  let v103 : BitVec 32 := Scalar.muli arg10 c16_i32_53
  v103
def k0_mult6 (k0_t1 : Fin k0_t1_loop.trips) : BitVec 32 :=
  let c0_i32 : BitVec 32 := 0#32
  let c1_i32_1 : BitVec 32 := 1#32
  let arg10 : BitVec 32 := Scf.iv c0_i32 c1_i32_1 k0_t1
  let c16_i32_72 : BitVec 32 := 16#32
  let v134 : BitVec 32 := Scalar.muli arg10 c16_i32_72
  v134
def k0_off3 (k0_t1 : Fin k0_t1_loop.trips) (c0_i32_73 : BitVec 32) : Fin 4 → Nat :=
  let c0_74 : Index := 0#32
  let c2 : Index := 2#32
  let c0_i32 : BitVec 32 := 0#32
  let c1_i32_1 : BitVec 32 := 1#32
  let arg10 : BitVec 32 := Scf.iv c0_i32 c1_i32_1 k0_t1
  let c16_i32_72 : BitVec 32 := 16#32
  let v134 : BitVec 32 := Scalar.muli arg10 c16_i32_72
  let v135 : BitVec 32 := v134
  let v136 : BitVec 32 := Scalar.addi v135 c0_i32_73
  let v137 : Index := Scalar.indexCast v136
  let c0_75 : Index := 0#32
  ![0, 2, v137.toNat, 0]
def k0_mult7 (k0_t1 : Fin k0_t1_loop.trips) : BitVec 32 :=
  let c0_i32 : BitVec 32 := 0#32
  let c1_i32_1 : BitVec 32 := 1#32
  let arg10 : BitVec 32 := Scf.iv c0_i32 c1_i32_1 k0_t1
  let c16_i32_87 : BitVec 32 := 16#32
  let v165 : BitVec 32 := Scalar.muli arg10 c16_i32_87
  v165
def k0_mult8 (k0_t1 : Fin k0_t1_loop.trips) : BitVec 32 :=
  let c0_i32 : BitVec 32 := 0#32
  let c1_i32_1 : BitVec 32 := 1#32
  let arg10 : BitVec 32 := Scf.iv c0_i32 c1_i32_1 k0_t1
  let c16_i32_106 : BitVec 32 := 16#32
  let v196 : BitVec 32 := Scalar.muli arg10 c16_i32_106
  v196
def k0_off4 (k0_t1 : Fin k0_t1_loop.trips) (c0_i32_107 : BitVec 32) : Fin 4 → Nat :=
  let c0_108 : Index := 0#32
  let c3 : Index := 3#32
  let c0_i32 : BitVec 32 := 0#32
  let c1_i32_1 : BitVec 32 := 1#32
  let arg10 : BitVec 32 := Scf.iv c0_i32 c1_i32_1 k0_t1
  let c16_i32_106 : BitVec 32 := 16#32
  let v196 : BitVec 32 := Scalar.muli arg10 c16_i32_106
  let v197 : BitVec 32 := v196
  let v198 : BitVec 32 := Scalar.addi v197 c0_i32_107
  let v199 : Index := Scalar.indexCast v198
  let c0_109 : Index := 0#32
  ![0, 3, v199.toNat, 0]
def k0_mult9 (k0_t1 : Fin k0_t1_loop.trips) : BitVec 32 :=
  let c0_i32 : BitVec 32 := 0#32
  let c1_i32_1 : BitVec 32 := 1#32
  let arg10 : BitVec 32 := Scf.iv c0_i32 c1_i32_1 k0_t1
  let c16_i32_121 : BitVec 32 := 16#32
  let v227 : BitVec 32 := Scalar.muli arg10 c16_i32_121
  v227
def k0_mult10 (k0_t1 : Fin k0_t1_loop.trips) : BitVec 32 :=
  let c0_i32 : BitVec 32 := 0#32
  let c1_i32_1 : BitVec 32 := 1#32
  let arg10 : BitVec 32 := Scf.iv c0_i32 c1_i32_1 k0_t1
  let c16_i32_140 : BitVec 32 := 16#32
  let v258 : BitVec 32 := Scalar.muli arg10 c16_i32_140
  v258
def k0_off5 (k0_t1 : Fin k0_t1_loop.trips) (c0_i32_141 : BitVec 32) : Fin 4 → Nat :=
  let c0_142 : Index := 0#32
  let c4 : Index := 4#32
  let c0_i32 : BitVec 32 := 0#32
  let c1_i32_1 : BitVec 32 := 1#32
  let arg10 : BitVec 32 := Scf.iv c0_i32 c1_i32_1 k0_t1
  let c16_i32_140 : BitVec 32 := 16#32
  let v258 : BitVec 32 := Scalar.muli arg10 c16_i32_140
  let v259 : BitVec 32 := v258
  let v260 : BitVec 32 := Scalar.addi v259 c0_i32_141
  let v261 : Index := Scalar.indexCast v260
  let c0_143 : Index := 0#32
  ![0, 4, v261.toNat, 0]
def k0_mult11 (k0_t1 : Fin k0_t1_loop.trips) : BitVec 32 :=
  let c0_i32 : BitVec 32 := 0#32
  let c1_i32_1 : BitVec 32 := 1#32
  let arg10 : BitVec 32 := Scf.iv c0_i32 c1_i32_1 k0_t1
  let c16_i32_155 : BitVec 32 := 16#32
  let v289 : BitVec 32 := Scalar.muli arg10 c16_i32_155
  v289
def k0_mult12 (k0_t1 : Fin k0_t1_loop.trips) : BitVec 32 :=
  let c0_i32 : BitVec 32 := 0#32
  let c1_i32_1 : BitVec 32 := 1#32
  let arg10 : BitVec 32 := Scf.iv c0_i32 c1_i32_1 k0_t1
  let c16_i32_174 : BitVec 32 := 16#32
  let v320 : BitVec 32 := Scalar.muli arg10 c16_i32_174
  v320
def k0_off6 (k0_t1 : Fin k0_t1_loop.trips) (c0_i32_175 : BitVec 32) : Fin 4 → Nat :=
  let c0_176 : Index := 0#32
  let c5 : Index := 5#32
  let c0_i32 : BitVec 32 := 0#32
  let c1_i32_1 : BitVec 32 := 1#32
  let arg10 : BitVec 32 := Scf.iv c0_i32 c1_i32_1 k0_t1
  let c16_i32_174 : BitVec 32 := 16#32
  let v320 : BitVec 32 := Scalar.muli arg10 c16_i32_174
  let v321 : BitVec 32 := v320
  let v322 : BitVec 32 := Scalar.addi v321 c0_i32_175
  let v323 : Index := Scalar.indexCast v322
  let c0_177 : Index := 0#32
  ![0, 5, v323.toNat, 0]
def k0_mult13 (k0_t1 : Fin k0_t1_loop.trips) : BitVec 32 :=
  let c0_i32 : BitVec 32 := 0#32
  let c1_i32_1 : BitVec 32 := 1#32
  let arg10 : BitVec 32 := Scf.iv c0_i32 c1_i32_1 k0_t1
  let c16_i32_190 : BitVec 32 := 16#32
  let v351 : BitVec 32 := Scalar.muli arg10 c16_i32_190
  v351
def k0_mult14 (k0_t1 : Fin k0_t1_loop.trips) : BitVec 32 :=
  let c0_i32 : BitVec 32 := 0#32
  let c1_i32_1 : BitVec 32 := 1#32
  let arg10 : BitVec 32 := Scf.iv c0_i32 c1_i32_1 k0_t1
  let c16_i32_209 : BitVec 32 := 16#32
  let v382 : BitVec 32 := Scalar.muli arg10 c16_i32_209
  v382
def k0_off7 (k0_t1 : Fin k0_t1_loop.trips) (c0_i32_210 : BitVec 32) : Fin 4 → Nat :=
  let c0_211 : Index := 0#32
  let c6 : Index := 6#32
  let c0_i32 : BitVec 32 := 0#32
  let c1_i32_1 : BitVec 32 := 1#32
  let arg10 : BitVec 32 := Scf.iv c0_i32 c1_i32_1 k0_t1
  let c16_i32_209 : BitVec 32 := 16#32
  let v382 : BitVec 32 := Scalar.muli arg10 c16_i32_209
  let v383 : BitVec 32 := v382
  let v384 : BitVec 32 := Scalar.addi v383 c0_i32_210
  let v385 : Index := Scalar.indexCast v384
  let c0_212 : Index := 0#32
  ![0, 6, v385.toNat, 0]
def k0_mult15 (k0_t1 : Fin k0_t1_loop.trips) : BitVec 32 :=
  let c0_i32 : BitVec 32 := 0#32
  let c1_i32_1 : BitVec 32 := 1#32
  let arg10 : BitVec 32 := Scf.iv c0_i32 c1_i32_1 k0_t1
  let c16_i32_224 : BitVec 32 := 16#32
  let v413 : BitVec 32 := Scalar.muli arg10 c16_i32_224
  v413
def k0_mult16 (k0_t1 : Fin k0_t1_loop.trips) : BitVec 32 :=
  let c0_i32 : BitVec 32 := 0#32
  let c1_i32_1 : BitVec 32 := 1#32
  let arg10 : BitVec 32 := Scf.iv c0_i32 c1_i32_1 k0_t1
  let c16_i32_243 : BitVec 32 := 16#32
  let v444 : BitVec 32 := Scalar.muli arg10 c16_i32_243
  v444
def k0_off8 (k0_t1 : Fin k0_t1_loop.trips) (c0_i32_244 : BitVec 32) : Fin 4 → Nat :=
  let c0_245 : Index := 0#32
  let c7 : Index := 7#32
  let c0_i32 : BitVec 32 := 0#32
  let c1_i32_1 : BitVec 32 := 1#32
  let arg10 : BitVec 32 := Scf.iv c0_i32 c1_i32_1 k0_t1
  let c16_i32_243 : BitVec 32 := 16#32
  let v444 : BitVec 32 := Scalar.muli arg10 c16_i32_243
  let v445 : BitVec 32 := v444
  let v446 : BitVec 32 := Scalar.addi v445 c0_i32_244
  let v447 : Index := Scalar.indexCast v446
  let c0_246 : Index := 0#32
  ![0, 7, v447.toNat, 0]
def k0_mult17 (k0_t1 : Fin k0_t1_loop.trips) : BitVec 32 :=
  let c0_i32 : BitVec 32 := 0#32
  let c1_i32_1 : BitVec 32 := 1#32
  let arg10 : BitVec 32 := Scf.iv c0_i32 c1_i32_1 k0_t1
  let c16_i32_258 : BitVec 32 := 16#32
  let v475 : BitVec 32 := Scalar.muli arg10 c16_i32_258
  v475
def k0_mult18 (k0_t1 : Fin k0_t1_loop.trips) : BitVec 32 :=
  let c0_i32 : BitVec 32 := 0#32
  let c1_i32_1 : BitVec 32 := 1#32
  let arg10 : BitVec 32 := Scf.iv c0_i32 c1_i32_1 k0_t1
  let c16_i32_277 : BitVec 32 := 16#32
  let v506 : BitVec 32 := Scalar.muli arg10 c16_i32_277
  v506
def k0_off9 (k0_t1 : Fin k0_t1_loop.trips) (c0_i32_278 : BitVec 32) : Fin 4 → Nat :=
  let c0_279 : Index := 0#32
  let c8_280 : Index := 8#32
  let c0_i32 : BitVec 32 := 0#32
  let c1_i32_1 : BitVec 32 := 1#32
  let arg10 : BitVec 32 := Scf.iv c0_i32 c1_i32_1 k0_t1
  let c16_i32_277 : BitVec 32 := 16#32
  let v506 : BitVec 32 := Scalar.muli arg10 c16_i32_277
  let v507 : BitVec 32 := v506
  let v508 : BitVec 32 := Scalar.addi v507 c0_i32_278
  let v509 : Index := Scalar.indexCast v508
  let c0_281 : Index := 0#32
  ![0, 8, v509.toNat, 0]
def k0_mult19 (k0_t1 : Fin k0_t1_loop.trips) : BitVec 32 :=
  let c0_i32 : BitVec 32 := 0#32
  let c1_i32_1 : BitVec 32 := 1#32
  let arg10 : BitVec 32 := Scf.iv c0_i32 c1_i32_1 k0_t1
  let c16_i32_293 : BitVec 32 := 16#32
  let v537 : BitVec 32 := Scalar.muli arg10 c16_i32_293
  v537
def k0_mult20 (k0_t1 : Fin k0_t1_loop.trips) : BitVec 32 :=
  let c0_i32 : BitVec 32 := 0#32
  let c1_i32_1 : BitVec 32 := 1#32
  let arg10 : BitVec 32 := Scf.iv c0_i32 c1_i32_1 k0_t1
  let c16_i32_312 : BitVec 32 := 16#32
  let v568 : BitVec 32 := Scalar.muli arg10 c16_i32_312
  v568
def k0_off10 (k0_t1 : Fin k0_t1_loop.trips) (c0_i32_313 : BitVec 32) : Fin 4 → Nat :=
  let c0_314 : Index := 0#32
  let c9 : Index := 9#32
  let c0_i32 : BitVec 32 := 0#32
  let c1_i32_1 : BitVec 32 := 1#32
  let arg10 : BitVec 32 := Scf.iv c0_i32 c1_i32_1 k0_t1
  let c16_i32_312 : BitVec 32 := 16#32
  let v568 : BitVec 32 := Scalar.muli arg10 c16_i32_312
  let v569 : BitVec 32 := v568
  let v570 : BitVec 32 := Scalar.addi v569 c0_i32_313
  let v571 : Index := Scalar.indexCast v570
  let c0_315 : Index := 0#32
  ![0, 9, v571.toNat, 0]
def k0_mult21 (k0_t1 : Fin k0_t1_loop.trips) : BitVec 32 :=
  let c0_i32 : BitVec 32 := 0#32
  let c1_i32_1 : BitVec 32 := 1#32
  let arg10 : BitVec 32 := Scf.iv c0_i32 c1_i32_1 k0_t1
  let c16_i32_327 : BitVec 32 := 16#32
  let v599 : BitVec 32 := Scalar.muli arg10 c16_i32_327
  v599
def k0_mult22 (k0_t1 : Fin k0_t1_loop.trips) : BitVec 32 :=
  let c0_i32 : BitVec 32 := 0#32
  let c1_i32_1 : BitVec 32 := 1#32
  let arg10 : BitVec 32 := Scf.iv c0_i32 c1_i32_1 k0_t1
  let c16_i32_346 : BitVec 32 := 16#32
  let v630 : BitVec 32 := Scalar.muli arg10 c16_i32_346
  v630
def k0_off11 (k0_t1 : Fin k0_t1_loop.trips) (c0_i32_347 : BitVec 32) : Fin 4 → Nat :=
  let c0_348 : Index := 0#32
  let c10 : Index := 10#32
  let c0_i32 : BitVec 32 := 0#32
  let c1_i32_1 : BitVec 32 := 1#32
  let arg10 : BitVec 32 := Scf.iv c0_i32 c1_i32_1 k0_t1
  let c16_i32_346 : BitVec 32 := 16#32
  let v630 : BitVec 32 := Scalar.muli arg10 c16_i32_346
  let v631 : BitVec 32 := v630
  let v632 : BitVec 32 := Scalar.addi v631 c0_i32_347
  let v633 : Index := Scalar.indexCast v632
  let c0_349 : Index := 0#32
  ![0, 10, v633.toNat, 0]
def k0_mult23 (k0_t1 : Fin k0_t1_loop.trips) : BitVec 32 :=
  let c0_i32 : BitVec 32 := 0#32
  let c1_i32_1 : BitVec 32 := 1#32
  let arg10 : BitVec 32 := Scf.iv c0_i32 c1_i32_1 k0_t1
  let c16_i32_361 : BitVec 32 := 16#32
  let v661 : BitVec 32 := Scalar.muli arg10 c16_i32_361
  v661
def k0_mult24 (k0_t1 : Fin k0_t1_loop.trips) : BitVec 32 :=
  let c0_i32 : BitVec 32 := 0#32
  let c1_i32_1 : BitVec 32 := 1#32
  let arg10 : BitVec 32 := Scf.iv c0_i32 c1_i32_1 k0_t1
  let c16_i32_380 : BitVec 32 := 16#32
  let v692 : BitVec 32 := Scalar.muli arg10 c16_i32_380
  v692
def k0_off12 (k0_t1 : Fin k0_t1_loop.trips) (c0_i32_381 : BitVec 32) : Fin 4 → Nat :=
  let c0_382 : Index := 0#32
  let c11 : Index := 11#32
  let c0_i32 : BitVec 32 := 0#32
  let c1_i32_1 : BitVec 32 := 1#32
  let arg10 : BitVec 32 := Scf.iv c0_i32 c1_i32_1 k0_t1
  let c16_i32_380 : BitVec 32 := 16#32
  let v692 : BitVec 32 := Scalar.muli arg10 c16_i32_380
  let v693 : BitVec 32 := v692
  let v694 : BitVec 32 := Scalar.addi v693 c0_i32_381
  let v695 : Index := Scalar.indexCast v694
  let c0_383 : Index := 0#32
  ![0, 11, v695.toNat, 0]
def k0_mult25 (k0_t1 : Fin k0_t1_loop.trips) : BitVec 32 :=
  let c0_i32 : BitVec 32 := 0#32
  let c1_i32_1 : BitVec 32 := 1#32
  let arg10 : BitVec 32 := Scf.iv c0_i32 c1_i32_1 k0_t1
  let c16_i32_395 : BitVec 32 := 16#32
  let v723 : BitVec 32 := Scalar.muli arg10 c16_i32_395
  v723
def k0_mult26 (k0_t1 : Fin k0_t1_loop.trips) : BitVec 32 :=
  let c0_i32 : BitVec 32 := 0#32
  let c1_i32_1 : BitVec 32 := 1#32
  let arg10 : BitVec 32 := Scf.iv c0_i32 c1_i32_1 k0_t1
  let c16_i32_414 : BitVec 32 := 16#32
  let v754 : BitVec 32 := Scalar.muli arg10 c16_i32_414
  v754
def k0_off13 (k0_t1 : Fin k0_t1_loop.trips) (c0_i32_415 : BitVec 32) : Fin 4 → Nat :=
  let c0_416 : Index := 0#32
  let c12 : Index := 12#32
  let c0_i32 : BitVec 32 := 0#32
  let c1_i32_1 : BitVec 32 := 1#32
  let arg10 : BitVec 32 := Scf.iv c0_i32 c1_i32_1 k0_t1
  let c16_i32_414 : BitVec 32 := 16#32
  let v754 : BitVec 32 := Scalar.muli arg10 c16_i32_414
  let v755 : BitVec 32 := v754
  let v756 : BitVec 32 := Scalar.addi v755 c0_i32_415
  let v757 : Index := Scalar.indexCast v756
  let c0_417 : Index := 0#32
  ![0, 12, v757.toNat, 0]
def k0_mult27 (k0_t1 : Fin k0_t1_loop.trips) : BitVec 32 :=
  let c0_i32 : BitVec 32 := 0#32
  let c1_i32_1 : BitVec 32 := 1#32
  let arg10 : BitVec 32 := Scf.iv c0_i32 c1_i32_1 k0_t1
  let c16_i32_429 : BitVec 32 := 16#32
  let v785 : BitVec 32 := Scalar.muli arg10 c16_i32_429
  v785
def k0_mult28 (k0_t1 : Fin k0_t1_loop.trips) : BitVec 32 :=
  let c0_i32 : BitVec 32 := 0#32
  let c1_i32_1 : BitVec 32 := 1#32
  let arg10 : BitVec 32 := Scf.iv c0_i32 c1_i32_1 k0_t1
  let c16_i32_448 : BitVec 32 := 16#32
  let v816 : BitVec 32 := Scalar.muli arg10 c16_i32_448
  v816
def k0_off14 (k0_t1 : Fin k0_t1_loop.trips) (c0_i32_449 : BitVec 32) : Fin 4 → Nat :=
  let c0_450 : Index := 0#32
  let c13 : Index := 13#32
  let c0_i32 : BitVec 32 := 0#32
  let c1_i32_1 : BitVec 32 := 1#32
  let arg10 : BitVec 32 := Scf.iv c0_i32 c1_i32_1 k0_t1
  let c16_i32_448 : BitVec 32 := 16#32
  let v816 : BitVec 32 := Scalar.muli arg10 c16_i32_448
  let v817 : BitVec 32 := v816
  let v818 : BitVec 32 := Scalar.addi v817 c0_i32_449
  let v819 : Index := Scalar.indexCast v818
  let c0_451 : Index := 0#32
  ![0, 13, v819.toNat, 0]
def k0_mult29 (k0_t1 : Fin k0_t1_loop.trips) : BitVec 32 :=
  let c0_i32 : BitVec 32 := 0#32
  let c1_i32_1 : BitVec 32 := 1#32
  let arg10 : BitVec 32 := Scf.iv c0_i32 c1_i32_1 k0_t1
  let c16_i32_463 : BitVec 32 := 16#32
  let v847 : BitVec 32 := Scalar.muli arg10 c16_i32_463
  v847
def k0_mult30 (k0_t1 : Fin k0_t1_loop.trips) : BitVec 32 :=
  let c0_i32 : BitVec 32 := 0#32
  let c1_i32_1 : BitVec 32 := 1#32
  let arg10 : BitVec 32 := Scf.iv c0_i32 c1_i32_1 k0_t1
  let c16_i32_482 : BitVec 32 := 16#32
  let v878 : BitVec 32 := Scalar.muli arg10 c16_i32_482
  v878
def k0_off15 (k0_t1 : Fin k0_t1_loop.trips) (c0_i32_483 : BitVec 32) : Fin 4 → Nat :=
  let c0_484 : Index := 0#32
  let c14 : Index := 14#32
  let c0_i32 : BitVec 32 := 0#32
  let c1_i32_1 : BitVec 32 := 1#32
  let arg10 : BitVec 32 := Scf.iv c0_i32 c1_i32_1 k0_t1
  let c16_i32_482 : BitVec 32 := 16#32
  let v878 : BitVec 32 := Scalar.muli arg10 c16_i32_482
  let v879 : BitVec 32 := v878
  let v880 : BitVec 32 := Scalar.addi v879 c0_i32_483
  let v881 : Index := Scalar.indexCast v880
  let c0_485 : Index := 0#32
  ![0, 14, v881.toNat, 0]
def k0_mult31 (k0_t1 : Fin k0_t1_loop.trips) : BitVec 32 :=
  let c0_i32 : BitVec 32 := 0#32
  let c1_i32_1 : BitVec 32 := 1#32
  let arg10 : BitVec 32 := Scf.iv c0_i32 c1_i32_1 k0_t1
  let c16_i32_497 : BitVec 32 := 16#32
  let v909 : BitVec 32 := Scalar.muli arg10 c16_i32_497
  v909
def k0_mult32 (k0_t1 : Fin k0_t1_loop.trips) : BitVec 32 :=
  let c0_i32 : BitVec 32 := 0#32
  let c1_i32_1 : BitVec 32 := 1#32
  let arg10 : BitVec 32 := Scf.iv c0_i32 c1_i32_1 k0_t1
  let c16_i32_516 : BitVec 32 := 16#32
  let v940 : BitVec 32 := Scalar.muli arg10 c16_i32_516
  v940
def k0_off16 (k0_t1 : Fin k0_t1_loop.trips) (c0_i32_517 : BitVec 32) : Fin 4 → Nat :=
  let c0_518 : Index := 0#32
  let c15 : Index := 15#32
  let c0_i32 : BitVec 32 := 0#32
  let c1_i32_1 : BitVec 32 := 1#32
  let arg10 : BitVec 32 := Scf.iv c0_i32 c1_i32_1 k0_t1
  let c16_i32_516 : BitVec 32 := 16#32
  let v940 : BitVec 32 := Scalar.muli arg10 c16_i32_516
  let v941 : BitVec 32 := v940
  let v942 : BitVec 32 := Scalar.addi v941 c0_i32_517
  let v943 : Index := Scalar.indexCast v942
  let c0_519 : Index := 0#32
  ![0, 15, v943.toNat, 0]
def k0_mult33 (k0_t1 : Fin k0_t1_loop.trips) : BitVec 32 :=
  let c0_i32 : BitVec 32 := 0#32
  let c1_i32_1 : BitVec 32 := 1#32
  let arg10 : BitVec 32 := Scf.iv c0_i32 c1_i32_1 k0_t1
  let c16_i32_531 : BitVec 32 := 16#32
  let v971 : BitVec 32 := Scalar.muli arg10 c16_i32_531
  v971
def k0_off17 (k0_t1 : Fin k0_t1_loop.trips) : Fin 2 → Nat :=
  let c0_555 : Index := 0#32
  let c0_i32 : BitVec 32 := 0#32
  let c1_i32_1 : BitVec 32 := 1#32
  let arg10 : BitVec 32 := Scf.iv c0_i32 c1_i32_1 k0_t1
  let c256_i32 : BitVec 32 := 256#32
  let v8 : BitVec 32 := Scalar.muli arg10 c256_i32
  let v9 : BitVec 32 := v8
  let v1009 : Index := Scalar.indexCast v9
  ![0, v1009.toNat]
@[reducible] def k0_t2_loop : Scf.Loop 32 :=
  let c0_i32_4 : BitVec 32 := 0#32
  let c16_i32 : BitVec 32 := 16#32
  let v3 : BitVec 32 := Scalar.addi c0_i32_4 c16_i32
  let c1_i32_5 : BitVec 32 := 1#32
  ⟨c0_i32_4, v3, c1_i32_5⟩
def k0_off18 (i : grid0.Coords) (k0_t2 : Fin k0_t2_loop.trips) : Fin 1 → Nat :=
  let arg0 : BitVec 32 := BitVec.ofNat 32 (i 0).val
  let c1_i32_0 : BitVec 32 := 1#32
  let v1 : BitVec 32 := Scalar.andi arg0 c1_i32_0
  let c16_i32_9 : BitVec 32 := 16#32
  let v8 : BitVec 32 := Scalar.muli v1 c16_i32_9
  let c0_i32_4 : BitVec 32 := 0#32
  let c1_i32_5 : BitVec 32 := 1#32
  let arg10 : BitVec 32 := Scf.iv c0_i32_4 c1_i32_5 k0_t2
  let v9 : BitVec 32 := Scalar.addi v8 arg10
  let c64_i32 : BitVec 32 := 64#32
  let v10 : BitVec 32 := Scalar.muli v9 c64_i32
  let c1_i32 : BitVec 32 := 1#32
  let v0 : BitVec 32 := Scalar.shrsi arg0 c1_i32
  let v11 : BitVec 32 := Scalar.addi v10 v0
  let v12 : Index := Scalar.indexCast v11
  ![v12.toNat]
@[reducible] def k0_t3_loop : Scf.Loop 32 :=
  let c0_i32_9 : BitVec 32 := 0#32
  let c21_i32_10 : BitVec 32 := 21#32
  let v8 : BitVec 32 := Scalar.addi c0_i32_9 c21_i32_10
  let c1_i32_11 : BitVec 32 := 1#32
  ⟨c0_i32_9, v8, c1_i32_11⟩
@[reducible] def k0_t4_loop : Scf.Loop 32 :=
  let c0_i32_14 : BitVec 32 := 0#32
  let c16_i32_15 : BitVec 32 := 16#32
  let v9 : BitVec 32 := Scalar.addi c0_i32_14 c16_i32_15
  let c1_i32_16 : BitVec 32 := 1#32
  ⟨c0_i32_14, v9, c1_i32_16⟩
def k0_off19 (i : grid0.Coords) (k0_t4 : Fin k0_t4_loop.trips) : Fin 1 → Nat :=
  let arg0 : BitVec 32 := BitVec.ofNat 32 (i 0).val
  let c1_i32_0 : BitVec 32 := 1#32
  let v1 : BitVec 32 := Scalar.andi arg0 c1_i32_0
  let c16_i32_20 : BitVec 32 := 16#32
  let v14 : BitVec 32 := Scalar.muli v1 c16_i32_20
  let c0_i32_14 : BitVec 32 := 0#32
  let c1_i32_16 : BitVec 32 := 1#32
  let arg11 : BitVec 32 := Scf.iv c0_i32_14 c1_i32_16 k0_t4
  let v15 : BitVec 32 := Scalar.addi v14 arg11
  let c64_i32 : BitVec 32 := 64#32
  let v16 : BitVec 32 := Scalar.muli v15 c64_i32
  let c32_i32 : BitVec 32 := 32#32
  let v17 : BitVec 32 := Scalar.addi v16 c32_i32
  let c1_i32 : BitVec 32 := 1#32
  let v0 : BitVec 32 := Scalar.shrsi arg0 c1_i32
  let v18 : BitVec 32 := Scalar.addi v17 v0
  let v19 : Index := Scalar.indexCast v18
  ![v19.toNat]
def k0_off20 (i : grid0.Coords) (k0_t4 : Fin k0_t4_loop.trips) : Fin 1 → Nat :=
  let arg0 : BitVec 32 := BitVec.ofNat 32 (i 0).val
  let c1_i32_0 : BitVec 32 := 1#32
  let v1 : BitVec 32 := Scalar.andi arg0 c1_i32_0
  let c16_i32_21 : BitVec 32 := 16#32
  let v21 : BitVec 32 := Scalar.muli v1 c16_i32_21
  let c0_i32_14 : BitVec 32 := 0#32
  let c1_i32_16 : BitVec 32 := 1#32
  let arg11 : BitVec 32 := Scf.iv c0_i32_14 c1_i32_16 k0_t4
  let v22 : BitVec 32 := Scalar.addi v21 arg11
  let c64_i32_22 : BitVec 32 := 64#32
  let v23 : BitVec 32 := Scalar.muli v22 c64_i32_22
  let c1_i32 : BitVec 32 := 1#32
  let v0 : BitVec 32 := Scalar.shrsi arg0 c1_i32
  let v24 : BitVec 32 := Scalar.addi v23 v0
  let v25 : Index := Scalar.indexCast v24
  ![v25.toNat]
@[reducible] def k0_t5_loop (v26 : BitVec 32) : Scf.Loop 32 :=
  let c0_i32_23 : BitVec 32 := 0#32
  let c1023_i32 : BitVec 32 := 1023#32
  let v27 : BitVec 32 := Scalar.addi v26 c1023_i32
  let c1024_i32 : BitVec 32 := 1024#32
  let v28 : BitVec 32 := Scalar.divsi v27 c1024_i32
  let v29 : BitVec 32 := Scalar.subi v28 c0_i32_23
  let c1_i32_24 : BitVec 32 := 1#32
  let v31 : BitVec 32 := Scalar.divsi v29 c1_i32_24
  let v32 : BitVec 32 := Scalar.muli v31 c1_i32_24
  let v33 : BitVec 32 := Scalar.addi c0_i32_23 v32
  let c1_i32_25 : BitVec 32 := 1#32
  ⟨c0_i32_23, v33, c1_i32_25⟩
def k0_cond1 (v4 : BitVec 32) : BitVec 1 :=
  let c0_i32_7 : BitVec 32 := 0#32
  let v5 : BitVec 1 := Scalar.cmpi .sgt v4 c0_i32_7
  let v6 : BitVec 32 := Scalar.extui v5
  let c0_i32_8 : BitVec 32 := 0#32
  let v7 : BitVec 1 := Scalar.cmpi .ne v6 c0_i32_8
  v7

def k0_mult34 (v20 : BitVec 32) (v26 : BitVec 32) (k0_t5 : Fin (k0_t5_loop v26).trips) : BitVec 32 :=
  let c7_i32 : BitVec 32 := 7#32
  let v36 : BitVec 32 := Scalar.shrsi v20 c7_i32
  let c0_i32_23 : BitVec 32 := 0#32
  let c1_i32_25 : BitVec 32 := 1#32
  let arg13 : BitVec 32 := Scf.iv c0_i32_23 c1_i32_25 k0_t5
  let c8_i32 : BitVec 32 := 8#32
  let v37 : BitVec 32 := Scalar.muli arg13 c8_i32
  let v38 : BitVec 32 := Scalar.addi v36 v37
  v38
def k0_off21 (v20 : BitVec 32) (v26 : BitVec 32) (k0_t5 : Fin (k0_t5_loop v26).trips) : Fin 2 → Nat :=
  let c7_i32 : BitVec 32 := 7#32
  let v36 : BitVec 32 := Scalar.shrsi v20 c7_i32
  let c0_i32_23 : BitVec 32 := 0#32
  let c1_i32_25 : BitVec 32 := 1#32
  let arg13 : BitVec 32 := Scf.iv c0_i32_23 c1_i32_25 k0_t5
  let c8_i32 : BitVec 32 := 8#32
  let v37 : BitVec 32 := Scalar.muli arg13 c8_i32
  let v38 : BitVec 32 := Scalar.addi v36 v37
  let v39 : BitVec 32 := v38
  let c0_i32_27 : BitVec 32 := 0#32
  ![v39.toNat, 0]
@[reducible] def k0_t6_loop (v26 : BitVec 32) (k0_t5 : Fin (k0_t5_loop v26).trips) : Scf.Loop 32 :=
  let c0_i32_31 : BitVec 32 := 0#32
  let c0_i32_23 : BitVec 32 := 0#32
  let c1_i32_25 : BitVec 32 := 1#32
  let arg13 : BitVec 32 := Scf.iv c0_i32_23 c1_i32_25 k0_t5
  let c1024_i32_29 : BitVec 32 := 1024#32
  let v42 : BitVec 32 := Scalar.muli arg13 c1024_i32_29
  let v43 : BitVec 32 := Scalar.subi v26 v42
  let c1024_i32_30 : BitVec 32 := 1024#32
  let v44 : BitVec 32 := Scalar.minsi v43 c1024_i32_30
  let v45 : BitVec 32 := Scalar.subi v44 c0_i32_31
  let c1_i32_32 : BitVec 32 := 1#32
  let v47 : BitVec 32 := Scalar.divsi v45 c1_i32_32
  let v48 : BitVec 32 := Scalar.muli v47 c1_i32_32
  let v49 : BitVec 32 := Scalar.addi c0_i32_31 v48
  let c1_i32_33 : BitVec 32 := 1#32
  ⟨c0_i32_31, v49, c1_i32_33⟩
def k0_off22 (v26 : BitVec 32) (k0_t5 : Fin (k0_t5_loop v26).trips) (k0_t6 : Fin (k0_t6_loop v26 k0_t5).trips) : Fin 2 → Nat :=
  let c0_i32_31 : BitVec 32 := 0#32
  let c1_i32_33 : BitVec 32 := 1#32
  let arg15 : BitVec 32 := Scf.iv c0_i32_31 c1_i32_33 k0_t6
  let c7_i32_35 : BitVec 32 := 7#32
  let v52 : BitVec 32 := Scalar.shrsi arg15 c7_i32_35
  let v54 : Index := Scalar.indexCast v52
  let c127_i32 : BitVec 32 := 127#32
  let v53 : BitVec 32 := Scalar.andi arg15 c127_i32
  let v55 : Index := Scalar.indexCast v53
  ![v54.toNat, v55.toNat]
@[reducible] def k0_t7_loop (v26 : BitVec 32) (k0_t5 : Fin (k0_t5_loop v26).trips) : Scf.Loop 32 :=
  let c0_i32_31 : BitVec 32 := 0#32
  let c0_i32_23 : BitVec 32 := 0#32
  let c1_i32_25 : BitVec 32 := 1#32
  let arg13 : BitVec 32 := Scf.iv c0_i32_23 c1_i32_25 k0_t5
  let c1024_i32_29 : BitVec 32 := 1024#32
  let v42 : BitVec 32 := Scalar.muli arg13 c1024_i32_29
  let v43 : BitVec 32 := Scalar.subi v26 v42
  let c1024_i32_30 : BitVec 32 := 1024#32
  let v44 : BitVec 32 := Scalar.minsi v43 c1024_i32_30
  let v45 : BitVec 32 := Scalar.subi v44 c0_i32_31
  let c1_i32_32 : BitVec 32 := 1#32
  let v47 : BitVec 32 := Scalar.divsi v45 c1_i32_32
  let v48 : BitVec 32 := Scalar.muli v47 c1_i32_32
  let v49 : BitVec 32 := Scalar.addi c0_i32_31 v48
  let v46 : BitVec 32 := Scalar.addi c0_i32_31 v45
  let c1_i32_34 : BitVec 32 := 1#32
  ⟨v49, v46, c1_i32_34⟩
def k0_off23 (v26 : BitVec 32) (k0_t5 : Fin (k0_t5_loop v26).trips) (k0_t7 : Fin (k0_t7_loop v26 k0_t5).trips) : Fin 2 → Nat :=
  let c0_i32_31 : BitVec 32 := 0#32
  let c0_i32_23 : BitVec 32 := 0#32
  let c1_i32_25 : BitVec 32 := 1#32
  let arg13 : BitVec 32 := Scf.iv c0_i32_23 c1_i32_25 k0_t5
  let c1024_i32_29 : BitVec 32 := 1024#32
  let v42 : BitVec 32 := Scalar.muli arg13 c1024_i32_29
  let v43 : BitVec 32 := Scalar.subi v26 v42
  let c1024_i32_30 : BitVec 32 := 1024#32
  let v44 : BitVec 32 := Scalar.minsi v43 c1024_i32_30
  let v45 : BitVec 32 := Scalar.subi v44 c0_i32_31
  let c1_i32_32 : BitVec 32 := 1#32
  let v47 : BitVec 32 := Scalar.divsi v45 c1_i32_32
  let v48 : BitVec 32 := Scalar.muli v47 c1_i32_32
  let v49 : BitVec 32 := Scalar.addi c0_i32_31 v48
  let c1_i32_34 : BitVec 32 := 1#32
  let arg15 : BitVec 32 := Scf.iv v49 c1_i32_34 k0_t7
  let c7_i32_35 : BitVec 32 := 7#32
  let v52 : BitVec 32 := Scalar.shrsi arg15 c7_i32_35
  let v54 : Index := Scalar.indexCast v52
  let c127_i32 : BitVec 32 := 127#32
  let v53 : BitVec 32 := Scalar.andi arg15 c127_i32
  let v55 : Index := Scalar.indexCast v53
  ![v54.toNat, v55.toNat]
@[reducible] def k0_t8_loop (v26 : BitVec 32) : Scf.Loop 32 :=
  let c0_i32_23 : BitVec 32 := 0#32
  let c1023_i32 : BitVec 32 := 1023#32
  let v27 : BitVec 32 := Scalar.addi v26 c1023_i32
  let c1024_i32 : BitVec 32 := 1024#32
  let v28 : BitVec 32 := Scalar.divsi v27 c1024_i32
  let v29 : BitVec 32 := Scalar.subi v28 c0_i32_23
  let c1_i32_24 : BitVec 32 := 1#32
  let v31 : BitVec 32 := Scalar.divsi v29 c1_i32_24
  let v32 : BitVec 32 := Scalar.muli v31 c1_i32_24
  let v33 : BitVec 32 := Scalar.addi c0_i32_23 v32
  let v30 : BitVec 32 := Scalar.addi c0_i32_23 v29
  let c1_i32_26 : BitVec 32 := 1#32
  ⟨v33, v30, c1_i32_26⟩
def k0_mult35 (v20 : BitVec 32) (v26 : BitVec 32) (k0_t8 : Fin (k0_t8_loop v26).trips) : BitVec 32 :=
  let c7_i32 : BitVec 32 := 7#32
  let v36 : BitVec 32 := Scalar.shrsi v20 c7_i32
  let c0_i32_23 : BitVec 32 := 0#32
  let c1023_i32 : BitVec 32 := 1023#32
  let v27 : BitVec 32 := Scalar.addi v26 c1023_i32
  let c1024_i32 : BitVec 32 := 1024#32
  let v28 : BitVec 32 := Scalar.divsi v27 c1024_i32
  let v29 : BitVec 32 := Scalar.subi v28 c0_i32_23
  let c1_i32_24 : BitVec 32 := 1#32
  let v31 : BitVec 32 := Scalar.divsi v29 c1_i32_24
  let v32 : BitVec 32 := Scalar.muli v31 c1_i32_24
  let v33 : BitVec 32 := Scalar.addi c0_i32_23 v32
  let c1_i32_26 : BitVec 32 := 1#32
  let arg13 : BitVec 32 := Scf.iv v33 c1_i32_26 k0_t8
  let c8_i32 : BitVec 32 := 8#32
  let v37 : BitVec 32 := Scalar.muli arg13 c8_i32
  let v38 : BitVec 32 := Scalar.addi v36 v37
  v38
def k0_off24 (v20 : BitVec 32) (v26 : BitVec 32) (k0_t8 : Fin (k0_t8_loop v26).trips) : Fin 2 → Nat :=
  let c7_i32 : BitVec 32 := 7#32
  let v36 : BitVec 32 := Scalar.shrsi v20 c7_i32
  let c0_i32_23 : BitVec 32 := 0#32
  let c1023_i32 : BitVec 32 := 1023#32
  let v27 : BitVec 32 := Scalar.addi v26 c1023_i32
  let c1024_i32 : BitVec 32 := 1024#32
  let v28 : BitVec 32 := Scalar.divsi v27 c1024_i32
  let v29 : BitVec 32 := Scalar.subi v28 c0_i32_23
  let c1_i32_24 : BitVec 32 := 1#32
  let v31 : BitVec 32 := Scalar.divsi v29 c1_i32_24
  let v32 : BitVec 32 := Scalar.muli v31 c1_i32_24
  let v33 : BitVec 32 := Scalar.addi c0_i32_23 v32
  let c1_i32_26 : BitVec 32 := 1#32
  let arg13 : BitVec 32 := Scf.iv v33 c1_i32_26 k0_t8
  let c8_i32 : BitVec 32 := 8#32
  let v37 : BitVec 32 := Scalar.muli arg13 c8_i32
  let v38 : BitVec 32 := Scalar.addi v36 v37
  let v39 : BitVec 32 := v38
  let c0_i32_27 : BitVec 32 := 0#32
  ![v39.toNat, 0]
@[reducible] def k0_t9_loop (v26 : BitVec 32) (k0_t8 : Fin (k0_t8_loop v26).trips) : Scf.Loop 32 :=
  let c0_i32_31 : BitVec 32 := 0#32
  let c0_i32_23 : BitVec 32 := 0#32
  let c1023_i32 : BitVec 32 := 1023#32
  let v27 : BitVec 32 := Scalar.addi v26 c1023_i32
  let c1024_i32 : BitVec 32 := 1024#32
  let v28 : BitVec 32 := Scalar.divsi v27 c1024_i32
  let v29 : BitVec 32 := Scalar.subi v28 c0_i32_23
  let c1_i32_24 : BitVec 32 := 1#32
  let v31 : BitVec 32 := Scalar.divsi v29 c1_i32_24
  let v32 : BitVec 32 := Scalar.muli v31 c1_i32_24
  let v33 : BitVec 32 := Scalar.addi c0_i32_23 v32
  let c1_i32_26 : BitVec 32 := 1#32
  let arg13 : BitVec 32 := Scf.iv v33 c1_i32_26 k0_t8
  let c1024_i32_29 : BitVec 32 := 1024#32
  let v42 : BitVec 32 := Scalar.muli arg13 c1024_i32_29
  let v43 : BitVec 32 := Scalar.subi v26 v42
  let c1024_i32_30 : BitVec 32 := 1024#32
  let v44 : BitVec 32 := Scalar.minsi v43 c1024_i32_30
  let v45 : BitVec 32 := Scalar.subi v44 c0_i32_31
  let c1_i32_32 : BitVec 32 := 1#32
  let v47 : BitVec 32 := Scalar.divsi v45 c1_i32_32
  let v48 : BitVec 32 := Scalar.muli v47 c1_i32_32
  let v49 : BitVec 32 := Scalar.addi c0_i32_31 v48
  let c1_i32_33 : BitVec 32 := 1#32
  ⟨c0_i32_31, v49, c1_i32_33⟩
def k0_off25 (v26 : BitVec 32) (k0_t8 : Fin (k0_t8_loop v26).trips) (k0_t9 : Fin (k0_t9_loop v26 k0_t8).trips) : Fin 2 → Nat :=
  let c0_i32_31 : BitVec 32 := 0#32
  let c1_i32_33 : BitVec 32 := 1#32
  let arg15 : BitVec 32 := Scf.iv c0_i32_31 c1_i32_33 k0_t9
  let c7_i32_35 : BitVec 32 := 7#32
  let v52 : BitVec 32 := Scalar.shrsi arg15 c7_i32_35
  let v54 : Index := Scalar.indexCast v52
  let c127_i32 : BitVec 32 := 127#32
  let v53 : BitVec 32 := Scalar.andi arg15 c127_i32
  let v55 : Index := Scalar.indexCast v53
  ![v54.toNat, v55.toNat]
@[reducible] def k0_t10_loop (v26 : BitVec 32) (k0_t8 : Fin (k0_t8_loop v26).trips) : Scf.Loop 32 :=
  let c0_i32_31 : BitVec 32 := 0#32
  let c0_i32_23 : BitVec 32 := 0#32
  let c1023_i32 : BitVec 32 := 1023#32
  let v27 : BitVec 32 := Scalar.addi v26 c1023_i32
  let c1024_i32 : BitVec 32 := 1024#32
  let v28 : BitVec 32 := Scalar.divsi v27 c1024_i32
  let v29 : BitVec 32 := Scalar.subi v28 c0_i32_23
  let c1_i32_24 : BitVec 32 := 1#32
  let v31 : BitVec 32 := Scalar.divsi v29 c1_i32_24
  let v32 : BitVec 32 := Scalar.muli v31 c1_i32_24
  let v33 : BitVec 32 := Scalar.addi c0_i32_23 v32
  let c1_i32_26 : BitVec 32 := 1#32
  let arg13 : BitVec 32 := Scf.iv v33 c1_i32_26 k0_t8
  let c1024_i32_29 : BitVec 32 := 1024#32
  let v42 : BitVec 32 := Scalar.muli arg13 c1024_i32_29
  let v43 : BitVec 32 := Scalar.subi v26 v42
  let c1024_i32_30 : BitVec 32 := 1024#32
  let v44 : BitVec 32 := Scalar.minsi v43 c1024_i32_30
  let v45 : BitVec 32 := Scalar.subi v44 c0_i32_31
  let c1_i32_32 : BitVec 32 := 1#32
  let v47 : BitVec 32 := Scalar.divsi v45 c1_i32_32
  let v48 : BitVec 32 := Scalar.muli v47 c1_i32_32
  let v49 : BitVec 32 := Scalar.addi c0_i32_31 v48
  let v46 : BitVec 32 := Scalar.addi c0_i32_31 v45
  let c1_i32_34 : BitVec 32 := 1#32
  ⟨v49, v46, c1_i32_34⟩
def k0_off26 (v26 : BitVec 32) (k0_t8 : Fin (k0_t8_loop v26).trips) (k0_t10 : Fin (k0_t10_loop v26 k0_t8).trips) : Fin 2 → Nat :=
  let c0_i32_31 : BitVec 32 := 0#32
  let c0_i32_23 : BitVec 32 := 0#32
  let c1023_i32 : BitVec 32 := 1023#32
  let v27 : BitVec 32 := Scalar.addi v26 c1023_i32
  let c1024_i32 : BitVec 32 := 1024#32
  let v28 : BitVec 32 := Scalar.divsi v27 c1024_i32
  let v29 : BitVec 32 := Scalar.subi v28 c0_i32_23
  let c1_i32_24 : BitVec 32 := 1#32
  let v31 : BitVec 32 := Scalar.divsi v29 c1_i32_24
  let v32 : BitVec 32 := Scalar.muli v31 c1_i32_24
  let v33 : BitVec 32 := Scalar.addi c0_i32_23 v32
  let c1_i32_26 : BitVec 32 := 1#32
  let arg13 : BitVec 32 := Scf.iv v33 c1_i32_26 k0_t8
  let c1024_i32_29 : BitVec 32 := 1024#32
  let v42 : BitVec 32 := Scalar.muli arg13 c1024_i32_29
  let v43 : BitVec 32 := Scalar.subi v26 v42
  let c1024_i32_30 : BitVec 32 := 1024#32
  let v44 : BitVec 32 := Scalar.minsi v43 c1024_i32_30
  let v45 : BitVec 32 := Scalar.subi v44 c0_i32_31
  let c1_i32_32 : BitVec 32 := 1#32
  let v47 : BitVec 32 := Scalar.divsi v45 c1_i32_32
  let v48 : BitVec 32 := Scalar.muli v47 c1_i32_32
  let v49 : BitVec 32 := Scalar.addi c0_i32_31 v48
  let c1_i32_34 : BitVec 32 := 1#32
  let arg15 : BitVec 32 := Scf.iv v49 c1_i32_34 k0_t10
  let c7_i32_35 : BitVec 32 := 7#32
  let v52 : BitVec 32 := Scalar.shrsi arg15 c7_i32_35
  let v54 : Index := Scalar.indexCast v52
  let c127_i32 : BitVec 32 := 127#32
  let v53 : BitVec 32 := Scalar.andi arg15 c127_i32
  let v55 : Index := Scalar.indexCast v53
  ![v54.toNat, v55.toNat]

def k0_chk1 (v4 : BitVec 32) (v20 : BitVec 32) (v26 : BitVec 32) : Prop :=
  (∀ (k0_h1 : k0_cond1 v4 = 1#1), (k0_t5_loop v26).OK) ∧
  (∀ k0_t5 : Fin (k0_t5_loop v26).trips, ∀ (k0_h1 : k0_cond1 v4 = 1#1), 8 ∣ (k0_mult34 v20 v26 k0_t5).toNat) ∧
  (∀ k0_t5 : Fin (k0_t5_loop v26).trips, ∀ (k0_h1 : k0_cond1 v4 = 1#1), ∀ a, (k0_off21 v20 v26 k0_t5) a + S8x128.size a ≤ S17168x128.size a) ∧
  (∀ k0_t5 : Fin (k0_t5_loop v26).trips, ∀ (k0_h1 : k0_cond1 v4 = 1#1), (k0_t6_loop v26 k0_t5).OK) ∧
  (∀ (k0_t5 : Fin (k0_t5_loop v26).trips) (k0_t6 : Fin (k0_t6_loop v26 k0_t5).trips), ∀ (k0_h1 : k0_cond1 v4 = 1#1), ∀ a, (k0_off22 v26 k0_t5 k0_t6) a + S1x1.size a ≤ S8x128.size a) ∧
  (∀ k0_t5 : Fin (k0_t5_loop v26).trips, ∀ (k0_h1 : k0_cond1 v4 = 1#1), (k0_t7_loop v26 k0_t5).OK) ∧
  (∀ (k0_t5 : Fin (k0_t5_loop v26).trips) (k0_t7 : Fin (k0_t7_loop v26 k0_t5).trips), ∀ (k0_h1 : k0_cond1 v4 = 1#1), ∀ a, (k0_off23 v26 k0_t5 k0_t7) a + S1x1.size a ≤ S8x128.size a) ∧
  (∀ (k0_h1 : k0_cond1 v4 = 1#1), (k0_t8_loop v26).OK) ∧
  (∀ k0_t8 : Fin (k0_t8_loop v26).trips, ∀ (k0_h1 : k0_cond1 v4 = 1#1), 8 ∣ (k0_mult35 v20 v26 k0_t8).toNat) ∧
  (∀ k0_t8 : Fin (k0_t8_loop v26).trips, ∀ (k0_h1 : k0_cond1 v4 = 1#1), ∀ a, (k0_off24 v20 v26 k0_t8) a + S8x128.size a ≤ S17168x128.size a) ∧
  (∀ k0_t8 : Fin (k0_t8_loop v26).trips, ∀ (k0_h1 : k0_cond1 v4 = 1#1), (k0_t9_loop v26 k0_t8).OK) ∧
  (∀ (k0_t8 : Fin (k0_t8_loop v26).trips) (k0_t9 : Fin (k0_t9_loop v26 k0_t8).trips), ∀ (k0_h1 : k0_cond1 v4 = 1#1), ∀ a, (k0_off25 v26 k0_t8 k0_t9) a + S1x1.size a ≤ S8x128.size a) ∧
  (∀ k0_t8 : Fin (k0_t8_loop v26).trips, ∀ (k0_h1 : k0_cond1 v4 = 1#1), (k0_t10_loop v26 k0_t8).OK) ∧
  (∀ (k0_t8 : Fin (k0_t8_loop v26).trips) (k0_t10 : Fin (k0_t10_loop v26 k0_t8).trips), ∀ (k0_h1 : k0_cond1 v4 = 1#1), ∀ a, (k0_off26 v26 k0_t8 k0_t10) a + S1x1.size a ≤ S8x128.size a)
theorem k0_t5_ok : ∀ (v4 : BitVec 32) (v20 : BitVec 32) (v26 : BitVec 32) (k0_hw1 : k0_chk1 v4 v20 v26), ∀ (k0_h1 : k0_cond1 v4 = 1#1), (k0_t5_loop v26).OK := fun v4 v20 v26 k0_hw1 k0_h1 => k0_hw1.1 k0_h1
theorem k0_mult34_dvd : ∀ (v4 : BitVec 32) (v20 : BitVec 32) (v26 : BitVec 32) (k0_hw1 : k0_chk1 v4 v20 v26) (k0_t5 : Fin (k0_t5_loop v26).trips), ∀ (k0_h1 : k0_cond1 v4 = 1#1), 8 ∣ (k0_mult34 v20 v26 k0_t5).toNat := fun v4 v20 v26 k0_hw1 k0_t5 k0_h1 => k0_hw1.2.1 k0_t5 k0_h1
theorem k0_off21_inb : ∀ (v4 : BitVec 32) (v20 : BitVec 32) (v26 : BitVec 32) (k0_hw1 : k0_chk1 v4 v20 v26) (k0_t5 : Fin (k0_t5_loop v26).trips), ∀ (k0_h1 : k0_cond1 v4 = 1#1), ∀ a, (k0_off21 v20 v26 k0_t5) a + S8x128.size a ≤ S17168x128.size a := fun v4 v20 v26 k0_hw1 k0_t5 k0_h1 => k0_hw1.2.2.1 k0_t5 k0_h1
theorem k0_t6_ok : ∀ (v4 : BitVec 32) (v20 : BitVec 32) (v26 : BitVec 32) (k0_hw1 : k0_chk1 v4 v20 v26) (k0_t5 : Fin (k0_t5_loop v26).trips), ∀ (k0_h1 : k0_cond1 v4 = 1#1), (k0_t6_loop v26 k0_t5).OK := fun v4 v20 v26 k0_hw1 k0_t5 k0_h1 => k0_hw1.2.2.2.1 k0_t5 k0_h1
theorem k0_off22_inb : ∀ (v4 : BitVec 32) (v20 : BitVec 32) (v26 : BitVec 32) (k0_hw1 : k0_chk1 v4 v20 v26) (k0_t5 : Fin (k0_t5_loop v26).trips) (k0_t6 : Fin (k0_t6_loop v26 k0_t5).trips), ∀ (k0_h1 : k0_cond1 v4 = 1#1), ∀ a, (k0_off22 v26 k0_t5 k0_t6) a + S1x1.size a ≤ S8x128.size a := fun v4 v20 v26 k0_hw1 k0_t5 k0_t6 k0_h1 => k0_hw1.2.2.2.2.1 k0_t5 k0_t6 k0_h1
theorem k0_t7_ok : ∀ (v4 : BitVec 32) (v20 : BitVec 32) (v26 : BitVec 32) (k0_hw1 : k0_chk1 v4 v20 v26) (k0_t5 : Fin (k0_t5_loop v26).trips), ∀ (k0_h1 : k0_cond1 v4 = 1#1), (k0_t7_loop v26 k0_t5).OK := fun v4 v20 v26 k0_hw1 k0_t5 k0_h1 => k0_hw1.2.2.2.2.2.1 k0_t5 k0_h1
theorem k0_off23_inb : ∀ (v4 : BitVec 32) (v20 : BitVec 32) (v26 : BitVec 32) (k0_hw1 : k0_chk1 v4 v20 v26) (k0_t5 : Fin (k0_t5_loop v26).trips) (k0_t7 : Fin (k0_t7_loop v26 k0_t5).trips), ∀ (k0_h1 : k0_cond1 v4 = 1#1), ∀ a, (k0_off23 v26 k0_t5 k0_t7) a + S1x1.size a ≤ S8x128.size a := fun v4 v20 v26 k0_hw1 k0_t5 k0_t7 k0_h1 => k0_hw1.2.2.2.2.2.2.1 k0_t5 k0_t7 k0_h1
theorem k0_t8_ok : ∀ (v4 : BitVec 32) (v20 : BitVec 32) (v26 : BitVec 32) (k0_hw1 : k0_chk1 v4 v20 v26), ∀ (k0_h1 : k0_cond1 v4 = 1#1), (k0_t8_loop v26).OK := fun v4 v20 v26 k0_hw1 k0_h1 => k0_hw1.2.2.2.2.2.2.2.1 k0_h1
theorem k0_mult35_dvd : ∀ (v4 : BitVec 32) (v20 : BitVec 32) (v26 : BitVec 32) (k0_hw1 : k0_chk1 v4 v20 v26) (k0_t8 : Fin (k0_t8_loop v26).trips), ∀ (k0_h1 : k0_cond1 v4 = 1#1), 8 ∣ (k0_mult35 v20 v26 k0_t8).toNat := fun v4 v20 v26 k0_hw1 k0_t8 k0_h1 => k0_hw1.2.2.2.2.2.2.2.2.1 k0_t8 k0_h1
theorem k0_off24_inb : ∀ (v4 : BitVec 32) (v20 : BitVec 32) (v26 : BitVec 32) (k0_hw1 : k0_chk1 v4 v20 v26) (k0_t8 : Fin (k0_t8_loop v26).trips), ∀ (k0_h1 : k0_cond1 v4 = 1#1), ∀ a, (k0_off24 v20 v26 k0_t8) a + S8x128.size a ≤ S17168x128.size a := fun v4 v20 v26 k0_hw1 k0_t8 k0_h1 => k0_hw1.2.2.2.2.2.2.2.2.2.1 k0_t8 k0_h1
theorem k0_t9_ok : ∀ (v4 : BitVec 32) (v20 : BitVec 32) (v26 : BitVec 32) (k0_hw1 : k0_chk1 v4 v20 v26) (k0_t8 : Fin (k0_t8_loop v26).trips), ∀ (k0_h1 : k0_cond1 v4 = 1#1), (k0_t9_loop v26 k0_t8).OK := fun v4 v20 v26 k0_hw1 k0_t8 k0_h1 => k0_hw1.2.2.2.2.2.2.2.2.2.2.1 k0_t8 k0_h1
theorem k0_off25_inb : ∀ (v4 : BitVec 32) (v20 : BitVec 32) (v26 : BitVec 32) (k0_hw1 : k0_chk1 v4 v20 v26) (k0_t8 : Fin (k0_t8_loop v26).trips) (k0_t9 : Fin (k0_t9_loop v26 k0_t8).trips), ∀ (k0_h1 : k0_cond1 v4 = 1#1), ∀ a, (k0_off25 v26 k0_t8 k0_t9) a + S1x1.size a ≤ S8x128.size a := fun v4 v20 v26 k0_hw1 k0_t8 k0_t9 k0_h1 => k0_hw1.2.2.2.2.2.2.2.2.2.2.2.1 k0_t8 k0_t9 k0_h1
theorem k0_t10_ok : ∀ (v4 : BitVec 32) (v20 : BitVec 32) (v26 : BitVec 32) (k0_hw1 : k0_chk1 v4 v20 v26) (k0_t8 : Fin (k0_t8_loop v26).trips), ∀ (k0_h1 : k0_cond1 v4 = 1#1), (k0_t10_loop v26 k0_t8).OK := fun v4 v20 v26 k0_hw1 k0_t8 k0_h1 => k0_hw1.2.2.2.2.2.2.2.2.2.2.2.2.1 k0_t8 k0_h1
theorem k0_off26_inb : ∀ (v4 : BitVec 32) (v20 : BitVec 32) (v26 : BitVec 32) (k0_hw1 : k0_chk1 v4 v20 v26) (k0_t8 : Fin (k0_t8_loop v26).trips) (k0_t10 : Fin (k0_t10_loop v26 k0_t8).trips), ∀ (k0_h1 : k0_cond1 v4 = 1#1), ∀ a, (k0_off26 v26 k0_t8 k0_t10) a + S1x1.size a ≤ S8x128.size a := fun v4 v20 v26 k0_hw1 k0_t8 k0_t10 k0_h1 => k0_hw1.2.2.2.2.2.2.2.2.2.2.2.2.2 k0_t8 k0_t10 k0_h1

def k0_mult36 (k0_t3 : Fin k0_t3_loop.trips) : BitVec 32 :=
  let c0_i32_9 : BitVec 32 := 0#32
  let c1_i32_11 : BitVec 32 := 1#32
  let arg10 : BitVec 32 := Scf.iv c0_i32_9 c1_i32_11 k0_t3
  let c16_i32_20 : BitVec 32 := 16#32
  let v14 : BitVec 32 := Scalar.muli arg10 c16_i32_20
  v14
def k0_off27 (k0_t3 : Fin k0_t3_loop.trips) (c0_i32_21 : BitVec 32) : Fin 4 → Nat :=
  let c0 : Index := 0#32
  let c0_22 : Index := 0#32
  let c0_i32_9 : BitVec 32 := 0#32
  let c1_i32_11 : BitVec 32 := 1#32
  let arg10 : BitVec 32 := Scf.iv c0_i32_9 c1_i32_11 k0_t3
  let c16_i32_20 : BitVec 32 := 16#32
  let v14 : BitVec 32 := Scalar.muli arg10 c16_i32_20
  let v15 : BitVec 32 := v14
  let v16 : BitVec 32 := Scalar.addi v15 c0_i32_21
  let v17 : Index := Scalar.indexCast v16
  let c0_23 : Index := 0#32
  ![0, 0, v17.toNat, 0]
def k0_mult37 (k0_t3 : Fin k0_t3_loop.trips) : BitVec 32 :=
  let c0_i32_9 : BitVec 32 := 0#32
  let c1_i32_11 : BitVec 32 := 1#32
  let arg10 : BitVec 32 := Scf.iv c0_i32_9 c1_i32_11 k0_t3
  let c16_i32_32 : BitVec 32 := 16#32
  let v45 : BitVec 32 := Scalar.muli arg10 c16_i32_32
  v45
def k0_mult38 (k0_t3 : Fin k0_t3_loop.trips) : BitVec 32 :=
  let c0_i32_9 : BitVec 32 := 0#32
  let c1_i32_11 : BitVec 32 := 1#32
  let arg10 : BitVec 32 := Scf.iv c0_i32_9 c1_i32_11 k0_t3
  let c16_i32_49 : BitVec 32 := 16#32
  let v76 : BitVec 32 := Scalar.muli arg10 c16_i32_49
  v76
def k0_off28 (k0_t3 : Fin k0_t3_loop.trips) (c0_i32_50 : BitVec 32) : Fin 4 → Nat :=
  let c0_51 : Index := 0#32
  let c1 : Index := 1#32
  let c0_i32_9 : BitVec 32 := 0#32
  let c1_i32_11 : BitVec 32 := 1#32
  let arg10 : BitVec 32 := Scf.iv c0_i32_9 c1_i32_11 k0_t3
  let c16_i32_49 : BitVec 32 := 16#32
  let v76 : BitVec 32 := Scalar.muli arg10 c16_i32_49
  let v77 : BitVec 32 := v76
  let v78 : BitVec 32 := Scalar.addi v77 c0_i32_50
  let v79 : Index := Scalar.indexCast v78
  let c0_52 : Index := 0#32
  ![0, 1, v79.toNat, 0]
def k0_mult39 (k0_t3 : Fin k0_t3_loop.trips) : BitVec 32 :=
  let c0_i32_9 : BitVec 32 := 0#32
  let c1_i32_11 : BitVec 32 := 1#32
  let arg10 : BitVec 32 := Scf.iv c0_i32_9 c1_i32_11 k0_t3
  let c16_i32_64 : BitVec 32 := 16#32
  let v107 : BitVec 32 := Scalar.muli arg10 c16_i32_64
  v107
def k0_mult40 (k0_t3 : Fin k0_t3_loop.trips) : BitVec 32 :=
  let c0_i32_9 : BitVec 32 := 0#32
  let c1_i32_11 : BitVec 32 := 1#32
  let arg10 : BitVec 32 := Scf.iv c0_i32_9 c1_i32_11 k0_t3
  let c16_i32_83 : BitVec 32 := 16#32
  let v138 : BitVec 32 := Scalar.muli arg10 c16_i32_83
  v138
def k0_off29 (k0_t3 : Fin k0_t3_loop.trips) (c0_i32_84 : BitVec 32) : Fin 4 → Nat :=
  let c0_85 : Index := 0#32
  let c2 : Index := 2#32
  let c0_i32_9 : BitVec 32 := 0#32
  let c1_i32_11 : BitVec 32 := 1#32
  let arg10 : BitVec 32 := Scf.iv c0_i32_9 c1_i32_11 k0_t3
  let c16_i32_83 : BitVec 32 := 16#32
  let v138 : BitVec 32 := Scalar.muli arg10 c16_i32_83
  let v139 : BitVec 32 := v138
  let v140 : BitVec 32 := Scalar.addi v139 c0_i32_84
  let v141 : Index := Scalar.indexCast v140
  let c0_86 : Index := 0#32
  ![0, 2, v141.toNat, 0]
def k0_mult41 (k0_t3 : Fin k0_t3_loop.trips) : BitVec 32 :=
  let c0_i32_9 : BitVec 32 := 0#32
  let c1_i32_11 : BitVec 32 := 1#32
  let arg10 : BitVec 32 := Scf.iv c0_i32_9 c1_i32_11 k0_t3
  let c16_i32_98 : BitVec 32 := 16#32
  let v169 : BitVec 32 := Scalar.muli arg10 c16_i32_98
  v169
def k0_mult42 (k0_t3 : Fin k0_t3_loop.trips) : BitVec 32 :=
  let c0_i32_9 : BitVec 32 := 0#32
  let c1_i32_11 : BitVec 32 := 1#32
  let arg10 : BitVec 32 := Scf.iv c0_i32_9 c1_i32_11 k0_t3
  let c16_i32_117 : BitVec 32 := 16#32
  let v200 : BitVec 32 := Scalar.muli arg10 c16_i32_117
  v200
def k0_off30 (k0_t3 : Fin k0_t3_loop.trips) (c0_i32_118 : BitVec 32) : Fin 4 → Nat :=
  let c0_119 : Index := 0#32
  let c3 : Index := 3#32
  let c0_i32_9 : BitVec 32 := 0#32
  let c1_i32_11 : BitVec 32 := 1#32
  let arg10 : BitVec 32 := Scf.iv c0_i32_9 c1_i32_11 k0_t3
  let c16_i32_117 : BitVec 32 := 16#32
  let v200 : BitVec 32 := Scalar.muli arg10 c16_i32_117
  let v201 : BitVec 32 := v200
  let v202 : BitVec 32 := Scalar.addi v201 c0_i32_118
  let v203 : Index := Scalar.indexCast v202
  let c0_120 : Index := 0#32
  ![0, 3, v203.toNat, 0]
def k0_mult43 (k0_t3 : Fin k0_t3_loop.trips) : BitVec 32 :=
  let c0_i32_9 : BitVec 32 := 0#32
  let c1_i32_11 : BitVec 32 := 1#32
  let arg10 : BitVec 32 := Scf.iv c0_i32_9 c1_i32_11 k0_t3
  let c16_i32_132 : BitVec 32 := 16#32
  let v231 : BitVec 32 := Scalar.muli arg10 c16_i32_132
  v231
def k0_mult44 (k0_t3 : Fin k0_t3_loop.trips) : BitVec 32 :=
  let c0_i32_9 : BitVec 32 := 0#32
  let c1_i32_11 : BitVec 32 := 1#32
  let arg10 : BitVec 32 := Scf.iv c0_i32_9 c1_i32_11 k0_t3
  let c16_i32_151 : BitVec 32 := 16#32
  let v262 : BitVec 32 := Scalar.muli arg10 c16_i32_151
  v262
def k0_off31 (k0_t3 : Fin k0_t3_loop.trips) (c0_i32_152 : BitVec 32) : Fin 4 → Nat :=
  let c0_153 : Index := 0#32
  let c4 : Index := 4#32
  let c0_i32_9 : BitVec 32 := 0#32
  let c1_i32_11 : BitVec 32 := 1#32
  let arg10 : BitVec 32 := Scf.iv c0_i32_9 c1_i32_11 k0_t3
  let c16_i32_151 : BitVec 32 := 16#32
  let v262 : BitVec 32 := Scalar.muli arg10 c16_i32_151
  let v263 : BitVec 32 := v262
  let v264 : BitVec 32 := Scalar.addi v263 c0_i32_152
  let v265 : Index := Scalar.indexCast v264
  let c0_154 : Index := 0#32
  ![0, 4, v265.toNat, 0]
def k0_mult45 (k0_t3 : Fin k0_t3_loop.trips) : BitVec 32 :=
  let c0_i32_9 : BitVec 32 := 0#32
  let c1_i32_11 : BitVec 32 := 1#32
  let arg10 : BitVec 32 := Scf.iv c0_i32_9 c1_i32_11 k0_t3
  let c16_i32_166 : BitVec 32 := 16#32
  let v293 : BitVec 32 := Scalar.muli arg10 c16_i32_166
  v293
def k0_mult46 (k0_t3 : Fin k0_t3_loop.trips) : BitVec 32 :=
  let c0_i32_9 : BitVec 32 := 0#32
  let c1_i32_11 : BitVec 32 := 1#32
  let arg10 : BitVec 32 := Scf.iv c0_i32_9 c1_i32_11 k0_t3
  let c16_i32_185 : BitVec 32 := 16#32
  let v324 : BitVec 32 := Scalar.muli arg10 c16_i32_185
  v324
def k0_off32 (k0_t3 : Fin k0_t3_loop.trips) (c0_i32_186 : BitVec 32) : Fin 4 → Nat :=
  let c0_187 : Index := 0#32
  let c5 : Index := 5#32
  let c0_i32_9 : BitVec 32 := 0#32
  let c1_i32_11 : BitVec 32 := 1#32
  let arg10 : BitVec 32 := Scf.iv c0_i32_9 c1_i32_11 k0_t3
  let c16_i32_185 : BitVec 32 := 16#32
  let v324 : BitVec 32 := Scalar.muli arg10 c16_i32_185
  let v325 : BitVec 32 := v324
  let v326 : BitVec 32 := Scalar.addi v325 c0_i32_186
  let v327 : Index := Scalar.indexCast v326
  let c0_188 : Index := 0#32
  ![0, 5, v327.toNat, 0]
def k0_mult47 (k0_t3 : Fin k0_t3_loop.trips) : BitVec 32 :=
  let c0_i32_9 : BitVec 32 := 0#32
  let c1_i32_11 : BitVec 32 := 1#32
  let arg10 : BitVec 32 := Scf.iv c0_i32_9 c1_i32_11 k0_t3
  let c16_i32_201 : BitVec 32 := 16#32
  let v355 : BitVec 32 := Scalar.muli arg10 c16_i32_201
  v355
def k0_mult48 (k0_t3 : Fin k0_t3_loop.trips) : BitVec 32 :=
  let c0_i32_9 : BitVec 32 := 0#32
  let c1_i32_11 : BitVec 32 := 1#32
  let arg10 : BitVec 32 := Scf.iv c0_i32_9 c1_i32_11 k0_t3
  let c16_i32_220 : BitVec 32 := 16#32
  let v386 : BitVec 32 := Scalar.muli arg10 c16_i32_220
  v386
def k0_off33 (k0_t3 : Fin k0_t3_loop.trips) (c0_i32_221 : BitVec 32) : Fin 4 → Nat :=
  let c0_222 : Index := 0#32
  let c6 : Index := 6#32
  let c0_i32_9 : BitVec 32 := 0#32
  let c1_i32_11 : BitVec 32 := 1#32
  let arg10 : BitVec 32 := Scf.iv c0_i32_9 c1_i32_11 k0_t3
  let c16_i32_220 : BitVec 32 := 16#32
  let v386 : BitVec 32 := Scalar.muli arg10 c16_i32_220
  let v387 : BitVec 32 := v386
  let v388 : BitVec 32 := Scalar.addi v387 c0_i32_221
  let v389 : Index := Scalar.indexCast v388
  let c0_223 : Index := 0#32
  ![0, 6, v389.toNat, 0]
def k0_mult49 (k0_t3 : Fin k0_t3_loop.trips) : BitVec 32 :=
  let c0_i32_9 : BitVec 32 := 0#32
  let c1_i32_11 : BitVec 32 := 1#32
  let arg10 : BitVec 32 := Scf.iv c0_i32_9 c1_i32_11 k0_t3
  let c16_i32_235 : BitVec 32 := 16#32
  let v417 : BitVec 32 := Scalar.muli arg10 c16_i32_235
  v417
def k0_mult50 (k0_t3 : Fin k0_t3_loop.trips) : BitVec 32 :=
  let c0_i32_9 : BitVec 32 := 0#32
  let c1_i32_11 : BitVec 32 := 1#32
  let arg10 : BitVec 32 := Scf.iv c0_i32_9 c1_i32_11 k0_t3
  let c16_i32_254 : BitVec 32 := 16#32
  let v448 : BitVec 32 := Scalar.muli arg10 c16_i32_254
  v448
def k0_off34 (k0_t3 : Fin k0_t3_loop.trips) (c0_i32_255 : BitVec 32) : Fin 4 → Nat :=
  let c0_256 : Index := 0#32
  let c7 : Index := 7#32
  let c0_i32_9 : BitVec 32 := 0#32
  let c1_i32_11 : BitVec 32 := 1#32
  let arg10 : BitVec 32 := Scf.iv c0_i32_9 c1_i32_11 k0_t3
  let c16_i32_254 : BitVec 32 := 16#32
  let v448 : BitVec 32 := Scalar.muli arg10 c16_i32_254
  let v449 : BitVec 32 := v448
  let v450 : BitVec 32 := Scalar.addi v449 c0_i32_255
  let v451 : Index := Scalar.indexCast v450
  let c0_257 : Index := 0#32
  ![0, 7, v451.toNat, 0]
def k0_mult51 (k0_t3 : Fin k0_t3_loop.trips) : BitVec 32 :=
  let c0_i32_9 : BitVec 32 := 0#32
  let c1_i32_11 : BitVec 32 := 1#32
  let arg10 : BitVec 32 := Scf.iv c0_i32_9 c1_i32_11 k0_t3
  let c16_i32_269 : BitVec 32 := 16#32
  let v479 : BitVec 32 := Scalar.muli arg10 c16_i32_269
  v479
def k0_mult52 (k0_t3 : Fin k0_t3_loop.trips) : BitVec 32 :=
  let c0_i32_9 : BitVec 32 := 0#32
  let c1_i32_11 : BitVec 32 := 1#32
  let arg10 : BitVec 32 := Scf.iv c0_i32_9 c1_i32_11 k0_t3
  let c16_i32_288 : BitVec 32 := 16#32
  let v510 : BitVec 32 := Scalar.muli arg10 c16_i32_288
  v510
def k0_off35 (k0_t3 : Fin k0_t3_loop.trips) (c0_i32_289 : BitVec 32) : Fin 4 → Nat :=
  let c0_290 : Index := 0#32
  let c8_291 : Index := 8#32
  let c0_i32_9 : BitVec 32 := 0#32
  let c1_i32_11 : BitVec 32 := 1#32
  let arg10 : BitVec 32 := Scf.iv c0_i32_9 c1_i32_11 k0_t3
  let c16_i32_288 : BitVec 32 := 16#32
  let v510 : BitVec 32 := Scalar.muli arg10 c16_i32_288
  let v511 : BitVec 32 := v510
  let v512 : BitVec 32 := Scalar.addi v511 c0_i32_289
  let v513 : Index := Scalar.indexCast v512
  let c0_292 : Index := 0#32
  ![0, 8, v513.toNat, 0]
def k0_mult53 (k0_t3 : Fin k0_t3_loop.trips) : BitVec 32 :=
  let c0_i32_9 : BitVec 32 := 0#32
  let c1_i32_11 : BitVec 32 := 1#32
  let arg10 : BitVec 32 := Scf.iv c0_i32_9 c1_i32_11 k0_t3
  let c16_i32_304 : BitVec 32 := 16#32
  let v541 : BitVec 32 := Scalar.muli arg10 c16_i32_304
  v541
def k0_mult54 (k0_t3 : Fin k0_t3_loop.trips) : BitVec 32 :=
  let c0_i32_9 : BitVec 32 := 0#32
  let c1_i32_11 : BitVec 32 := 1#32
  let arg10 : BitVec 32 := Scf.iv c0_i32_9 c1_i32_11 k0_t3
  let c16_i32_323 : BitVec 32 := 16#32
  let v572 : BitVec 32 := Scalar.muli arg10 c16_i32_323
  v572
def k0_off36 (k0_t3 : Fin k0_t3_loop.trips) (c0_i32_324 : BitVec 32) : Fin 4 → Nat :=
  let c0_325 : Index := 0#32
  let c9 : Index := 9#32
  let c0_i32_9 : BitVec 32 := 0#32
  let c1_i32_11 : BitVec 32 := 1#32
  let arg10 : BitVec 32 := Scf.iv c0_i32_9 c1_i32_11 k0_t3
  let c16_i32_323 : BitVec 32 := 16#32
  let v572 : BitVec 32 := Scalar.muli arg10 c16_i32_323
  let v573 : BitVec 32 := v572
  let v574 : BitVec 32 := Scalar.addi v573 c0_i32_324
  let v575 : Index := Scalar.indexCast v574
  let c0_326 : Index := 0#32
  ![0, 9, v575.toNat, 0]
def k0_mult55 (k0_t3 : Fin k0_t3_loop.trips) : BitVec 32 :=
  let c0_i32_9 : BitVec 32 := 0#32
  let c1_i32_11 : BitVec 32 := 1#32
  let arg10 : BitVec 32 := Scf.iv c0_i32_9 c1_i32_11 k0_t3
  let c16_i32_338 : BitVec 32 := 16#32
  let v603 : BitVec 32 := Scalar.muli arg10 c16_i32_338
  v603
def k0_mult56 (k0_t3 : Fin k0_t3_loop.trips) : BitVec 32 :=
  let c0_i32_9 : BitVec 32 := 0#32
  let c1_i32_11 : BitVec 32 := 1#32
  let arg10 : BitVec 32 := Scf.iv c0_i32_9 c1_i32_11 k0_t3
  let c16_i32_357 : BitVec 32 := 16#32
  let v634 : BitVec 32 := Scalar.muli arg10 c16_i32_357
  v634
def k0_off37 (k0_t3 : Fin k0_t3_loop.trips) (c0_i32_358 : BitVec 32) : Fin 4 → Nat :=
  let c0_359 : Index := 0#32
  let c10 : Index := 10#32
  let c0_i32_9 : BitVec 32 := 0#32
  let c1_i32_11 : BitVec 32 := 1#32
  let arg10 : BitVec 32 := Scf.iv c0_i32_9 c1_i32_11 k0_t3
  let c16_i32_357 : BitVec 32 := 16#32
  let v634 : BitVec 32 := Scalar.muli arg10 c16_i32_357
  let v635 : BitVec 32 := v634
  let v636 : BitVec 32 := Scalar.addi v635 c0_i32_358
  let v637 : Index := Scalar.indexCast v636
  let c0_360 : Index := 0#32
  ![0, 10, v637.toNat, 0]
def k0_mult57 (k0_t3 : Fin k0_t3_loop.trips) : BitVec 32 :=
  let c0_i32_9 : BitVec 32 := 0#32
  let c1_i32_11 : BitVec 32 := 1#32
  let arg10 : BitVec 32 := Scf.iv c0_i32_9 c1_i32_11 k0_t3
  let c16_i32_372 : BitVec 32 := 16#32
  let v665 : BitVec 32 := Scalar.muli arg10 c16_i32_372
  v665
def k0_mult58 (k0_t3 : Fin k0_t3_loop.trips) : BitVec 32 :=
  let c0_i32_9 : BitVec 32 := 0#32
  let c1_i32_11 : BitVec 32 := 1#32
  let arg10 : BitVec 32 := Scf.iv c0_i32_9 c1_i32_11 k0_t3
  let c16_i32_391 : BitVec 32 := 16#32
  let v696 : BitVec 32 := Scalar.muli arg10 c16_i32_391
  v696
def k0_off38 (k0_t3 : Fin k0_t3_loop.trips) (c0_i32_392 : BitVec 32) : Fin 4 → Nat :=
  let c0_393 : Index := 0#32
  let c11 : Index := 11#32
  let c0_i32_9 : BitVec 32 := 0#32
  let c1_i32_11 : BitVec 32 := 1#32
  let arg10 : BitVec 32 := Scf.iv c0_i32_9 c1_i32_11 k0_t3
  let c16_i32_391 : BitVec 32 := 16#32
  let v696 : BitVec 32 := Scalar.muli arg10 c16_i32_391
  let v697 : BitVec 32 := v696
  let v698 : BitVec 32 := Scalar.addi v697 c0_i32_392
  let v699 : Index := Scalar.indexCast v698
  let c0_394 : Index := 0#32
  ![0, 11, v699.toNat, 0]
def k0_mult59 (k0_t3 : Fin k0_t3_loop.trips) : BitVec 32 :=
  let c0_i32_9 : BitVec 32 := 0#32
  let c1_i32_11 : BitVec 32 := 1#32
  let arg10 : BitVec 32 := Scf.iv c0_i32_9 c1_i32_11 k0_t3
  let c16_i32_406 : BitVec 32 := 16#32
  let v727 : BitVec 32 := Scalar.muli arg10 c16_i32_406
  v727
def k0_mult60 (k0_t3 : Fin k0_t3_loop.trips) : BitVec 32 :=
  let c0_i32_9 : BitVec 32 := 0#32
  let c1_i32_11 : BitVec 32 := 1#32
  let arg10 : BitVec 32 := Scf.iv c0_i32_9 c1_i32_11 k0_t3
  let c16_i32_425 : BitVec 32 := 16#32
  let v758 : BitVec 32 := Scalar.muli arg10 c16_i32_425
  v758
def k0_off39 (k0_t3 : Fin k0_t3_loop.trips) (c0_i32_426 : BitVec 32) : Fin 4 → Nat :=
  let c0_427 : Index := 0#32
  let c12 : Index := 12#32
  let c0_i32_9 : BitVec 32 := 0#32
  let c1_i32_11 : BitVec 32 := 1#32
  let arg10 : BitVec 32 := Scf.iv c0_i32_9 c1_i32_11 k0_t3
  let c16_i32_425 : BitVec 32 := 16#32
  let v758 : BitVec 32 := Scalar.muli arg10 c16_i32_425
  let v759 : BitVec 32 := v758
  let v760 : BitVec 32 := Scalar.addi v759 c0_i32_426
  let v761 : Index := Scalar.indexCast v760
  let c0_428 : Index := 0#32
  ![0, 12, v761.toNat, 0]
def k0_mult61 (k0_t3 : Fin k0_t3_loop.trips) : BitVec 32 :=
  let c0_i32_9 : BitVec 32 := 0#32
  let c1_i32_11 : BitVec 32 := 1#32
  let arg10 : BitVec 32 := Scf.iv c0_i32_9 c1_i32_11 k0_t3
  let c16_i32_440 : BitVec 32 := 16#32
  let v789 : BitVec 32 := Scalar.muli arg10 c16_i32_440
  v789
def k0_mult62 (k0_t3 : Fin k0_t3_loop.trips) : BitVec 32 :=
  let c0_i32_9 : BitVec 32 := 0#32
  let c1_i32_11 : BitVec 32 := 1#32
  let arg10 : BitVec 32 := Scf.iv c0_i32_9 c1_i32_11 k0_t3
  let c16_i32_459 : BitVec 32 := 16#32
  let v820 : BitVec 32 := Scalar.muli arg10 c16_i32_459
  v820
def k0_off40 (k0_t3 : Fin k0_t3_loop.trips) (c0_i32_460 : BitVec 32) : Fin 4 → Nat :=
  let c0_461 : Index := 0#32
  let c13 : Index := 13#32
  let c0_i32_9 : BitVec 32 := 0#32
  let c1_i32_11 : BitVec 32 := 1#32
  let arg10 : BitVec 32 := Scf.iv c0_i32_9 c1_i32_11 k0_t3
  let c16_i32_459 : BitVec 32 := 16#32
  let v820 : BitVec 32 := Scalar.muli arg10 c16_i32_459
  let v821 : BitVec 32 := v820
  let v822 : BitVec 32 := Scalar.addi v821 c0_i32_460
  let v823 : Index := Scalar.indexCast v822
  let c0_462 : Index := 0#32
  ![0, 13, v823.toNat, 0]
def k0_mult63 (k0_t3 : Fin k0_t3_loop.trips) : BitVec 32 :=
  let c0_i32_9 : BitVec 32 := 0#32
  let c1_i32_11 : BitVec 32 := 1#32
  let arg10 : BitVec 32 := Scf.iv c0_i32_9 c1_i32_11 k0_t3
  let c16_i32_474 : BitVec 32 := 16#32
  let v851 : BitVec 32 := Scalar.muli arg10 c16_i32_474
  v851
def k0_mult64 (k0_t3 : Fin k0_t3_loop.trips) : BitVec 32 :=
  let c0_i32_9 : BitVec 32 := 0#32
  let c1_i32_11 : BitVec 32 := 1#32
  let arg10 : BitVec 32 := Scf.iv c0_i32_9 c1_i32_11 k0_t3
  let c16_i32_493 : BitVec 32 := 16#32
  let v882 : BitVec 32 := Scalar.muli arg10 c16_i32_493
  v882
def k0_off41 (k0_t3 : Fin k0_t3_loop.trips) (c0_i32_494 : BitVec 32) : Fin 4 → Nat :=
  let c0_495 : Index := 0#32
  let c14 : Index := 14#32
  let c0_i32_9 : BitVec 32 := 0#32
  let c1_i32_11 : BitVec 32 := 1#32
  let arg10 : BitVec 32 := Scf.iv c0_i32_9 c1_i32_11 k0_t3
  let c16_i32_493 : BitVec 32 := 16#32
  let v882 : BitVec 32 := Scalar.muli arg10 c16_i32_493
  let v883 : BitVec 32 := v882
  let v884 : BitVec 32 := Scalar.addi v883 c0_i32_494
  let v885 : Index := Scalar.indexCast v884
  let c0_496 : Index := 0#32
  ![0, 14, v885.toNat, 0]
def k0_mult65 (k0_t3 : Fin k0_t3_loop.trips) : BitVec 32 :=
  let c0_i32_9 : BitVec 32 := 0#32
  let c1_i32_11 : BitVec 32 := 1#32
  let arg10 : BitVec 32 := Scf.iv c0_i32_9 c1_i32_11 k0_t3
  let c16_i32_508 : BitVec 32 := 16#32
  let v913 : BitVec 32 := Scalar.muli arg10 c16_i32_508
  v913
def k0_mult66 (k0_t3 : Fin k0_t3_loop.trips) : BitVec 32 :=
  let c0_i32_9 : BitVec 32 := 0#32
  let c1_i32_11 : BitVec 32 := 1#32
  let arg10 : BitVec 32 := Scf.iv c0_i32_9 c1_i32_11 k0_t3
  let c16_i32_527 : BitVec 32 := 16#32
  let v944 : BitVec 32 := Scalar.muli arg10 c16_i32_527
  v944
def k0_off42 (k0_t3 : Fin k0_t3_loop.trips) (c0_i32_528 : BitVec 32) : Fin 4 → Nat :=
  let c0_529 : Index := 0#32
  let c15 : Index := 15#32
  let c0_i32_9 : BitVec 32 := 0#32
  let c1_i32_11 : BitVec 32 := 1#32
  let arg10 : BitVec 32 := Scf.iv c0_i32_9 c1_i32_11 k0_t3
  let c16_i32_527 : BitVec 32 := 16#32
  let v944 : BitVec 32 := Scalar.muli arg10 c16_i32_527
  let v945 : BitVec 32 := v944
  let v946 : BitVec 32 := Scalar.addi v945 c0_i32_528
  let v947 : Index := Scalar.indexCast v946
  let c0_530 : Index := 0#32
  ![0, 15, v947.toNat, 0]
def k0_mult67 (k0_t3 : Fin k0_t3_loop.trips) : BitVec 32 :=
  let c0_i32_9 : BitVec 32 := 0#32
  let c1_i32_11 : BitVec 32 := 1#32
  let arg10 : BitVec 32 := Scf.iv c0_i32_9 c1_i32_11 k0_t3
  let c16_i32_542 : BitVec 32 := 16#32
  let v975 : BitVec 32 := Scalar.muli arg10 c16_i32_542
  v975
@[reducible] def k0_t11_loop : Scf.Loop 32 :=
  let c0_i32_569 : BitVec 32 := 0#32
  let c16_i32_570 : BitVec 32 := 16#32
  let v1015 : BitVec 32 := Scalar.addi c0_i32_569 c16_i32_570
  let c1_i32_571 : BitVec 32 := 1#32
  ⟨c0_i32_569, v1015, c1_i32_571⟩
def k0_off43 (i : grid0.Coords) (k0_t11 : Fin k0_t11_loop.trips) : Fin 1 → Nat :=
  let arg0 : BitVec 32 := BitVec.ofNat 32 (i 0).val
  let c1_i32_0 : BitVec 32 := 1#32
  let v1 : BitVec 32 := Scalar.andi arg0 c1_i32_0
  let c16_i32_576 : BitVec 32 := 16#32
  let v1022 : BitVec 32 := Scalar.muli v1 c16_i32_576
  let c0_i32_569 : BitVec 32 := 0#32
  let c1_i32_571 : BitVec 32 := 1#32
  let arg11 : BitVec 32 := Scf.iv c0_i32_569 c1_i32_571 k0_t11
  let v1023 : BitVec 32 := Scalar.addi v1022 arg11
  let c64_i32 : BitVec 32 := 64#32
  let v1024 : BitVec 32 := Scalar.muli v1023 c64_i32
  let c32_i32 : BitVec 32 := 32#32
  let v1025 : BitVec 32 := Scalar.addi v1024 c32_i32
  let c1_i32 : BitVec 32 := 1#32
  let v0 : BitVec 32 := Scalar.shrsi arg0 c1_i32
  let v1026 : BitVec 32 := Scalar.addi v1025 v0
  let v1027 : Index := Scalar.indexCast v1026
  ![v1027.toNat]
def k0_off44 (i : grid0.Coords) (k0_t11 : Fin k0_t11_loop.trips) : Fin 1 → Nat :=
  let arg0 : BitVec 32 := BitVec.ofNat 32 (i 0).val
  let c1_i32_0 : BitVec 32 := 1#32
  let v1 : BitVec 32 := Scalar.andi arg0 c1_i32_0
  let c16_i32_577 : BitVec 32 := 16#32
  let v1029 : BitVec 32 := Scalar.muli v1 c16_i32_577
  let c0_i32_569 : BitVec 32 := 0#32
  let c1_i32_571 : BitVec 32 := 1#32
  let arg11 : BitVec 32 := Scf.iv c0_i32_569 c1_i32_571 k0_t11
  let v1030 : BitVec 32 := Scalar.addi v1029 arg11
  let c64_i32_578 : BitVec 32 := 64#32
  let v1031 : BitVec 32 := Scalar.muli v1030 c64_i32_578
  let c1_i32 : BitVec 32 := 1#32
  let v0 : BitVec 32 := Scalar.shrsi arg0 c1_i32
  let v1032 : BitVec 32 := Scalar.addi v1031 v0
  let v1033 : Index := Scalar.indexCast v1032
  ![v1033.toNat]
@[reducible] def k0_t12_loop (v1034 : BitVec 32) : Scf.Loop 32 :=
  let c0_i32_579 : BitVec 32 := 0#32
  let c1023_i32 : BitVec 32 := 1023#32
  let v1035 : BitVec 32 := Scalar.addi v1034 c1023_i32
  let c1024_i32 : BitVec 32 := 1024#32
  let v1036 : BitVec 32 := Scalar.divsi v1035 c1024_i32
  let v1037 : BitVec 32 := Scalar.subi v1036 c0_i32_579
  let c1_i32_580 : BitVec 32 := 1#32
  let v1039 : BitVec 32 := Scalar.divsi v1037 c1_i32_580
  let v1040 : BitVec 32 := Scalar.muli v1039 c1_i32_580
  let v1041 : BitVec 32 := Scalar.addi c0_i32_579 v1040
  let c1_i32_581 : BitVec 32 := 1#32
  ⟨c0_i32_579, v1041, c1_i32_581⟩
def k0_cond2 (v10 : BitVec 32) : BitVec 1 :=
  let c0_i32_18 : BitVec 32 := 0#32
  let v11 : BitVec 1 := Scalar.cmpi .sgt v10 c0_i32_18
  let v12 : BitVec 32 := Scalar.extui v11
  let c0_i32_19 : BitVec 32 := 0#32
  let v13 : BitVec 1 := Scalar.cmpi .ne v12 c0_i32_19
  v13

def k0_mult68 (v1028 : BitVec 32) (v1034 : BitVec 32) (k0_t12 : Fin (k0_t12_loop v1034).trips) : BitVec 32 :=
  let c7_i32 : BitVec 32 := 7#32
  let v1042 : BitVec 32 := Scalar.shrsi v1028 c7_i32
  let c0_i32_579 : BitVec 32 := 0#32
  let c1_i32_581 : BitVec 32 := 1#32
  let arg12 : BitVec 32 := Scf.iv c0_i32_579 c1_i32_581 k0_t12
  let c8_i32_583 : BitVec 32 := 8#32
  let v1043 : BitVec 32 := Scalar.muli arg12 c8_i32_583
  let v1044 : BitVec 32 := Scalar.addi v1042 v1043
  v1044
def k0_off45 (v1028 : BitVec 32) (v1034 : BitVec 32) (k0_t12 : Fin (k0_t12_loop v1034).trips) : Fin 2 → Nat :=
  let c7_i32 : BitVec 32 := 7#32
  let v1042 : BitVec 32 := Scalar.shrsi v1028 c7_i32
  let c0_i32_579 : BitVec 32 := 0#32
  let c1_i32_581 : BitVec 32 := 1#32
  let arg12 : BitVec 32 := Scf.iv c0_i32_579 c1_i32_581 k0_t12
  let c8_i32_583 : BitVec 32 := 8#32
  let v1043 : BitVec 32 := Scalar.muli arg12 c8_i32_583
  let v1044 : BitVec 32 := Scalar.addi v1042 v1043
  let v1045 : BitVec 32 := v1044
  let c0_i32_584 : BitVec 32 := 0#32
  ![v1045.toNat, 0]
@[reducible] def k0_t13_loop (v1034 : BitVec 32) (k0_t12 : Fin (k0_t12_loop v1034).trips) : Scf.Loop 32 :=
  let c0_i32_588 : BitVec 32 := 0#32
  let c0_i32_579 : BitVec 32 := 0#32
  let c1_i32_581 : BitVec 32 := 1#32
  let arg12 : BitVec 32 := Scf.iv c0_i32_579 c1_i32_581 k0_t12
  let c1024_i32_586 : BitVec 32 := 1024#32
  let v1048 : BitVec 32 := Scalar.muli arg12 c1024_i32_586
  let v1049 : BitVec 32 := Scalar.subi v1034 v1048
  let c1024_i32_587 : BitVec 32 := 1024#32
  let v1050 : BitVec 32 := Scalar.minsi v1049 c1024_i32_587
  let v1051 : BitVec 32 := Scalar.subi v1050 c0_i32_588
  let c1_i32_589 : BitVec 32 := 1#32
  let v1053 : BitVec 32 := Scalar.divsi v1051 c1_i32_589
  let v1054 : BitVec 32 := Scalar.muli v1053 c1_i32_589
  let v1055 : BitVec 32 := Scalar.addi c0_i32_588 v1054
  let c1_i32_590 : BitVec 32 := 1#32
  ⟨c0_i32_588, v1055, c1_i32_590⟩
def k0_off46 (v1034 : BitVec 32) (k0_t12 : Fin (k0_t12_loop v1034).trips) (k0_t13 : Fin (k0_t13_loop v1034 k0_t12).trips) : Fin 2 → Nat :=
  let c0_i32_588 : BitVec 32 := 0#32
  let c1_i32_590 : BitVec 32 := 1#32
  let arg13 : BitVec 32 := Scf.iv c0_i32_588 c1_i32_590 k0_t13
  let c7_i32_592 : BitVec 32 := 7#32
  let v1056 : BitVec 32 := Scalar.shrsi arg13 c7_i32_592
  let v1058 : Index := Scalar.indexCast v1056
  let c127_i32 : BitVec 32 := 127#32
  let v1057 : BitVec 32 := Scalar.andi arg13 c127_i32
  let v1059 : Index := Scalar.indexCast v1057
  ![v1058.toNat, v1059.toNat]
@[reducible] def k0_t14_loop (v1034 : BitVec 32) (k0_t12 : Fin (k0_t12_loop v1034).trips) : Scf.Loop 32 :=
  let c0_i32_588 : BitVec 32 := 0#32
  let c0_i32_579 : BitVec 32 := 0#32
  let c1_i32_581 : BitVec 32 := 1#32
  let arg12 : BitVec 32 := Scf.iv c0_i32_579 c1_i32_581 k0_t12
  let c1024_i32_586 : BitVec 32 := 1024#32
  let v1048 : BitVec 32 := Scalar.muli arg12 c1024_i32_586
  let v1049 : BitVec 32 := Scalar.subi v1034 v1048
  let c1024_i32_587 : BitVec 32 := 1024#32
  let v1050 : BitVec 32 := Scalar.minsi v1049 c1024_i32_587
  let v1051 : BitVec 32 := Scalar.subi v1050 c0_i32_588
  let c1_i32_589 : BitVec 32 := 1#32
  let v1053 : BitVec 32 := Scalar.divsi v1051 c1_i32_589
  let v1054 : BitVec 32 := Scalar.muli v1053 c1_i32_589
  let v1055 : BitVec 32 := Scalar.addi c0_i32_588 v1054
  let v1052 : BitVec 32 := Scalar.addi c0_i32_588 v1051
  let c1_i32_591 : BitVec 32 := 1#32
  ⟨v1055, v1052, c1_i32_591⟩
def k0_off47 (v1034 : BitVec 32) (k0_t12 : Fin (k0_t12_loop v1034).trips) (k0_t14 : Fin (k0_t14_loop v1034 k0_t12).trips) : Fin 2 → Nat :=
  let c0_i32_588 : BitVec 32 := 0#32
  let c0_i32_579 : BitVec 32 := 0#32
  let c1_i32_581 : BitVec 32 := 1#32
  let arg12 : BitVec 32 := Scf.iv c0_i32_579 c1_i32_581 k0_t12
  let c1024_i32_586 : BitVec 32 := 1024#32
  let v1048 : BitVec 32 := Scalar.muli arg12 c1024_i32_586
  let v1049 : BitVec 32 := Scalar.subi v1034 v1048
  let c1024_i32_587 : BitVec 32 := 1024#32
  let v1050 : BitVec 32 := Scalar.minsi v1049 c1024_i32_587
  let v1051 : BitVec 32 := Scalar.subi v1050 c0_i32_588
  let c1_i32_589 : BitVec 32 := 1#32
  let v1053 : BitVec 32 := Scalar.divsi v1051 c1_i32_589
  let v1054 : BitVec 32 := Scalar.muli v1053 c1_i32_589
  let v1055 : BitVec 32 := Scalar.addi c0_i32_588 v1054
  let c1_i32_591 : BitVec 32 := 1#32
  let arg13 : BitVec 32 := Scf.iv v1055 c1_i32_591 k0_t14
  let c7_i32_592 : BitVec 32 := 7#32
  let v1056 : BitVec 32 := Scalar.shrsi arg13 c7_i32_592
  let v1058 : Index := Scalar.indexCast v1056
  let c127_i32 : BitVec 32 := 127#32
  let v1057 : BitVec 32 := Scalar.andi arg13 c127_i32
  let v1059 : Index := Scalar.indexCast v1057
  ![v1058.toNat, v1059.toNat]
@[reducible] def k0_t15_loop (v1034 : BitVec 32) : Scf.Loop 32 :=
  let c0_i32_579 : BitVec 32 := 0#32
  let c1023_i32 : BitVec 32 := 1023#32
  let v1035 : BitVec 32 := Scalar.addi v1034 c1023_i32
  let c1024_i32 : BitVec 32 := 1024#32
  let v1036 : BitVec 32 := Scalar.divsi v1035 c1024_i32
  let v1037 : BitVec 32 := Scalar.subi v1036 c0_i32_579
  let c1_i32_580 : BitVec 32 := 1#32
  let v1039 : BitVec 32 := Scalar.divsi v1037 c1_i32_580
  let v1040 : BitVec 32 := Scalar.muli v1039 c1_i32_580
  let v1041 : BitVec 32 := Scalar.addi c0_i32_579 v1040
  let v1038 : BitVec 32 := Scalar.addi c0_i32_579 v1037
  let c1_i32_582 : BitVec 32 := 1#32
  ⟨v1041, v1038, c1_i32_582⟩
def k0_mult69 (v1028 : BitVec 32) (v1034 : BitVec 32) (k0_t15 : Fin (k0_t15_loop v1034).trips) : BitVec 32 :=
  let c7_i32 : BitVec 32 := 7#32
  let v1042 : BitVec 32 := Scalar.shrsi v1028 c7_i32
  let c0_i32_579 : BitVec 32 := 0#32
  let c1023_i32 : BitVec 32 := 1023#32
  let v1035 : BitVec 32 := Scalar.addi v1034 c1023_i32
  let c1024_i32 : BitVec 32 := 1024#32
  let v1036 : BitVec 32 := Scalar.divsi v1035 c1024_i32
  let v1037 : BitVec 32 := Scalar.subi v1036 c0_i32_579
  let c1_i32_580 : BitVec 32 := 1#32
  let v1039 : BitVec 32 := Scalar.divsi v1037 c1_i32_580
  let v1040 : BitVec 32 := Scalar.muli v1039 c1_i32_580
  let v1041 : BitVec 32 := Scalar.addi c0_i32_579 v1040
  let c1_i32_582 : BitVec 32 := 1#32
  let arg12 : BitVec 32 := Scf.iv v1041 c1_i32_582 k0_t15
  let c8_i32_583 : BitVec 32 := 8#32
  let v1043 : BitVec 32 := Scalar.muli arg12 c8_i32_583
  let v1044 : BitVec 32 := Scalar.addi v1042 v1043
  v1044
def k0_off48 (v1028 : BitVec 32) (v1034 : BitVec 32) (k0_t15 : Fin (k0_t15_loop v1034).trips) : Fin 2 → Nat :=
  let c7_i32 : BitVec 32 := 7#32
  let v1042 : BitVec 32 := Scalar.shrsi v1028 c7_i32
  let c0_i32_579 : BitVec 32 := 0#32
  let c1023_i32 : BitVec 32 := 1023#32
  let v1035 : BitVec 32 := Scalar.addi v1034 c1023_i32
  let c1024_i32 : BitVec 32 := 1024#32
  let v1036 : BitVec 32 := Scalar.divsi v1035 c1024_i32
  let v1037 : BitVec 32 := Scalar.subi v1036 c0_i32_579
  let c1_i32_580 : BitVec 32 := 1#32
  let v1039 : BitVec 32 := Scalar.divsi v1037 c1_i32_580
  let v1040 : BitVec 32 := Scalar.muli v1039 c1_i32_580
  let v1041 : BitVec 32 := Scalar.addi c0_i32_579 v1040
  let c1_i32_582 : BitVec 32 := 1#32
  let arg12 : BitVec 32 := Scf.iv v1041 c1_i32_582 k0_t15
  let c8_i32_583 : BitVec 32 := 8#32
  let v1043 : BitVec 32 := Scalar.muli arg12 c8_i32_583
  let v1044 : BitVec 32 := Scalar.addi v1042 v1043
  let v1045 : BitVec 32 := v1044
  let c0_i32_584 : BitVec 32 := 0#32
  ![v1045.toNat, 0]
@[reducible] def k0_t16_loop (v1034 : BitVec 32) (k0_t15 : Fin (k0_t15_loop v1034).trips) : Scf.Loop 32 :=
  let c0_i32_588 : BitVec 32 := 0#32
  let c0_i32_579 : BitVec 32 := 0#32
  let c1023_i32 : BitVec 32 := 1023#32
  let v1035 : BitVec 32 := Scalar.addi v1034 c1023_i32
  let c1024_i32 : BitVec 32 := 1024#32
  let v1036 : BitVec 32 := Scalar.divsi v1035 c1024_i32
  let v1037 : BitVec 32 := Scalar.subi v1036 c0_i32_579
  let c1_i32_580 : BitVec 32 := 1#32
  let v1039 : BitVec 32 := Scalar.divsi v1037 c1_i32_580
  let v1040 : BitVec 32 := Scalar.muli v1039 c1_i32_580
  let v1041 : BitVec 32 := Scalar.addi c0_i32_579 v1040
  let c1_i32_582 : BitVec 32 := 1#32
  let arg12 : BitVec 32 := Scf.iv v1041 c1_i32_582 k0_t15
  let c1024_i32_586 : BitVec 32 := 1024#32
  let v1048 : BitVec 32 := Scalar.muli arg12 c1024_i32_586
  let v1049 : BitVec 32 := Scalar.subi v1034 v1048
  let c1024_i32_587 : BitVec 32 := 1024#32
  let v1050 : BitVec 32 := Scalar.minsi v1049 c1024_i32_587
  let v1051 : BitVec 32 := Scalar.subi v1050 c0_i32_588
  let c1_i32_589 : BitVec 32 := 1#32
  let v1053 : BitVec 32 := Scalar.divsi v1051 c1_i32_589
  let v1054 : BitVec 32 := Scalar.muli v1053 c1_i32_589
  let v1055 : BitVec 32 := Scalar.addi c0_i32_588 v1054
  let c1_i32_590 : BitVec 32 := 1#32
  ⟨c0_i32_588, v1055, c1_i32_590⟩
def k0_off49 (v1034 : BitVec 32) (k0_t15 : Fin (k0_t15_loop v1034).trips) (k0_t16 : Fin (k0_t16_loop v1034 k0_t15).trips) : Fin 2 → Nat :=
  let c0_i32_588 : BitVec 32 := 0#32
  let c1_i32_590 : BitVec 32 := 1#32
  let arg13 : BitVec 32 := Scf.iv c0_i32_588 c1_i32_590 k0_t16
  let c7_i32_592 : BitVec 32 := 7#32
  let v1056 : BitVec 32 := Scalar.shrsi arg13 c7_i32_592
  let v1058 : Index := Scalar.indexCast v1056
  let c127_i32 : BitVec 32 := 127#32
  let v1057 : BitVec 32 := Scalar.andi arg13 c127_i32
  let v1059 : Index := Scalar.indexCast v1057
  ![v1058.toNat, v1059.toNat]
@[reducible] def k0_t17_loop (v1034 : BitVec 32) (k0_t15 : Fin (k0_t15_loop v1034).trips) : Scf.Loop 32 :=
  let c0_i32_588 : BitVec 32 := 0#32
  let c0_i32_579 : BitVec 32 := 0#32
  let c1023_i32 : BitVec 32 := 1023#32
  let v1035 : BitVec 32 := Scalar.addi v1034 c1023_i32
  let c1024_i32 : BitVec 32 := 1024#32
  let v1036 : BitVec 32 := Scalar.divsi v1035 c1024_i32
  let v1037 : BitVec 32 := Scalar.subi v1036 c0_i32_579
  let c1_i32_580 : BitVec 32 := 1#32
  let v1039 : BitVec 32 := Scalar.divsi v1037 c1_i32_580
  let v1040 : BitVec 32 := Scalar.muli v1039 c1_i32_580
  let v1041 : BitVec 32 := Scalar.addi c0_i32_579 v1040
  let c1_i32_582 : BitVec 32 := 1#32
  let arg12 : BitVec 32 := Scf.iv v1041 c1_i32_582 k0_t15
  let c1024_i32_586 : BitVec 32 := 1024#32
  let v1048 : BitVec 32 := Scalar.muli arg12 c1024_i32_586
  let v1049 : BitVec 32 := Scalar.subi v1034 v1048
  let c1024_i32_587 : BitVec 32 := 1024#32
  let v1050 : BitVec 32 := Scalar.minsi v1049 c1024_i32_587
  let v1051 : BitVec 32 := Scalar.subi v1050 c0_i32_588
  let c1_i32_589 : BitVec 32 := 1#32
  let v1053 : BitVec 32 := Scalar.divsi v1051 c1_i32_589
  let v1054 : BitVec 32 := Scalar.muli v1053 c1_i32_589
  let v1055 : BitVec 32 := Scalar.addi c0_i32_588 v1054
  let v1052 : BitVec 32 := Scalar.addi c0_i32_588 v1051
  let c1_i32_591 : BitVec 32 := 1#32
  ⟨v1055, v1052, c1_i32_591⟩
def k0_off50 (v1034 : BitVec 32) (k0_t15 : Fin (k0_t15_loop v1034).trips) (k0_t17 : Fin (k0_t17_loop v1034 k0_t15).trips) : Fin 2 → Nat :=
  let c0_i32_588 : BitVec 32 := 0#32
  let c0_i32_579 : BitVec 32 := 0#32
  let c1023_i32 : BitVec 32 := 1023#32
  let v1035 : BitVec 32 := Scalar.addi v1034 c1023_i32
  let c1024_i32 : BitVec 32 := 1024#32
  let v1036 : BitVec 32 := Scalar.divsi v1035 c1024_i32
  let v1037 : BitVec 32 := Scalar.subi v1036 c0_i32_579
  let c1_i32_580 : BitVec 32 := 1#32
  let v1039 : BitVec 32 := Scalar.divsi v1037 c1_i32_580
  let v1040 : BitVec 32 := Scalar.muli v1039 c1_i32_580
  let v1041 : BitVec 32 := Scalar.addi c0_i32_579 v1040
  let c1_i32_582 : BitVec 32 := 1#32
  let arg12 : BitVec 32 := Scf.iv v1041 c1_i32_582 k0_t15
  let c1024_i32_586 : BitVec 32 := 1024#32
  let v1048 : BitVec 32 := Scalar.muli arg12 c1024_i32_586
  let v1049 : BitVec 32 := Scalar.subi v1034 v1048
  let c1024_i32_587 : BitVec 32 := 1024#32
  let v1050 : BitVec 32 := Scalar.minsi v1049 c1024_i32_587
  let v1051 : BitVec 32 := Scalar.subi v1050 c0_i32_588
  let c1_i32_589 : BitVec 32 := 1#32
  let v1053 : BitVec 32 := Scalar.divsi v1051 c1_i32_589
  let v1054 : BitVec 32 := Scalar.muli v1053 c1_i32_589
  let v1055 : BitVec 32 := Scalar.addi c0_i32_588 v1054
  let c1_i32_591 : BitVec 32 := 1#32
  let arg13 : BitVec 32 := Scf.iv v1055 c1_i32_591 k0_t17
  let c7_i32_592 : BitVec 32 := 7#32
  let v1056 : BitVec 32 := Scalar.shrsi arg13 c7_i32_592
  let v1058 : Index := Scalar.indexCast v1056
  let c127_i32 : BitVec 32 := 127#32
  let v1057 : BitVec 32 := Scalar.andi arg13 c127_i32
  let v1059 : Index := Scalar.indexCast v1057
  ![v1058.toNat, v1059.toNat]

def k0_chk2 (v4 : BitVec 32) (v10 : BitVec 32) (v1028 : BitVec 32) (v1034 : BitVec 32) : Prop :=
  (∀ (k0_h1 : k0_cond1 v4 = 1#1), ∀ (k0_h2 : k0_cond2 v10 = 1#1), (k0_t12_loop v1034).OK) ∧
  (∀ k0_t12 : Fin (k0_t12_loop v1034).trips, ∀ (k0_h1 : k0_cond1 v4 = 1#1), ∀ (k0_h2 : k0_cond2 v10 = 1#1), 8 ∣ (k0_mult68 v1028 v1034 k0_t12).toNat) ∧
  (∀ k0_t12 : Fin (k0_t12_loop v1034).trips, ∀ (k0_h1 : k0_cond1 v4 = 1#1), ∀ (k0_h2 : k0_cond2 v10 = 1#1), ∀ a, (k0_off45 v1028 v1034 k0_t12) a + S8x128.size a ≤ S17168x128.size a) ∧
  (∀ k0_t12 : Fin (k0_t12_loop v1034).trips, ∀ (k0_h1 : k0_cond1 v4 = 1#1), ∀ (k0_h2 : k0_cond2 v10 = 1#1), (k0_t13_loop v1034 k0_t12).OK) ∧
  (∀ (k0_t12 : Fin (k0_t12_loop v1034).trips) (k0_t13 : Fin (k0_t13_loop v1034 k0_t12).trips), ∀ (k0_h1 : k0_cond1 v4 = 1#1), ∀ (k0_h2 : k0_cond2 v10 = 1#1), ∀ a, (k0_off46 v1034 k0_t12 k0_t13) a + S1x1.size a ≤ S8x128.size a) ∧
  (∀ k0_t12 : Fin (k0_t12_loop v1034).trips, ∀ (k0_h1 : k0_cond1 v4 = 1#1), ∀ (k0_h2 : k0_cond2 v10 = 1#1), (k0_t14_loop v1034 k0_t12).OK) ∧
  (∀ (k0_t12 : Fin (k0_t12_loop v1034).trips) (k0_t14 : Fin (k0_t14_loop v1034 k0_t12).trips), ∀ (k0_h1 : k0_cond1 v4 = 1#1), ∀ (k0_h2 : k0_cond2 v10 = 1#1), ∀ a, (k0_off47 v1034 k0_t12 k0_t14) a + S1x1.size a ≤ S8x128.size a) ∧
  (∀ (k0_h1 : k0_cond1 v4 = 1#1), ∀ (k0_h2 : k0_cond2 v10 = 1#1), (k0_t15_loop v1034).OK) ∧
  (∀ k0_t15 : Fin (k0_t15_loop v1034).trips, ∀ (k0_h1 : k0_cond1 v4 = 1#1), ∀ (k0_h2 : k0_cond2 v10 = 1#1), 8 ∣ (k0_mult69 v1028 v1034 k0_t15).toNat) ∧
  (∀ k0_t15 : Fin (k0_t15_loop v1034).trips, ∀ (k0_h1 : k0_cond1 v4 = 1#1), ∀ (k0_h2 : k0_cond2 v10 = 1#1), ∀ a, (k0_off48 v1028 v1034 k0_t15) a + S8x128.size a ≤ S17168x128.size a) ∧
  (∀ k0_t15 : Fin (k0_t15_loop v1034).trips, ∀ (k0_h1 : k0_cond1 v4 = 1#1), ∀ (k0_h2 : k0_cond2 v10 = 1#1), (k0_t16_loop v1034 k0_t15).OK) ∧
  (∀ (k0_t15 : Fin (k0_t15_loop v1034).trips) (k0_t16 : Fin (k0_t16_loop v1034 k0_t15).trips), ∀ (k0_h1 : k0_cond1 v4 = 1#1), ∀ (k0_h2 : k0_cond2 v10 = 1#1), ∀ a, (k0_off49 v1034 k0_t15 k0_t16) a + S1x1.size a ≤ S8x128.size a) ∧
  (∀ k0_t15 : Fin (k0_t15_loop v1034).trips, ∀ (k0_h1 : k0_cond1 v4 = 1#1), ∀ (k0_h2 : k0_cond2 v10 = 1#1), (k0_t17_loop v1034 k0_t15).OK) ∧
  (∀ (k0_t15 : Fin (k0_t15_loop v1034).trips) (k0_t17 : Fin (k0_t17_loop v1034 k0_t15).trips), ∀ (k0_h1 : k0_cond1 v4 = 1#1), ∀ (k0_h2 : k0_cond2 v10 = 1#1), ∀ a, (k0_off50 v1034 k0_t15 k0_t17) a + S1x1.size a ≤ S8x128.size a)
theorem k0_t12_ok : ∀ (v4 : BitVec 32) (v10 : BitVec 32) (v1028 : BitVec 32) (v1034 : BitVec 32) (k0_hw2 : k0_chk2 v4 v10 v1028 v1034), ∀ (k0_h1 : k0_cond1 v4 = 1#1), ∀ (k0_h2 : k0_cond2 v10 = 1#1), (k0_t12_loop v1034).OK := fun v4 v10 v1028 v1034 k0_hw2 k0_h1 k0_h2 => k0_hw2.1 k0_h1 k0_h2
theorem k0_mult68_dvd : ∀ (v4 : BitVec 32) (v10 : BitVec 32) (v1028 : BitVec 32) (v1034 : BitVec 32) (k0_hw2 : k0_chk2 v4 v10 v1028 v1034) (k0_t12 : Fin (k0_t12_loop v1034).trips), ∀ (k0_h1 : k0_cond1 v4 = 1#1), ∀ (k0_h2 : k0_cond2 v10 = 1#1), 8 ∣ (k0_mult68 v1028 v1034 k0_t12).toNat := fun v4 v10 v1028 v1034 k0_hw2 k0_t12 k0_h1 k0_h2 => k0_hw2.2.1 k0_t12 k0_h1 k0_h2
theorem k0_off45_inb : ∀ (v4 : BitVec 32) (v10 : BitVec 32) (v1028 : BitVec 32) (v1034 : BitVec 32) (k0_hw2 : k0_chk2 v4 v10 v1028 v1034) (k0_t12 : Fin (k0_t12_loop v1034).trips), ∀ (k0_h1 : k0_cond1 v4 = 1#1), ∀ (k0_h2 : k0_cond2 v10 = 1#1), ∀ a, (k0_off45 v1028 v1034 k0_t12) a + S8x128.size a ≤ S17168x128.size a := fun v4 v10 v1028 v1034 k0_hw2 k0_t12 k0_h1 k0_h2 => k0_hw2.2.2.1 k0_t12 k0_h1 k0_h2
theorem k0_t13_ok : ∀ (v4 : BitVec 32) (v10 : BitVec 32) (v1028 : BitVec 32) (v1034 : BitVec 32) (k0_hw2 : k0_chk2 v4 v10 v1028 v1034) (k0_t12 : Fin (k0_t12_loop v1034).trips), ∀ (k0_h1 : k0_cond1 v4 = 1#1), ∀ (k0_h2 : k0_cond2 v10 = 1#1), (k0_t13_loop v1034 k0_t12).OK := fun v4 v10 v1028 v1034 k0_hw2 k0_t12 k0_h1 k0_h2 => k0_hw2.2.2.2.1 k0_t12 k0_h1 k0_h2
theorem k0_off46_inb : ∀ (v4 : BitVec 32) (v10 : BitVec 32) (v1028 : BitVec 32) (v1034 : BitVec 32) (k0_hw2 : k0_chk2 v4 v10 v1028 v1034) (k0_t12 : Fin (k0_t12_loop v1034).trips) (k0_t13 : Fin (k0_t13_loop v1034 k0_t12).trips), ∀ (k0_h1 : k0_cond1 v4 = 1#1), ∀ (k0_h2 : k0_cond2 v10 = 1#1), ∀ a, (k0_off46 v1034 k0_t12 k0_t13) a + S1x1.size a ≤ S8x128.size a := fun v4 v10 v1028 v1034 k0_hw2 k0_t12 k0_t13 k0_h1 k0_h2 => k0_hw2.2.2.2.2.1 k0_t12 k0_t13 k0_h1 k0_h2
theorem k0_t14_ok : ∀ (v4 : BitVec 32) (v10 : BitVec 32) (v1028 : BitVec 32) (v1034 : BitVec 32) (k0_hw2 : k0_chk2 v4 v10 v1028 v1034) (k0_t12 : Fin (k0_t12_loop v1034).trips), ∀ (k0_h1 : k0_cond1 v4 = 1#1), ∀ (k0_h2 : k0_cond2 v10 = 1#1), (k0_t14_loop v1034 k0_t12).OK := fun v4 v10 v1028 v1034 k0_hw2 k0_t12 k0_h1 k0_h2 => k0_hw2.2.2.2.2.2.1 k0_t12 k0_h1 k0_h2
theorem k0_off47_inb : ∀ (v4 : BitVec 32) (v10 : BitVec 32) (v1028 : BitVec 32) (v1034 : BitVec 32) (k0_hw2 : k0_chk2 v4 v10 v1028 v1034) (k0_t12 : Fin (k0_t12_loop v1034).trips) (k0_t14 : Fin (k0_t14_loop v1034 k0_t12).trips), ∀ (k0_h1 : k0_cond1 v4 = 1#1), ∀ (k0_h2 : k0_cond2 v10 = 1#1), ∀ a, (k0_off47 v1034 k0_t12 k0_t14) a + S1x1.size a ≤ S8x128.size a := fun v4 v10 v1028 v1034 k0_hw2 k0_t12 k0_t14 k0_h1 k0_h2 => k0_hw2.2.2.2.2.2.2.1 k0_t12 k0_t14 k0_h1 k0_h2
theorem k0_t15_ok : ∀ (v4 : BitVec 32) (v10 : BitVec 32) (v1028 : BitVec 32) (v1034 : BitVec 32) (k0_hw2 : k0_chk2 v4 v10 v1028 v1034), ∀ (k0_h1 : k0_cond1 v4 = 1#1), ∀ (k0_h2 : k0_cond2 v10 = 1#1), (k0_t15_loop v1034).OK := fun v4 v10 v1028 v1034 k0_hw2 k0_h1 k0_h2 => k0_hw2.2.2.2.2.2.2.2.1 k0_h1 k0_h2
theorem k0_mult69_dvd : ∀ (v4 : BitVec 32) (v10 : BitVec 32) (v1028 : BitVec 32) (v1034 : BitVec 32) (k0_hw2 : k0_chk2 v4 v10 v1028 v1034) (k0_t15 : Fin (k0_t15_loop v1034).trips), ∀ (k0_h1 : k0_cond1 v4 = 1#1), ∀ (k0_h2 : k0_cond2 v10 = 1#1), 8 ∣ (k0_mult69 v1028 v1034 k0_t15).toNat := fun v4 v10 v1028 v1034 k0_hw2 k0_t15 k0_h1 k0_h2 => k0_hw2.2.2.2.2.2.2.2.2.1 k0_t15 k0_h1 k0_h2
theorem k0_off48_inb : ∀ (v4 : BitVec 32) (v10 : BitVec 32) (v1028 : BitVec 32) (v1034 : BitVec 32) (k0_hw2 : k0_chk2 v4 v10 v1028 v1034) (k0_t15 : Fin (k0_t15_loop v1034).trips), ∀ (k0_h1 : k0_cond1 v4 = 1#1), ∀ (k0_h2 : k0_cond2 v10 = 1#1), ∀ a, (k0_off48 v1028 v1034 k0_t15) a + S8x128.size a ≤ S17168x128.size a := fun v4 v10 v1028 v1034 k0_hw2 k0_t15 k0_h1 k0_h2 => k0_hw2.2.2.2.2.2.2.2.2.2.1 k0_t15 k0_h1 k0_h2
theorem k0_t16_ok : ∀ (v4 : BitVec 32) (v10 : BitVec 32) (v1028 : BitVec 32) (v1034 : BitVec 32) (k0_hw2 : k0_chk2 v4 v10 v1028 v1034) (k0_t15 : Fin (k0_t15_loop v1034).trips), ∀ (k0_h1 : k0_cond1 v4 = 1#1), ∀ (k0_h2 : k0_cond2 v10 = 1#1), (k0_t16_loop v1034 k0_t15).OK := fun v4 v10 v1028 v1034 k0_hw2 k0_t15 k0_h1 k0_h2 => k0_hw2.2.2.2.2.2.2.2.2.2.2.1 k0_t15 k0_h1 k0_h2
theorem k0_off49_inb : ∀ (v4 : BitVec 32) (v10 : BitVec 32) (v1028 : BitVec 32) (v1034 : BitVec 32) (k0_hw2 : k0_chk2 v4 v10 v1028 v1034) (k0_t15 : Fin (k0_t15_loop v1034).trips) (k0_t16 : Fin (k0_t16_loop v1034 k0_t15).trips), ∀ (k0_h1 : k0_cond1 v4 = 1#1), ∀ (k0_h2 : k0_cond2 v10 = 1#1), ∀ a, (k0_off49 v1034 k0_t15 k0_t16) a + S1x1.size a ≤ S8x128.size a := fun v4 v10 v1028 v1034 k0_hw2 k0_t15 k0_t16 k0_h1 k0_h2 => k0_hw2.2.2.2.2.2.2.2.2.2.2.2.1 k0_t15 k0_t16 k0_h1 k0_h2
theorem k0_t17_ok : ∀ (v4 : BitVec 32) (v10 : BitVec 32) (v1028 : BitVec 32) (v1034 : BitVec 32) (k0_hw2 : k0_chk2 v4 v10 v1028 v1034) (k0_t15 : Fin (k0_t15_loop v1034).trips), ∀ (k0_h1 : k0_cond1 v4 = 1#1), ∀ (k0_h2 : k0_cond2 v10 = 1#1), (k0_t17_loop v1034 k0_t15).OK := fun v4 v10 v1028 v1034 k0_hw2 k0_t15 k0_h1 k0_h2 => k0_hw2.2.2.2.2.2.2.2.2.2.2.2.2.1 k0_t15 k0_h1 k0_h2
theorem k0_off50_inb : ∀ (v4 : BitVec 32) (v10 : BitVec 32) (v1028 : BitVec 32) (v1034 : BitVec 32) (k0_hw2 : k0_chk2 v4 v10 v1028 v1034) (k0_t15 : Fin (k0_t15_loop v1034).trips) (k0_t17 : Fin (k0_t17_loop v1034 k0_t15).trips), ∀ (k0_h1 : k0_cond1 v4 = 1#1), ∀ (k0_h2 : k0_cond2 v10 = 1#1), ∀ a, (k0_off50 v1034 k0_t15 k0_t17) a + S1x1.size a ≤ S8x128.size a := fun v4 v10 v1028 v1034 k0_hw2 k0_t15 k0_t17 k0_h1 k0_h2 => k0_hw2.2.2.2.2.2.2.2.2.2.2.2.2.2 k0_t15 k0_t17 k0_h1 k0_h2

def k0_mult70 (k0_t3 : Fin k0_t3_loop.trips) : BitVec 32 :=
  let c0_i32_9 : BitVec 32 := 0#32
  let c1_i32_11 : BitVec 32 := 1#32
  let arg10 : BitVec 32 := Scf.iv c0_i32_9 c1_i32_11 k0_t3
  let c256_i32 : BitVec 32 := 256#32
  let v1016 : BitVec 32 := Scalar.muli arg10 c256_i32
  v1016
def k0_off51 (k0_t3 : Fin k0_t3_loop.trips) : Fin 2 → Nat :=
  let c0_575 : Index := 0#32
  let c0_i32_9 : BitVec 32 := 0#32
  let c1_i32_11 : BitVec 32 := 1#32
  let arg10 : BitVec 32 := Scf.iv c0_i32_9 c1_i32_11 k0_t3
  let c256_i32 : BitVec 32 := 256#32
  let v1016 : BitVec 32 := Scalar.muli arg10 c256_i32
  let v1017 : BitVec 32 := v1016
  let v1020 : Index := Scalar.indexCast v1017
  ![0, v1020.toNat]
def cc0_transform_0 (i : grid0.Coords) : Fin 4 → Nat :=
  let arg0 : BitVec 32 := BitVec.ofNat 32 (i 0).val
  let c1_i32 : BitVec 32 := 1#32
  let v0 : BitVec 32 := Scalar.andi arg0 c1_i32
  let c15_i32 : BitVec 32 := 15#32
  let v1 : BitVec 32 := Scalar.muli v0 c15_i32
  let c1_i32_0 : BitVec 32 := 1#32
  let v2 : BitVec 32 := Scalar.shrsi arg0 c1_i32_0
  let v3 : BitVec 32 := Scalar.addi v1 v2
  let c0_i32 : BitVec 32 := 0#32
  let c0_i32_1 : BitVec 32 := 0#32
  let c0_i32_2 : BitVec 32 := 0#32
  let c0_i32_3 : BitVec 32 := 0#32
  ![v3.toNat, c0_i32.toNat, c0_i32_1.toNat, c0_i32_2.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c1_i32 : BitVec 32 := 1#32
  let v0 : BitVec 32 := Scalar.andi arg0 c1_i32
  let c0_i32 : BitVec 32 := 0#32
  let v1 : BitVec 1 := Scalar.cmpi .eq v0 c0_i32
  let c1_i32_0 : BitVec 32 := 1#32
  let v2 : BitVec 32 := Scalar.shrsi arg0 c1_i32_0
  let c1_i32_1 : BitVec 32 := 1#32
  let v3 : BitVec 32 := Scalar.shrsi arg0 c1_i32_1
  let c29_i32 : BitVec 32 := 29#32
  let v4 : BitVec 32 := Scalar.subi c29_i32 v3
  let v5 : BitVec 32 := Scalar.select v1 v2 v4
  let c0_i32_2 : BitVec 32 := 0#32
  let c0_i32_3 : BitVec 32 := 0#32
  ![c0_i32_2.toNat, v5.toNat]

abbrev stage0_0 : Fin 2 → Memref sig .tc .vmem S1x16x336x128 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S160x768 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S160x5376 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ReferenceIdeal.lean ====
abbrev S2048 : Shape := ⟨1, ![2048]⟩
abbrev S30x16x336x128 : Shape := ⟨4, ![30, 16, 336, 128]⟩
abbrev S160x768 : Shape := ⟨2, ![160, 768]⟩
abbrev S17168x128 : Shape := ⟨2, ![17168, 128]⟩
abbrev S15x16x336x128 : Shape := ⟨4, ![15, 16, 336, 128]⟩
abbrev S30x16x42x8x128 : Shape := ⟨5, ![30, 16, 42, 8, 128]⟩
abbrev S3 : Shape := ⟨1, ![3]⟩
abbrev S3x1 : Shape := ⟨2, ![3, 1]⟩
abbrev S_ : Shape := ⟨0, ![]⟩
abbrev S2 : Shape := ⟨1, ![2]⟩
abbrev S1x2 : Shape := ⟨2, ![1, 2]⟩
abbrev S3x2 : Shape := ⟨2, ![3, 2]⟩
abbrev S30x16x42x8x128x1x1 : Shape := ⟨7, ![30, 16, 42, 8, 128, 1, 1]⟩
abbrev S30x16x42x8x128x3x2 : Shape := ⟨7, ![30, 16, 42, 8, 128, 3, 2]⟩
abbrev S16x3x8x2x30x42x128 : Shape := ⟨7, ![16, 3, 8, 2, 30, 42, 128]⟩
abbrev S768x161280 : Shape := ⟨2, ![768, 161280]⟩
abbrev S2197504 : Shape := ⟨1, ![2197504]⟩
abbrev S2x16x4x16 : Shape := ⟨4, ![2, 16, 4, 16]⟩
abbrev S2x16x4x15 : Shape := ⟨4, ![2, 16, 4, 15]⟩
abbrev S1x16x4x15 : Shape := ⟨4, ![1, 16, 4, 15]⟩
abbrev S16x4x15 : Shape := ⟨3, ![16, 4, 15]⟩
abbrev S16x4x30 : Shape := ⟨3, ![16, 4, 30]⟩
abbrev S16x1x30 : Shape := ⟨3, ![16, 1, 30]⟩
abbrev S16x30 : Shape := ⟨2, ![16, 30]⟩
abbrev S16x30x1 : Shape := ⟨3, ![16, 30, 1]⟩
abbrev S1x1x2197504 : Shape := ⟨3, ![1, 1, 2197504]⟩
abbrev S16x30x2197504 : Shape := ⟨3, ![16, 30, 2197504]⟩
abbrev S16x30x1x2197504 : Shape := ⟨4, ![16, 30, 1, 2197504]⟩
abbrev S5376 : Shape := ⟨1, ![5376]⟩
abbrev S5376x1 : Shape := ⟨2, ![5376, 1]⟩
abbrev S1x2197504 : Shape := ⟨2, ![1, 2197504]⟩
abbrev S5376x2197504 : Shape := ⟨2, ![5376, 2197504]⟩
abbrev S1x1x5376x2197504 : Shape := ⟨4, ![1, 1, 5376, 2197504]⟩
abbrev S16x30x5376x2197504 : Shape := ⟨4, ![16, 30, 5376, 2197504]⟩
abbrev S768 : Shape := ⟨1, ![768]⟩
abbrev S768x1 : Shape := ⟨2, ![768, 1]⟩
abbrev S768x2197504 : Shape := ⟨2, ![768, 2197504]⟩
abbrev S160x2197504 : Shape := ⟨2, ![160, 2197504]⟩
abbrev S160x1x2197504 : Shape := ⟨3, ![160, 1, 2197504]⟩
abbrev S160x16x2197504 : Shape := ⟨3, ![160, 16, 2197504]⟩
abbrev S160x30x5376 : Shape := ⟨3, ![160, 30, 5376]⟩
abbrev S160x161280 : Shape := ⟨2, ![160, 161280]⟩
abbrev S160x160000 : Shape := ⟨2, ![160, 160000]⟩

abbrev nBuf : Space → Nat
  | .hbm => 109
  | .vmem => 0
  | .smem => 0
  | _ => 0

abbrev bufTy : (tb : Table) → Fin (tcTables nBuf tb) → BufTy
  | .hbm, ⟨0, _⟩ => ⟨S2048, .i32⟩
  | .hbm, ⟨1, _⟩ => ⟨S30x16x336x128, .i32⟩
  | .hbm, ⟨2, _⟩ => ⟨S160x768, .bf16⟩
  | .hbm, ⟨3, _⟩ => ⟨S17168x128, .i32⟩
  | .hbm, ⟨4, _⟩ => ⟨S160x768, .f32⟩
  | .hbm, ⟨5, _⟩ => ⟨S15x16x336x128, .i32⟩
  | .hbm, ⟨6, _⟩ => ⟨S15x16x336x128, .i32⟩
  | .hbm, ⟨7, _⟩ => ⟨S15x16x336x128, .i32⟩
  | .hbm, ⟨8, _⟩ => ⟨S30x16x336x128, .i32⟩
  | .hbm, ⟨9, _⟩ => ⟨S30x16x42x8x128, .i32⟩
  | .hbm, ⟨10, _⟩ => ⟨S3, .i32⟩
  | .hbm, ⟨11, _⟩ => ⟨S3x1, .i32⟩
  | .hbm, ⟨12, _⟩ => ⟨S_, .i32⟩
  | .hbm, ⟨13, _⟩ => ⟨S3x1, .i32⟩
  | .hbm, ⟨14, _⟩ => ⟨S3x1, .i32⟩
  | .hbm, ⟨15, _⟩ => ⟨S2, .i32⟩
  | .hbm, ⟨16, _⟩ => ⟨S_, .i32⟩
  | .hbm, ⟨17, _⟩ => ⟨S2, .i32⟩
  | .hbm, ⟨18, _⟩ => ⟨S2, .i32⟩
  | .hbm, ⟨19, _⟩ => ⟨S1x2, .i32⟩
  | .hbm, ⟨20, _⟩ => ⟨S3x2, .i32⟩
  | .hbm, ⟨21, _⟩ => ⟨S3x2, .i32⟩
  | .hbm, ⟨22, _⟩ => ⟨S3x2, .i32⟩
  | .hbm, ⟨23, _⟩ => ⟨S30x16x42x8x128x1x1, .i32⟩
  | .hbm, ⟨24, _⟩ => ⟨S30x16x42x8x128x3x2, .i32⟩
  | .hbm, ⟨25, _⟩ => ⟨S30x16x42x8x128x3x2, .i32⟩
  | .hbm, ⟨26, _⟩ => ⟨S30x16x42x8x128x3x2, .i32⟩
  | .hbm, ⟨27, _⟩ => ⟨S_, .i32⟩
  | .hbm, ⟨28, _⟩ => ⟨S30x16x42x8x128x3x2, .i32⟩
  | .hbm, ⟨29, _⟩ => ⟨S30x16x42x8x128x3x2, .i32⟩
  | .hbm, ⟨30, _⟩ => ⟨S_, .i32⟩
  | .hbm, ⟨31, _⟩ => ⟨S30x16x42x8x128x3x2, .i32⟩
  | .hbm, ⟨32, _⟩ => ⟨S30x16x42x8x128x3x2, .i32⟩
  | .hbm, ⟨33, _⟩ => ⟨S16x3x8x2x30x42x128, .i32⟩
  | .hbm, ⟨34, _⟩ => ⟨S768x161280, .i32⟩
  | .hbm, ⟨35, _⟩ => ⟨S2197504, .i32⟩
  | .hbm, ⟨36, _⟩ => ⟨S_, .i32⟩
  | .hbm, ⟨37, _⟩ => ⟨S2197504, .i32⟩
  | .hbm, ⟨38, _⟩ => ⟨S2197504, .i32⟩
  | .hbm, ⟨39, _⟩ => ⟨S_, .i32⟩
  | .hbm, ⟨40, _⟩ => ⟨S2197504, .i32⟩
  | .hbm, ⟨41, _⟩ => ⟨S2197504, .i32⟩
  | .hbm, ⟨42, _⟩ => ⟨S_, .i32⟩
  | .hbm, ⟨43, _⟩ => ⟨S2197504, .i32⟩
  | .hbm, ⟨44, _⟩ => ⟨S2197504, .i32⟩
  | .hbm, ⟨45, _⟩ => ⟨S_, .i32⟩
  | .hbm, ⟨46, _⟩ => ⟨S2197504, .i32⟩
  | .hbm, ⟨47, _⟩ => ⟨S2197504, .i32⟩
  | .hbm, ⟨48, _⟩ => ⟨S_, .i32⟩
  | .hbm, ⟨49, _⟩ => ⟨S2197504, .i32⟩
  | .hbm, ⟨50, _⟩ => ⟨S2197504, .i32⟩
  | .hbm, ⟨51, _⟩ => ⟨S2x16x4x16, .i32⟩
  | .hbm, ⟨52, _⟩ => ⟨S2x16x4x15, .i32⟩
  | .hbm, ⟨53, _⟩ => ⟨S1x16x4x15, .i32⟩
  | .hbm, ⟨54, _⟩ => ⟨S16x4x15, .i32⟩
  | .hbm, ⟨55, _⟩ => ⟨S1x16x4x15, .i32⟩
  | .hbm, ⟨56, _⟩ => ⟨S16x4x15, .i32⟩
  | .hbm, ⟨57, _⟩ => ⟨S16x4x15, .i32⟩
  | .hbm, ⟨58, _⟩ => ⟨S16x4x30, .i32⟩
  | .hbm, ⟨59, _⟩ => ⟨S16x1x30, .i32⟩
  | .hbm, ⟨60, _⟩ => ⟨S16x30, .i32⟩
  | .hbm, ⟨61, _⟩ => ⟨S16x30x1, .i32⟩
  | .hbm, ⟨62, _⟩ => ⟨S16x1x30, .i32⟩
  | .hbm, ⟨63, _⟩ => ⟨S16x30, .i32⟩
  | .hbm, ⟨64, _⟩ => ⟨S16x30x1, .i32⟩
  | .hbm, ⟨65, _⟩ => ⟨S2197504, .i32⟩
  | .hbm, ⟨66, _⟩ => ⟨S1x1x2197504, .i32⟩
  | .hbm, ⟨67, _⟩ => ⟨S16x30x2197504, .i32⟩
  | .hbm, ⟨68, _⟩ => ⟨S16x30x2197504, .i32⟩
  | .hbm, ⟨69, _⟩ => ⟨S16x30x2197504, .i1⟩
  | .hbm, ⟨70, _⟩ => ⟨S16x30x1, .i32⟩
  | .hbm, ⟨71, _⟩ => ⟨S1x1x2197504, .i32⟩
  | .hbm, ⟨72, _⟩ => ⟨S16x30x2197504, .i32⟩
  | .hbm, ⟨73, _⟩ => ⟨S16x30x2197504, .i32⟩
  | .hbm, ⟨74, _⟩ => ⟨S16x30x2197504, .i1⟩
  | .hbm, ⟨75, _⟩ => ⟨S16x30x2197504, .i1⟩
  | .hbm, ⟨76, _⟩ => ⟨S16x30x1x2197504, .i1⟩
  | .hbm, ⟨77, _⟩ => ⟨S5376, .i32⟩
  | .hbm, ⟨78, _⟩ => ⟨S5376x1, .i32⟩
  | .hbm, ⟨79, _⟩ => ⟨S1x2197504, .i32⟩
  | .hbm, ⟨80, _⟩ => ⟨S5376x2197504, .i32⟩
  | .hbm, ⟨81, _⟩ => ⟨S5376x2197504, .i32⟩
  | .hbm, ⟨82, _⟩ => ⟨S5376x2197504, .i1⟩
  | .hbm, ⟨83, _⟩ => ⟨S1x1x5376x2197504, .i1⟩
  | .hbm, ⟨84, _⟩ => ⟨S16x30x5376x2197504, .i1⟩
  | .hbm, ⟨85, _⟩ => ⟨S16x30x5376x2197504, .i1⟩
  | .hbm, ⟨86, _⟩ => ⟨S16x30x5376x2197504, .i1⟩
  | .hbm, ⟨87, _⟩ => ⟨S768, .i32⟩
  | .hbm, ⟨88, _⟩ => ⟨S768x1, .i32⟩
  | .hbm, ⟨89, _⟩ => ⟨S1x2197504, .i32⟩
  | .hbm, ⟨90, _⟩ => ⟨S768x2197504, .i32⟩
  | .hbm, ⟨91, _⟩ => ⟨S768x2197504, .i32⟩
  | .hbm, ⟨92, _⟩ => ⟨S768x2197504, .i1⟩
  | .hbm, ⟨93, _⟩ => ⟨S768x2197504, .f32⟩
  | .hbm, ⟨94, _⟩ => ⟨S160x2197504, .f32⟩
  | .hbm, ⟨95, _⟩ => ⟨S2197504, .f32⟩
  | .hbm, ⟨96, _⟩ => ⟨S1x2197504, .f32⟩
  | .hbm, ⟨97, _⟩ => ⟨S160x2197504, .f32⟩
  | .hbm, ⟨98, _⟩ => ⟨S160x2197504, .f32⟩
  | .hbm, ⟨99, _⟩ => ⟨S160x1x2197504, .f32⟩
  | .hbm, ⟨100, _⟩ => ⟨S160x16x2197504, .f32⟩
  | .hbm, ⟨101, _⟩ => ⟨S16x30x5376x2197504, .f32⟩
  | .hbm, ⟨102, _⟩ => ⟨S160x30x5376, .f32⟩
  | .hbm, ⟨103, _⟩ => ⟨S768x161280, .f32⟩
  | .hbm, ⟨104, _⟩ => ⟨S160x161280, .f32⟩
  | .hbm, ⟨105, _⟩ => ⟨S160x161280, .f32⟩
  | .hbm, ⟨106, _⟩ => ⟨S160x161280, .f32⟩
  | .hbm, ⟨107, _⟩ => ⟨S160x160000, .f32⟩
  | .hbm, ⟨108, _⟩ => ⟨S160x160000, .bf16⟩
  | _, _ => ⟨S2048, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_c : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_c_0 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_c_1 : Ref sig .tc := ⟨.hbm, 27, rfl⟩
abbrev main_v21 : Ref sig .tc := ⟨.hbm, 28, rfl⟩
abbrev main_v22 : Ref sig .tc := ⟨.hbm, 29, rfl⟩
abbrev main_c_2 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_c_3 : Ref sig .tc := ⟨.hbm, 36, rfl⟩
abbrev main_v28 : Ref sig .tc := ⟨.hbm, 37, rfl⟩
abbrev main_v29 : Ref sig .tc := ⟨.hbm, 38, rfl⟩
abbrev main_c_4 : Ref sig .tc := ⟨.hbm, 39, rfl⟩
abbrev main_v30 : Ref sig .tc := ⟨.hbm, 40, rfl⟩
abbrev main_v31 : Ref sig .tc := ⟨.hbm, 41, rfl⟩
abbrev main_c_5 : Ref sig .tc := ⟨.hbm, 42, rfl⟩
abbrev main_v32 : Ref sig .tc := ⟨.hbm, 43, rfl⟩
abbrev main_v33 : Ref sig .tc := ⟨.hbm, 44, rfl⟩
abbrev main_c_6 : Ref sig .tc := ⟨.hbm, 45, rfl⟩
abbrev main_v34 : Ref sig .tc := ⟨.hbm, 46, rfl⟩
abbrev main_v35 : Ref sig .tc := ⟨.hbm, 47, rfl⟩
abbrev main_c_7 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩
abbrev main_v64 : Ref sig .tc := ⟨.hbm, 77, rfl⟩
abbrev main_v65 : Ref sig .tc := ⟨.hbm, 78, rfl⟩
abbrev main_v66 : Ref sig .tc := ⟨.hbm, 79, rfl⟩
abbrev main_v67 : Ref sig .tc := ⟨.hbm, 80, rfl⟩
abbrev main_v68 : Ref sig .tc := ⟨.hbm, 81, rfl⟩
abbrev main_v69 : Ref sig .tc := ⟨.hbm, 82, rfl⟩
abbrev main_v70 : Ref sig .tc := ⟨.hbm, 83, rfl⟩
abbrev main_v71 : Ref sig .tc := ⟨.hbm, 84, rfl⟩
abbrev main_v72 : Ref sig .tc := ⟨.hbm, 85, rfl⟩
abbrev main_v73 : Ref sig .tc := ⟨.hbm, 86, rfl⟩
abbrev main_v74 : Ref sig .tc := ⟨.hbm, 87, rfl⟩
abbrev main_v75 : Ref sig .tc := ⟨.hbm, 88, rfl⟩
abbrev main_v76 : Ref sig .tc := ⟨.hbm, 89, rfl⟩
abbrev main_v77 : Ref sig .tc := ⟨.hbm, 90, rfl⟩
abbrev main_v78 : Ref sig .tc := ⟨.hbm, 91, rfl⟩
abbrev main_v79 : Ref sig .tc := ⟨.hbm, 92, rfl⟩
abbrev main_v80 : Ref sig .tc := ⟨.hbm, 93, rfl⟩
abbrev main_v81 : Ref sig .tc := ⟨.hbm, 94, rfl⟩
abbrev main_v82 : Ref sig .tc := ⟨.hbm, 95, rfl⟩
abbrev main_v83 : Ref sig .tc := ⟨.hbm, 96, rfl⟩
abbrev main_v84 : Ref sig .tc := ⟨.hbm, 97, rfl⟩
abbrev main_v85 : Ref sig .tc := ⟨.hbm, 98, rfl⟩
abbrev main_v86 : Ref sig .tc := ⟨.hbm, 99, rfl⟩
abbrev main_v87 : Ref sig .tc := ⟨.hbm, 100, rfl⟩
abbrev main_v88 : Ref sig .tc := ⟨.hbm, 101, rfl⟩
abbrev main_v89 : Ref sig .tc := ⟨.hbm, 102, rfl⟩
abbrev main_v90 : Ref sig .tc := ⟨.hbm, 103, rfl⟩
abbrev main_v91 : Ref sig .tc := ⟨.hbm, 104, rfl⟩
abbrev main_v92 : Ref sig .tc := ⟨.hbm, 105, rfl⟩
abbrev main_v93 : Ref sig .tc := ⟨.hbm, 106, rfl⟩
abbrev main_v94 : Ref sig .tc := ⟨.hbm, 107, rfl⟩
abbrev main_v95 : Ref sig .tc := ⟨.hbm, 108, rfl⟩

abbrev nD : Nat := 1
abbrev τ : Topo := Topo.v7x

variable {F : FTy → Type} [FloatOps F]
-- ==== Prep.lean ====
abbrev S768x160 : Shape := ⟨2, ![768, 160]⟩
abbrev S768 : Shape := ⟨1, ![768]⟩
abbrev S384000 : Shape := ⟨1, ![384000]⟩
abbrev S160x768 : Shape := ⟨2, ![160, 768]⟩
abbrev S1x768 : Shape := ⟨2, ![1, 768]⟩
abbrev S3000x128 : Shape := ⟨2, ![3000, 128]⟩
abbrev S750x128 : Shape := ⟨2, ![750, 128]⟩

abbrev nBuf : Space → Nat
  | .hbm => 9
  | .vmem => 5
  | .smem => 0
  | _ => 0

abbrev bufTy : (tb : Table) → Fin (tcTables nBuf tb) → BufTy
  | .hbm, ⟨0, _⟩ => ⟨S768x160, .bf16⟩
  | .hbm, ⟨1, _⟩ => ⟨S768, .i8⟩
  | .hbm, ⟨2, _⟩ => ⟨S384000, .i8⟩
  | .hbm, ⟨3, _⟩ => ⟨S160x768, .bf16⟩
  | .hbm, ⟨4, _⟩ => ⟨S768, .i32⟩
  | .hbm, ⟨5, _⟩ => ⟨S1x768, .i32⟩
  | .hbm, ⟨6, _⟩ => ⟨S3000x128, .i8⟩
  | .hbm, ⟨7, _⟩ => ⟨S160x768, .bf16⟩
  | .hbm, ⟨8, _⟩ => ⟨S750x128, .i32⟩
  | .local _ .vmem, ⟨0, _⟩ => ⟨S160x768, .bf16⟩
  | .local _ .vmem, ⟨1, _⟩ => ⟨S1x768, .i32⟩
  | .local _ .vmem, ⟨2, _⟩ => ⟨S3000x128, .i8⟩
  | .local _ .vmem, ⟨3, _⟩ => ⟨S160x768, .bf16⟩
  | .local _ .vmem, ⟨4, _⟩ => ⟨S750x128, .i32⟩
  | _, _ => ⟨S768x160, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4_0 : Ref sig .tc := ⟨.hbm, 7, rfl⟩
abbrev main_v4_1 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S160x768 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x768 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S3000x128 .i8 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S160x768 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S750x128 .i32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== PrepReferenceIdeal.lean ====
abbrev S768x160 : Shape := ⟨2, ![768, 160]⟩
abbrev S768 : Shape := ⟨1, ![768]⟩
abbrev S384000 : Shape := ⟨1, ![384000]⟩
abbrev S_ : Shape := ⟨0, ![]⟩
abbrev S768x1 : Shape := ⟨2, ![768, 1]⟩
abbrev S750x4x128 : Shape := ⟨3, ![750, 4, 128]⟩
abbrev S750x1x128 : Shape := ⟨3, ![750, 1, 128]⟩
abbrev S750x128 : Shape := ⟨2, ![750, 128]⟩
abbrev S160x768 : Shape := ⟨2, ![160, 768]⟩

abbrev nBuf : Space → Nat
  | .hbm => 44
  | .vmem => 0
  | .smem => 0
  | _ => 0

abbrev bufTy : (tb : Table) → Fin (tcTables nBuf tb) → BufTy
  | .hbm, ⟨0, _⟩ => ⟨S768x160, .bf16⟩
  | .hbm, ⟨1, _⟩ => ⟨S768, .i8⟩
  | .hbm, ⟨2, _⟩ => ⟨S384000, .i8⟩
  | .hbm, ⟨3, _⟩ => ⟨S768, .i32⟩
  | .hbm, ⟨4, _⟩ => ⟨S_, .i32⟩
  | .hbm, ⟨5, _⟩ => ⟨S768, .i32⟩
  | .hbm, ⟨6, _⟩ => ⟨S768, .i32⟩
  | .hbm, ⟨7, _⟩ => ⟨S768, .f32⟩
  | .hbm, ⟨8, _⟩ => ⟨S_, .f32⟩
  | .hbm, ⟨9, _⟩ => ⟨S768, .f32⟩
  | .hbm, ⟨10, _⟩ => ⟨S768, .f32⟩
  | .hbm, ⟨11, _⟩ => ⟨S768, .bf16⟩
  | .hbm, ⟨12, _⟩ => ⟨S768x160, .f32⟩
  | .hbm, ⟨13, _⟩ => ⟨S768, .f32⟩
  | .hbm, ⟨14, _⟩ => ⟨S_, .f32⟩
  | .hbm, ⟨15, _⟩ => ⟨S768, .f32⟩
  | .hbm, ⟨16, _⟩ => ⟨S768, .f32⟩
  | .hbm, ⟨17, _⟩ => ⟨S768x1, .f32⟩
  | .hbm, ⟨18, _⟩ => ⟨S768x160, .f32⟩
  | .hbm, ⟨19, _⟩ => ⟨S768x160, .f32⟩
  | .hbm, ⟨20, _⟩ => ⟨S768x160, .bf16⟩
  | .hbm, ⟨21, _⟩ => ⟨S750x4x128, .i8⟩
  | .hbm, ⟨22, _⟩ => ⟨S750x4x128, .i32⟩
  | .hbm, ⟨23, _⟩ => ⟨S750x1x128, .i32⟩
  | .hbm, ⟨24, _⟩ => ⟨S750x128, .i32⟩
  | .hbm, ⟨25, _⟩ => ⟨S750x1x128, .i32⟩
  | .hbm, ⟨26, _⟩ => ⟨S750x128, .i32⟩
  | .hbm, ⟨27, _⟩ => ⟨S_, .i32⟩
  | .hbm, ⟨28, _⟩ => ⟨S750x128, .i32⟩
  | .hbm, ⟨29, _⟩ => ⟨S750x128, .i32⟩
  | .hbm, ⟨30, _⟩ => ⟨S750x128, .i32⟩
  | .hbm, ⟨31, _⟩ => ⟨S750x1x128, .i32⟩
  | .hbm, ⟨32, _⟩ => ⟨S750x128, .i32⟩
  | .hbm, ⟨33, _⟩ => ⟨S_, .i32⟩
  | .hbm, ⟨34, _⟩ => ⟨S750x128, .i32⟩
  | .hbm, ⟨35, _⟩ => ⟨S750x128, .i32⟩
  | .hbm, ⟨36, _⟩ => ⟨S750x128, .i32⟩
  | .hbm, ⟨37, _⟩ => ⟨S750x1x128, .i32⟩
  | .hbm, ⟨38, _⟩ => ⟨S750x128, .i32⟩
  | .hbm, ⟨39, _⟩ => ⟨S_, .i32⟩
  | .hbm, ⟨40, _⟩ => ⟨S750x128, .i32⟩
  | .hbm, ⟨41, _⟩ => ⟨S750x128, .i32⟩
  | .hbm, ⟨42, _⟩ => ⟨S750x128, .i32⟩
  | .hbm, ⟨43, _⟩ => ⟨S160x768, .bf16⟩
  | _, _ => ⟨S768x160, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_c_1 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_c_2 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_c_3 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩

abbrev nD : Nat := 1
abbrev τ : Topo := Topo.v7x

variable {F : FTy → Type} [FloatOps F]
-- ==== Proof.Kernel.Points.lean ====
/- The kernel body at a grid point, and when the constant input is fetched. -/
module

public import proofs.«01_k».proof.Proof.Gen.Kernel
public import Idealize.ShloMosaic.Lib.Pipeline.Kit

@[expose] public section

noncomputable section

namespace Cert.Kernel.Gen

open Idealize.ShloMosaic Idealize.ShloMosaic.TcCoe
open Idealize.SL Idealize.SL.Sem

variable {F : FTy → Type} [FloatOps F]
/-! ## custom_call 0 -/

/-! A call with PREFETCHED TABLES: its memrefs and body are stated over the pipeline at ANY admissible contents `a`
    of the tables (a certificate instantiates them at the contents it reads off the launch memory). A window whose
    index map reads no table has the same schedule at every `a`: stated over the grid, the window's direction and
    that map alone (Lib/Pipeline/Kit.lean `Window.fetchOf` / `flushOf`), proved from the map and the fact about the
    axes it reads (`hreadsK_W`) or decided, and restated over the pinned window, which unfolds to them. A window whose
    map reads a table gets none here. -/

-- window 0: no schedule fact — its index map has a form the schedule evaluator does not handle
/-- Window 1 (operand 2 (%arg2)) is fetched at the first point only, at any contents of the tables (its index map reads none). -/
theorem fetch0_1 (a : (pcfg0 (F := F)).Adm) : ∀ t : Fin (cfg0 a).N, ((cfg0 a).win 1).fetch t = true ↔ t.val % 30 = 0 :=
  (fun t => Pipeline.Window.fetchOf_const cc0_transform_1 (fun _ _ => rfl) (n := 30) (by decide) t : ∀ t : Fin grid0.N, Pipeline.Window.fetchOf grid0 false cc0_transform_1 t = true ↔ t.val % 30 = 0)
-- window 2: no schedule fact — its index map has a form the schedule evaluator does not handle

/-- The current staging memref of each window at point `t`: which of its buffers it is on. -/
abbrev st0_0 (a : (pcfg0 (F := F)).Adm) (t : Fin (cfg0 a).N) := ((cfg0 a).win 0).stage ((cfg0 a).slots t 0)
abbrev st0_1 (a : (pcfg0 (F := F)).Adm) (t : Fin (cfg0 a).N) := ((cfg0 a).win 1).stage ((cfg0 a).slots t 1)
abbrev st0_2 (a : (pcfg0 (F := F)).Adm) (t : Fin (cfg0 a).N) := ((cfg0 a).win 2).stage ((cfg0 a).slots t 2)

/-- The kernel body at point `t`, on what the pipeline calls it with (`defs₀`'s row at the slots). -/
abbrev bodyAt0 (a : (pcfg0 (F := F)).Adm) (t : Fin (cfg0 a).N) : Prog (TpuEff nD τ sig (Elt F) Λ₀ .tc) PUnit :=
  cc0_spmm (grid0.coords t) (Memref.whole main_arg0) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (Memref.whole main_arg3) (Memref.isWhole_whole _) (spec0_2.stage ((cfg0 a).slots t 2)) (hstage0_2 (((cfg0 a).slots t 2).cast nbuf0_2)) (Memref.whole cc0_scratch0) (Memref.isWhole_whole _) (Memref.whole cc0_scratch1) (Memref.isWhole_whole _) (Memref.whole cc0_scratch2) (Memref.isWhole_whole _) cc0_scratch3

end Cert.Kernel.Gen

end
-- ==== Proof.Kernel.Kit.lean ====
/- What the run of the kernel is stated over: the tables, the windows' blocks, the staging buffers, the scratch, the
   operand left in HBM and the body's semaphore. -/
module

public import proofs.«01_k».proof.Proof.Gen.Kernel.Launch
public import proofs.«01_k».proof.Proof.Gen.Kernel.Skeleton
public import proofs.«01_k».proof.Proof.Kernel.Points
public import Idealize.ShloMosaic.Lib.Pipeline.FrameBody
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)
/-! ## @main up to the region -/

/-- Core `c`'s TensorCore buffers when the region is entered: as launched (@main is the region alone). -/
abbrev V (c : Dev nD) (b : Ref sig .tc) : Buf (Elt F) ((c : Thread nD τ).loc b) := m ((c : Thread nD τ).loc b)

set_option maxHeartbeats 800000 in
/-- @main up to the region, at the certificate's variants `𝒱₀`: the region alone (`Pipeline.hmain_region` off
    `main_chain`). -/
theorem hmain (𝒱₀ : Variants) : Pipeline.HMainP (Ix := Unit) (Name := ℕ) (U := Pipeline.UD sig nD τ) (Lvl := ℕ) pcfgs 0 defs₀ 𝒱₀ m (main (F := F)) (V m) :=
  Pipeline.hmainP_region pcfgs 0 defs₀ 𝒱₀ m main fun c => (main_chain c).trans rfl

theorem V_main_arg0 (c : Dev nD) : V m c main_arg0 = m ((c : Thread nD τ).loc main_arg0) := rfl
theorem V_main_arg1 (c : Dev nD) : V m c main_arg1 = m ((c : Thread nD τ).loc main_arg1) := rfl
theorem V_main_arg2 (c : Dev nD) : V m c main_arg2 = m ((c : Thread nD τ).loc main_arg2) := rfl
theorem V_main_arg3 (c : Dev nD) : V m c main_arg3 = m ((c : Thread nD τ).loc main_arg3) := rfl

/-! ## The prefetched tables, read off the launch memory -/

/-- The tables' contents when the region is entered (`V`; the program runs on ONE device: device 0's). -/
def tbl : pre0.Contents (Elt F) := fun j => V m (0 : Dev nD) (pre0.ref j)
/-- On every device the tables hold those contents (there is one device). -/
theorem V_pre (c : Dev nD) (j : Fin 1) : V m c (pre0.ref j) = tbl m j := by
  obtain rfl : c = 0 := Subsingleton.elim _ _; rfl
/-- The pipeline's side condition of the tables' contents: every window whose index map reads a table has its block
    inside the array at every point (the printed `ok0`; `True` when no map reads a table). The frame holds
    under it; Proof.lean proves it from the precondition. -/
abbrev Ok : Prop := ok0 (F := F) (tbl m)
/-- The tables' contents as ADMISSIBLE contents, and the pipeline at them: what the launch theorem runs
    (Lib/Pipeline/Frame.lean `θ_run_frameP`). -/
abbrev adm (hO : Ok m) : (pcfg0 (F := F)).Adm := ⟨tbl m, hO⟩
abbrev cfgM (hO : Ok m) : Pipeline.Cfg sig Λ₀ := cfg0 (adm m hO)

/-- Each table as the body is handed it: its whole buffer as a memref, and that memref's wholeness. -/
abbrev tbM0_0 : Memref sig .tc .smem S2048 .i32 := Memref.whole main_arg0
abbrev htbM0_0 : tbM0_0.IsWhole := Memref.isWhole_whole _

/-- A table memref's buffer on core `c`: its contents type, and it held at HALF the full share at `f` — behind this
    abbreviation, so that the run's rewriting of the goal leaves `Memref.view` intact (the form the executor reads a held
    buffer in); read-only: the pipeline keeps the other half. -/
abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp (MT nD τ sig Unit (Elt F) ℕ (Pipeline.UD sig nD τ) ℕ) :=
  M.view.loc (c : Thread nD τ) ↦{fullShare.right} f

/-- The tables' halves the region hands the body (Lib/Pipeline/Frame.lean `ΦT`), table by table: what the body
    obligation hands the run and takes back. -/
theorem PhiT0_eq (c : Dev nD) : (Pipeline.ΦT pre0 (tbl m) c : sProp (MT nD τ sig Unit (Elt F) ℕ (Pipeline.UD sig nD τ) ℕ)) = iprop(tbPt0 c tbM0_0 (tbl m 0)) := by
  unfold Pipeline.ΦT Pipeline.prefHeld
  rw [show (Finset.univ : Finset (Fin 1)) = {(0 : Fin 1)} from by decide, bigSep_singleton]
  rfl

/-! ## The windows' blocks -/

/-- Window `w`'s block at point `t`, read off its array as the region finds it (`V`) — for a window whose index map reads a
    table, a function of the tables' words (`hO`: the pipeline at them). -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of (hO : Ok m) {c : Dev nD} (dat : Dat τ (Elt F) Unit ℕ (Pipeline.UD sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of (hO : Ok m) {c : Dev nD} (dat : Dat τ (Elt F) Unit ℕ (Pipeline.UD sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `RDat.FramePost` read at the argument arrays — a staged input by the library's
    `RDat.FramePost.arr_in`, an array no window stages by the post's second clause, each then by `V_…` — is the frame
    claim's post (`Cert.frame_Kernel`, Defs.lean, at any `F`). -/
theorem frame_of (hO : Ok m) (rdat : (c : Dev nD) → Pipeline.RDat τ (Elt F) Unit ℕ (Pipeline.UD sig nD τ) ℕ ((Pipeline.pin pcfgs fun _ => adm m hO) 0) c)
    (hA : ∀ c w, (rdat c).A w = V m c (Pipeline.arrRef spec0 w))
    (h : θ_run defs (onTc (τ := τ) (main (F := F))) (s₀ m ρ) (Pipeline.RDat.FramePost ((Pipeline.pin pcfgs fun _ => adm m hO) 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h c).2 main_arg0 (by decide : main_arg0 ∈ Pipeline.restRefs sig spec0)).trans (V_main_arg0 m c),
      (Pipeline.RDat.FramePost.arr_in h c 0 rfl).trans ((hA c 0).trans (V_main_arg1 m c)),
      (Pipeline.RDat.FramePost.arr_in h c 1 rfl).trans ((hA c 1).trans (V_main_arg2 m c)),
      ((h c).2 main_arg3 (by decide : main_arg3 ∈ Pipeline.restRefs sig spec0)).trans (V_main_arg3 m c)⟩) h

/-! ## The kernel body on any staging memrefs: a subtype the run finds -/

/-- Each window's current staging memref at point `t`, spelled as the pipeline passes it (`bodyAt0`), and its wholeness. -/
abbrev ms0_0 (hO : Ok m) (t : Fin (cfgM m hO).N) : Memref sig .tc .vmem S1x16x336x128 .i32 := spec0_0.stage ((cfgM m hO).slots t 0)
abbrev hs0_0 (hO : Ok m) (t : Fin (cfgM m hO).N) : (ms0_0 m hO t).IsWhole := hstage0_0 (((cfgM m hO).slots t 0).cast nbuf0_0)
abbrev ms0_1 (hO : Ok m) (t : Fin (cfgM m hO).N) : Memref sig .tc .vmem S160x768 .bf16 := spec0_1.stage ((cfgM m hO).slots t 1)
abbrev hs0_1 (hO : Ok m) (t : Fin (cfgM m hO).N) : (ms0_1 m hO t).IsWhole := hstage0_1 (((cfgM m hO).slots t 1).cast nbuf0_1)
abbrev ms0_2 (hO : Ok m) (t : Fin (cfgM m hO).N) : Memref sig .tc .vmem S160x5376 .bf16 := spec0_2.stage ((cfgM m hO).slots t 2)
abbrev hs0_2 (hO : Ok m) (t : Fin (cfgM m hO).N) : (ms0_2 m hO t).IsWhole := hstage0_2 (((cfgM m hO).slots t 2).cast nbuf0_2)
/-- The scratch operands: whole scoped buffers of the kernel's own, passed beside the windows. -/
abbrev scM0_0 : Memref sig .tc .vmem S384x256 .i32 := Memref.whole cc0_scratch0
abbrev scM0_1 : Memref sig .tc .vmem S160x256 .f32 := Memref.whole cc0_scratch1
abbrev scM0_2 : Memref sig .tc .smem S8x128 .i32 := Memref.whole cc0_scratch2
/-- The operands left in HBM that the body copies into scratch itself, whole. -/
abbrev hbM0_0 : Memref sig .tc .hbm S17168x128 .i32 := Memref.whole main_arg3
/-- Memref `M`'s buffer on core `c`: its contents type, and it held whole at `f` — behind this abbreviation, so that the
    run's rewriting of the goal leaves `Memref.view` intact (the form the executor reads a held buffer in). -/
abbrev HbBuf0 (c : Dev nD) {sp : Space} {S : Shape} {e : EltTy} (M : Memref sig .tc sp S e) : Type := Buf (Elt F) (M.view.loc (c : Thread nD τ))
abbrev hbPt0 (c : Dev nD) {sp : Space} {S : Shape} {e : EltTy} (M : Memref sig .tc sp S e) (f : HbBuf0 (F := F) c M) : sProp (MT nD τ sig Unit (Elt F) ℕ (Pipeline.UD sig nD τ) ℕ) :=
  M.view.loc (c : Thread nD τ) ↦{fullShare} f

/-- The body's own DMA semaphores, cell by cell (their numbers in the pool): the kernel's own semaphores for the launch
    (`Pipeline.OwnSemFacts`: none is a window's). -/
abbrev osem0 : Fin 1 → SemLoc sig := fun j => (![SemLoc.dma 5] : Fin 1 → SemLoc sig) j
theorem ownSemFacts0 : Pipeline.OwnSemFacts spec0 osem0 := by decide
/-- The cells at zero, listed. -/
theorem ownSems00_eq (c : Dev nD) :
    (Pipeline.ownSems0 (Ix := Unit) (Name := ℕ) (U := Pipeline.UD sig nD τ) (Lvl := ℕ) (Val := Elt F) (τ := τ) osem0 c : sProp (MT nD τ sig Unit (Elt F) ℕ (Pipeline.UD sig nD τ) ℕ))
      = iprop(semVal ((c : Thread nD τ), SemLoc.dma 5) 0) := by
  rw [Pipeline.ownSems0_eq_of_list c osem0 [0] (by decide) (by decide)]; rfl
/-- The HBM operands the body moves, as references: unscoped, no window's array, no table (`Pipeline.restRefsP`). -/
def H0 : Finset (Ref sig .tc) := {main_arg3}
theorem H0_sub : H0 ⊆ Pipeline.restRefsP sig pre0 spec0 := by decide
/-- Their points-tos at the launch contents, listed. -/
theorem hbmPts0_eq (c : Dev nD) :
    (bigSep H0 (fun b => ((c : Thread nD τ).loc b) ↦{fullShare} V m c b) : sProp (MT nD τ sig Unit (Elt F) ℕ (Pipeline.UD sig nD τ) ℕ)) = iprop(hbPt0 c hbM0_0 (V m c main_arg3)) := by
  rw [BI.bigSep_eq_bigSepL_of_eq [main_arg3] (by decide) (by decide)]; rfl

/-- The invariant of a body with transfers of its own, `Pipeline.ΦD`, conjunct by conjunct: the scratch operands owned at
    some contents, the generator register at some state, the own cells at zero, the HBM operands at their launch
    contents — what the body obligation hands the run and takes back. -/
theorem PhiD0_eq (c : Dev nD) :
    (Pipeline.ΦD osem0 spec0 H0 (V m) c : sProp (MT nD τ sig Unit (Elt F) ℕ (Pipeline.UD sig nD τ) ℕ))
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r) ∗ iprop(semVal ((c : Thread nD τ), SemLoc.dma 5) 0) ∗ iprop(hbPt0 c hbM0_0 (V m c main_arg3))) := by
  rw [Pipeline.ΦD_eq, scopedRest0_eq, ownSems00_eq, hbmPts0_eq]; simp only [scM0_0, scM0_1, scM0_2, owns_whole]; try rfl

end Cert.Kernel.Gen

end
-- ==== Proof.Kernel.Words.lean ====
/- What the kernel computes with the table's and the exceptions' words, as functions: the words of a batch, the test
   that a word's column lies in the pair of column blocks at hand, and the number of hits. -/
module

public import proofs.«01_k».proof.Proof.Kernel.Kit
public import Idealize.ShloMosaic.Lib.LoopRemainder

@[expose] public section

set_option maxRecDepth 16384

noncomputable section

namespace Cert.Kernel.Gen

open Idealize.ShloMosaic Idealize.ShloMosaic.TcCoe

variable {F : FTy → Type} [FloatOps F]

/-- `f` applied for the first `k` of `n` trips. -/
def iterFin {α : Type} (n : ℕ) (f : Fin n → α → α) (a : α) : ℕ → α
  | 0 => a
  | k + 1 => if h : k < n then f ⟨k, h⟩ (iterFin n f a k) else iterFin n f a k

theorem iterFin_succ {α : Type} (n : ℕ) (f : Fin n → α → α) (a : α) (k : Fin n) :
    iterFin n f a (k.val + 1) = f k (iterFin n f a k.val) := dif_pos k.isLt

/-- The element of `X` at offsets `o` (taken modulo the extents, so that no evidence is carried along). -/
def atO {s : Shape} (hs : ∀ a, 0 < s.size a) {α : Type} (X : s.Idx → α) (o : Fin s.rank → ℕ) : α :=
  X fun a => ⟨o a % s.size a, Nat.mod_lt _ (hs a)⟩

theorem pos_S2048 : ∀ a, 0 < S2048.size a := by decide
theorem pos_S8x128 : ∀ a, 0 < S8x128.size a := by decide
theorem pos_S17168x128 : ∀ a, 0 < S17168x128.size a := by decide

/-- A one-element load at offsets inside the array is the element there. -/
theorem readAt_atO {κ : Kind} {sp : Space} {s : Shape} {e : EltTy} (hs : ∀ a, 0 < s.size a) (v : View sig κ sp s e)
    (o size : Fin s.rank → ℕ) (h1 : ∀ a, size a = 1) (h : ∀ a, o a + size a ≤ s.size a) (f : v.ty.Contents (Elt F))
    (x : (Rect.unit (s := s) o size h).toLoadRect.shape.Idx) :
    View.readAt (Elt F) v (Rect.unit (s := s) o size h).toLoadRect f x = atO hs (v.read (Elt F) f) o := by
  refine congrArg (v.read (Elt F) f) (funext fun a => Fin.ext ?_)
  have h2 : (x a).val < size a := (x a).isLt
  have h3 := h a
  have h4 := h1 a
  show o a + 1 * (x a).val = o a % s.size a
  rw [Nat.mod_eq_of_lt (by omega)]; omega

/-- Eight rows of the exceptions, from row `o 0`. -/
def batch (E : Vec F S17168x128 .i32) (o : Fin 2 → ℕ) : Vec F S8x128 .i32 :=
  fun x => atO pos_S17168x128 E fun a => o a + (x a).val

/-- The `j`-th word of batch `k` of the exceptions whose first place and number are `v20` and `v26`. -/
def wordOf (E : Vec F S17168x128 .i32) (v20 v26 : BitVec 32) (k : Fin (k0_t5_loop v26).trips)
    (j : Fin (k0_t6_loop v26 k).trips) : BitVec 32 :=
  atO pos_S8x128 (batch E (k0_off21 v20 v26 k)) (k0_off22 v26 k j)

/-- Word `v`'s column lies in pair `p` of column blocks. -/
def hit (p v : BitVec 32) : BitVec 1 :=
  Scalar.andi (Scalar.cmpi .sge (Scalar.subi (Scalar.shrui v 18#32) (Scalar.muli p 256#32)) 0#32)
    (Scalar.cmpi .slt (Scalar.subi (Scalar.shrui v 18#32) (Scalar.muli p 256#32)) 256#32)

/-- The table's word at `o`. -/
abbrev tabAt (T : Vec F S2048 .i32) (o : Fin 1 → ℕ) : BitVec 32 := atO pos_S2048 T o

/-- `f` applied to every word of batch `k`, in order. -/
def overBatch {α : Type} (E : Vec F S17168x128 .i32) (f : BitVec 32 → α → α) (v20 v26 : BitVec 32)
    (k : Fin (k0_t5_loop v26).trips) (a : α) : α :=
  iterFin (k0_t6_loop v26 k).trips (fun j => f (wordOf E v20 v26 k j)) a (k0_t6_loop v26 k).trips

/-- `f` applied to every word of the exceptions whose first place and number are `v20` and `v26`, in order. -/
def overList {α : Type} (E : Vec F S17168x128 .i32) (f : BitVec 32 → α → α) (v20 v26 : BitVec 32) (a : α) : α :=
  iterFin (k0_t5_loop v26).trips (overBatch E f v20 v26) a (k0_t5_loop v26).trips

/-- The first place of the exceptions of sub `w`, and their number. -/
abbrev firstAt (T : Vec F S2048 .i32) (i : grid0.Coords) (w : Fin k0_t4_loop.trips) : BitVec 32 := tabAt T (k0_off19 i w)
abbrev countAt (T : Vec F S2048 .i32) (i : grid0.Coords) (w : Fin k0_t4_loop.trips) : BitVec 32 := tabAt T (k0_off20 i w)

/-- `f` applied to every exception of the block, sub by sub. -/
def overSubs {α : Type} (T : Vec F S2048 .i32) (E : Vec F S17168x128 .i32) (i : grid0.Coords) (f : BitVec 32 → α → α)
    (a : α) : ℕ → α :=
  iterFin k0_t4_loop.trips (fun w => overList E f (firstAt T i w) (countAt T i w)) a

/-- One more hit if the word is one. -/
def addHit (p v a : BitVec 32) : BitVec 32 := Scalar.addi a (Scalar.extui (hit p v))

/-- The number of the block's exceptions. -/
def totalOf (T : Vec F S2048 .i32) (i : grid0.Coords) : ℕ → BitVec 32 :=
  iterFin k0_t2_loop.trips (fun w a => Scalar.addi a (tabAt T (k0_off18 i w))) 0#32

/-- Every sub's exceptions lie inside the array: the kernel's transfers and loads are in bounds. -/
def InRange (T : Vec F S2048 .i32) (i : grid0.Coords) : Prop :=
  (∀ v4 w, k0_chk1 v4 (firstAt T i w) (countAt T i w)) ∧ (∀ v4 v10 w, k0_chk2 v4 v10 (firstAt T i w) (countAt T i w))

end Cert.Kernel.Gen

end
-- ==== Proof.Kernel.Bounds.lean ====
/- The exceptions of a block lie inside their array: the bounds the kernel's loops rely on. -/
module

public import proofs.«01_k».proof.Proof.Kernel.Words

public import Idealize.ShloMosaic.Lib.LoopRemainder

@[expose] public section

set_option maxRecDepth 16384

set_option warn.classDefReducibility false

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The exceptions from place `a`, `n` of them, lie inside the array and begin at a whole batch. -/
structure Fits (a n : BitVec 32) : Prop where
  n0 : 0 ≤ n.toInt
  a0 : 0 ≤ a.toInt
  am : a.toInt % 1024 = 0
  le : a.toInt + n.toInt ≤ 2197504

open Affine in
theorem ub5 {a n : BitVec 32} (h : Fits a n) : IsInt (k0_t5_loop n).ub ((n.toInt + 1023) / 1024) := by
  obtain ⟨h1, h2, h3, h4⟩ := h
  have e : (k0_t5_loop n).ub = Scalar.addi 0#32 (Scalar.subi (Scalar.divsi (Scalar.addi n 1023#32) 1024#32) 0#32) := by
    show Scalar.addi 0#32 (Scalar.muli (Scalar.divsi _ 1#32) 1#32) = _
    rw [Scalar.muli_divsi_one]
  rw [e]
  have i1 : IsInt (Scalar.addi n 1023#32) (n.toInt + 1023) := addi (word n) (ofNat (e := 1023) 1023 ⟨rfl, by decide⟩) ⟨rfl, by omega, by omega⟩
  have i2 : IsInt (Scalar.divsi (Scalar.addi n 1023#32) 1024#32) ((n.toInt + 1023) / 1024) :=
    divsi i1 (ofNat (e := 1024) 1024 ⟨rfl, by decide⟩) ⟨rfl, by omega, by omega⟩
  have i3 := subi (e := (n.toInt + 1023) / 1024) i2 (ofNat (e := 0) 0 ⟨rfl, by decide⟩) ⟨by omega, by omega, by omega⟩
  exact addi (ofNat (e := 0) 0 ⟨rfl, by decide⟩) i3 ⟨by omega, by omega, by omega⟩

open Affine in
theorem trips5 {a n : BitVec 32} (h : Fits a n) : (k0_t5_loop n).trips = ((n.toInt + 1023) / 1024).toNat := by
  have := h.n0
  exact trips_eq (ofNat (e := 0) 0 ⟨rfl, by decide⟩) (ub5 h) (ofNat (e := 1) 1 ⟨rfl, by decide⟩) _ ⟨by decide, by omega⟩

open Affine in
theorem ok5 {a n : BitVec 32} (h : Fits a n) : (k0_t5_loop n).OK := by
  obtain ⟨h1, h2, h3, h4⟩ := h
  exact ok (ofNat (e := 0) 0 ⟨rfl, by decide⟩) (ub5 ⟨h1, h2, h3, h4⟩) (ofNat (e := 1) 1 ⟨rfl, by decide⟩) ⟨by decide, by omega⟩

/-- Batch `k` begins before the last exception. -/
theorem batch_lt {a n : BitVec 32} (h : Fits a n) (k : Fin (k0_t5_loop n).trips) : 1024 * (k.val : Int) < n.toInt := by
  have h1 : k.val < ((n.toInt + 1023) / 1024).toNat := lt_of_lt_of_eq k.isLt (trips5 h)
  omega

open Affine in
theorem iv01 (k : ℕ) (h : k < 2 ^ 31) : IsInt (Scf.iv 0#32 1#32 k) k :=
  iv (ofNat (e := 0) 0 ⟨rfl, by decide⟩) (ofNat (e := 1) 1 ⟨rfl, by decide⟩) k ⟨by omega, by omega, by omega⟩

open Affine in
theorem row21 {a n : BitVec 32} (h : Fits a n) (k : Fin (k0_t5_loop n).trips) : IsInt (k0_mult34 a n k) (a.toInt / 128 + 8 * k.val) := by
  have hk := batch_lt h k
  obtain ⟨h1, h2, h3, h4⟩ := h
  have i1 := shrsi (e := a.toInt / 128) (word a) (ofNat (e := 7) 7 ⟨rfl, by decide⟩) 7 128 (by decide) ⟨rfl, rfl, by decide⟩
  have i2 := muli (e := 8 * k.val) (iv01 k.val (by omega)) (ofNat (e := 8) 8 ⟨rfl, by decide⟩) ⟨by omega, by omega, by omega⟩
  exact addi i1 i2 ⟨rfl, by omega, by omega⟩

theorem off21 {a n : BitVec 32} (h : Fits a n) (k : Fin (k0_t5_loop n).trips) : k0_off21 a n k = ![(a.toInt / 128 + 8 * k.val).toNat, 0] := by
  have h1 := Affine.toNat_of (row21 h k) (by have := h.a0; omega)
  show ![(k0_mult34 a n k).toNat, 0] = _
  rw [← h1]; rfl

open Affine in
theorem ub6 {a n : BitVec 32} (h : Fits a n) (k : Fin (k0_t5_loop n).trips) :
    IsInt (k0_t6_loop n k).ub (min (n.toInt - 1024 * k.val) 1024) := by
  have hk := batch_lt h k
  obtain ⟨h1, h2, h3, h4⟩ := h
  have e : (k0_t6_loop n k).ub = Scalar.addi 0#32 (Scalar.subi (Scalar.minsi (Scalar.subi n (Scalar.muli (Scf.iv 0#32 1#32 k) 1024#32)) 1024#32) 0#32) := by
    show Scalar.addi 0#32 (Scalar.muli (Scalar.divsi _ 1#32) 1#32) = _
    rw [Scalar.muli_divsi_one]
  rw [e]
  have i2 := muli (e := 1024 * k.val) (iv01 k.val (by omega)) (ofNat (e := 1024) 1024 ⟨rfl, by decide⟩) ⟨by omega, by omega, by omega⟩
  have i3 := subi (e := n.toInt - 1024 * k.val) (word n) i2 ⟨rfl, by omega, by omega⟩
  have i4 := minsi (e := min (n.toInt - 1024 * k.val) 1024) i3 (ofNat (e := 1024) 1024 ⟨rfl, by decide⟩) rfl
  have i5 := subi (e := min (n.toInt - 1024 * k.val) 1024) i4 (ofNat (e := 0) 0 ⟨rfl, by decide⟩) ⟨by omega, by omega, by omega⟩
  exact addi (ofNat (e := 0) 0 ⟨rfl, by decide⟩) i5 ⟨by omega, by omega, by omega⟩

open Affine in
theorem trips6 {a n : BitVec 32} (h : Fits a n) (k : Fin (k0_t5_loop n).trips) :
    (k0_t6_loop n k).trips = (min (n.toInt - 1024 * k.val) 1024).toNat := by
  have := batch_lt h k
  exact trips_eq (ofNat (e := 0) 0 ⟨rfl, by decide⟩) (ub6 h k) (ofNat (e := 1) 1 ⟨rfl, by decide⟩) _ ⟨by decide, by omega⟩

open Affine in
theorem ok6 {a n : BitVec 32} (h : Fits a n) (k : Fin (k0_t5_loop n).trips) : (k0_t6_loop n k).OK := by
  have := batch_lt h k
  exact ok (ofNat (e := 0) 0 ⟨rfl, by decide⟩) (ub6 h k) (ofNat (e := 1) 1 ⟨rfl, by decide⟩) ⟨by decide, by omega⟩

theorem toNat_andi127 (x : BitVec 32) : (Scalar.andi x 127#32).toNat = x.toNat % 128 := by
  show (x &&& 127#32).toNat = _
  rw [BitVec.toNat_and]
  exact Nat.and_two_pow_sub_one_eq_mod x.toNat 7

open Affine in
theorem off22 {a n : BitVec 32} (h : Fits a n) (k : Fin (k0_t5_loop n).trips) (j : Fin (k0_t6_loop n k).trips) :
    k0_off22 n k j = ![j.val / 128, j.val % 128] ∧ j.val < 1024 := by
  have hj : j.val < (min (n.toInt - 1024 * k.val) 1024).toNat := lt_of_lt_of_eq j.isLt (trips6 h k)
  have hj' : j.val < 1024 := by omega
  have i0 := iv01 j.val (by omega)
  have i1 := shrsi (e := (j.val : Int) / 128) i0 (ofNat (e := 7) 7 ⟨rfl, by decide⟩) 7 128 (by decide) ⟨rfl, rfl, by decide⟩
  have e1 := toNat_of i1 (by omega)
  have e0 := toNat_of i0 (by omega)
  refine ⟨?_, hj'⟩
  show ![(Scalar.shrsi (Scf.iv 0#32 1#32 j) 7#32).toNat, (Scalar.andi (Scf.iv 0#32 1#32 j) 127#32).toNat] = _
  rw [toNat_andi127]
  have a1 : (Scalar.shrsi (Scf.iv 0#32 1#32 j.val) 7#32).toNat = j.val / 128 := by omega
  have a2 : (Scf.iv 0#32 1#32 j.val).toNat % 128 = j.val % 128 := by omega
  rw [a1, a2]

/-- The kernel's transfers and loads of these exceptions are in bounds, in both of its passes over them. -/
theorem chk1 {a n : BitVec 32} (h : Fits a n) (v4 : BitVec 32) : k0_chk1 v4 a n := by
  refine ⟨fun _ => ok5 h, fun k _ => ?_, fun k _ => ?_, fun k _ => ok6 h k, fun k j _ => ?_, fun _ _ => Scf.rem_ok _ _, fun _ j _ => (Scf.rem_no_trip _ _ j).elim,
    fun _ => Scf.rem_ok _ _, fun k _ => (Scf.rem_no_trip _ _ k).elim, fun k _ => (Scf.rem_no_trip _ _ k).elim, fun k _ => (Scf.rem_no_trip _ _ k).elim,
    fun k _ _ => (Scf.rem_no_trip _ _ k).elim, fun k _ => (Scf.rem_no_trip _ _ k).elim, fun k _ _ => (Scf.rem_no_trip _ _ k).elim⟩
  · obtain ⟨h1, h2, h3, h4⟩ := h
    exact Affine.dvd_of (row21 ⟨h1, h2, h3, h4⟩ k) 8 ⟨by omega, by omega⟩
  · have hk := batch_lt h k
    rw [off21 h k]
    obtain ⟨h1, h2, h3, h4⟩ := h
    intro x
    fin_cases x
    · show (a.toInt / 128 + 8 * k.val).toNat + 8 ≤ 17168
      omega
    · exact (by decide : 0 + 128 ≤ 128)
  · obtain ⟨e, hj⟩ := off22 h k j
    rw [e]
    intro x
    fin_cases x
    · show j.val / 128 + 1 ≤ 8
      omega
    · show j.val % 128 + 1 ≤ 128
      omega

theorem chk2 {a n : BitVec 32} (h : Fits a n) (v4 v10 : BitVec 32) : k0_chk2 v4 v10 a n := by
  obtain ⟨c1, c2, c3, c4, c5, c6, c7, c8, c9, c10, c11, c12, c13, c14⟩ := chk1 h v4
  exact ⟨fun h _ => c1 h, fun k h _ => c2 k h, fun k h _ => c3 k h, fun k h _ => c4 k h, fun k j h _ => c5 k j h, fun k h _ => c6 k h, fun k j h _ => c7 k j h,
    fun h _ => c8 h, fun k h _ => c9 k h, fun k h _ => c10 k h, fun k h _ => c11 k h, fun k j h _ => c12 k j h, fun k h _ => c13 k h, fun k j h _ => c14 k j h⟩

theorem inRange_of (T : Vec F S2048 .i32) (i : grid0.Coords) (h : ∀ w, Fits (firstAt T i w) (countAt T i w)) : InRange T i :=
  ⟨fun v4 w => chk1 (h w) v4, fun v4 v10 w => chk2 (h w) v4 v10⟩

end Cert.Kernel.Gen
-- ==== Proof.Kernel.Count.lean ====
/- The loops that count: the block's exceptions, and those of them whose column lies in a pair of column blocks. -/
module

public import proofs.«01_k».proof.Proof.Kernel.Words

@[expose] public section

set_option maxRecDepth 16384

set_option warn.classDefReducibility false

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- What the run's assertions are stated over. -/
abbrev Mach (F : FTy → Type) : Type _ := MT nD τ sig Unit (Elt F) ℕ (Pipeline.UD sig nD τ) ℕ

/-- A memref's buffer held whole at `f`. -/
abbrev held (c : Dev nD) {sp : Space} {s : Shape} {e : EltTy} (M : Memref sig .tc sp s e)
    (f : BufTy.Contents (Elt F) M.view.ty) : sProp (Mach F) :=
  M.view.loc (c : Thread nD τ) ↦[M.view.set]{fullShare} f

/-- Eight rows of the exceptions copied over a buffer: what the buffer then reads. -/
theorem read_copied (c : Dev nD) {arg8 : Memref sig .tc .smem S8x128 .i32} (g : BufTy.Contents (Elt F) arg8.view.ty)
    (xe : HbBuf0 (F := F) c hbM0_0) (o : Fin 2 → ℕ) (h : ∀ a, o a + S8x128.size a ≤ S17168x128.size a) (hh) :
    View.read (Elt F) arg8.view (arg8.view.writes (Elt F) g
      [⟨Rect.whole S8x128, ReadAs.same.apply (View.read (Elt F) (hbM0_0.slice (Rect.unit (s := S17168x128) o S8x128.size h) hh).view xe)⟩])
      = batch (hbM0_0.view.read (Elt F) xe) o := by
  funext x
  have hx : (Rect.whole S8x128).emb x = x := funext fun a => Fin.ext (by
    show 0 + 1 * (x a).val = (x a).val; omega)
  have key := View.read_writes_cons_emb arg8.view g (Rect.whole S8x128)
    (ReadAs.same.apply (View.read (Elt F) (hbM0_0.slice (Rect.unit (s := S17168x128) o S8x128.size h) hh).view xe)) [] x
  rw [hx] at key
  rw [key]
  refine congrArg (hbM0_0.view.read (Elt F) xe) (funext fun a => Fin.ext ?_)
  have h3 := h a
  have h4 : (x a).val < S8x128.size a := (x a).isLt
  show o a + 1 * (x a).val = (o a + (x a).val) % S17168x128.size a
  rw [Nat.mod_eq_of_lt (by omega)]; omega

variable (c : Dev nD) (i : grid0.Coords) (arg2 : Memref sig .tc .vmem S1x16x336x128 .i32) (harg2 : arg2.IsWhole) (arg3 : Memref sig .tc .vmem S160x768 .bf16) (harg3 : arg3.IsWhole) (arg5 : Memref sig .tc .vmem S160x5376 .bf16) (harg5 : arg5.IsWhole) (arg6 : Memref sig .tc .vmem S384x256 .i32) (harg6 : arg6.IsWhole) (arg7 : Memref sig .tc .vmem S160x256 .f32) (harg7 : arg7.IsWhole) (arg8 : Memref sig .tc .smem S8x128 .i32) (harg8 : arg8.IsWhole)
  (xt : TbBuf0 (F := F) c tbM0_0)

/-- The loop that sums the table's counts. -/
@[sl_loop] def loop2 :
    Idealize.ShloMosaic.LoopInv (M := Mach F) Idealize.ShloMosaic.frame (wpE (defs₀ (F := F)) Variants.none (c : Thread nD τ) none) Set.univ
      k0_t2_loop.lb k0_t2_loop.ub k0_t2_loop.st k0_t2_ok 0#32
      (k0_t2_body (F := F) i tbM0_0 htbM0_0 arg2 harg2 arg3 harg3 hbM0_0 (Memref.isWhole_whole _) arg5 harg5 arg6 harg6 arg7 harg7 arg8 harg8 cc0_scratch3) where
  inv k acc := iprop(tbPt0 c tbM0_0 xt ∗ ⌜acc = totalOf (tbM0_0.view.read (Elt F) xt) i k⌝)
  step k acc := by
    unfold k0_t2_body
    iintro ⟨H, %ha⟩
    sl_exec
    sl_step
    sl_unfold_words
    isplitl [H]; · iexact H
    ipureintro
    subst ha
    refine Eq.trans ?_ (iterFin_succ k0_t2_loop.trips
      (fun w a => Scalar.addi a (tabAt (tbM0_0.view.read (Elt F) xt) (k0_off18 i w))) 0#32 k).symm
    exact congrArg₂ Scalar.addi rfl (readAt_atO pos_S2048 _ _ _ (by decide) _ _ _)

/-- The loop over a batch's words that counts the hits. -/
@[sl_loop] def loop6 (v4 : BitVec 32) (k0_h1 : k0_cond1 v4 = 1#1) (arg10 : BitVec 32) (v20 v26 : Elt F .i32)
    (k0_hw1 : k0_chk1 v4 v20 v26) (k0_t5 : Fin (k0_t5_loop v26).trips) (g8 : BufTy.Contents (Elt F) arg8.view.ty) (acc0 : BitVec 32) :
    Idealize.ShloMosaic.LoopInv (M := Mach F) Idealize.ShloMosaic.frame (wpE (defs₀ (F := F)) Variants.none (c : Thread nD τ) none) Set.univ
      (k0_t6_loop v26 k0_t5).lb (k0_t6_loop v26 k0_t5).ub (k0_t6_loop v26 k0_t5).st (k0_t6_ok v4 v20 v26 k0_hw1 k0_t5 k0_h1) acc0
      (k0_t6_body (F := F) i tbM0_0 htbM0_0 arg2 harg2 arg3 harg3 hbM0_0 (Memref.isWhole_whole _) arg5 harg5 arg6 harg6 arg7 harg7 arg8 harg8 cc0_scratch3 v4 k0_h1 arg10 v20 v26 k0_hw1 k0_t5) where
  inv k acc := iprop(held c arg8 g8 ∗ ⌜acc = iterFin (k0_t6_loop v26 k0_t5).trips
    (fun j => addHit arg10 (atO pos_S8x128 (arg8.view.read (Elt F) g8) (k0_off22 v26 k0_t5 j))) acc0 k⌝)
  step k acc := by
    unfold k0_t6_body
    iintro ⟨H, %ha⟩
    sl_exec
    sl_step
    sl_unfold_words
    isplitl [H]; · iexact H
    ipureintro
    subst ha
    exact (congrArg (fun v => addHit arg10 v _) (readAt_atO pos_S8x128 _ _ _ (by decide) _ _ _)).trans
      (iterFin_succ _ _ _ k).symm

/-- The loop over the batches of one sub's exceptions: each is copied in, then counted. -/
@[sl_loop] def loop5 (v4 : BitVec 32) (k0_h1 : k0_cond1 v4 = 1#1) (arg10 : BitVec 32) (v20 v26 : Elt F .i32)
    (k0_hw1 : k0_chk1 v4 v20 v26) (xe : HbBuf0 (F := F) c hbM0_0) (acc0 : BitVec 32) :
    Idealize.ShloMosaic.LoopInv (M := Mach F) Idealize.ShloMosaic.frame (wpE (defs₀ (F := F)) Variants.none (c : Thread nD τ) none) Set.univ
      (k0_t5_loop v26).lb (k0_t5_loop v26).ub (k0_t5_loop v26).st (k0_t5_ok v4 v20 v26 k0_hw1 k0_h1) acc0
      (k0_t5_body (F := F) i tbM0_0 htbM0_0 arg2 harg2 arg3 harg3 hbM0_0 (Memref.isWhole_whole _) arg5 harg5 arg6 harg6 arg7 harg7 arg8 harg8 cc0_scratch3 v4 k0_h1 arg10 v20 v26 k0_hw1) where
  inv k acc := iprop((∃ g8, held c arg8 g8) ∗ hbPt0 c hbM0_0 xe ∗ semVal ((c : Thread nD τ), SemLoc.dma 5) 0
    ∗ (∃ W, owes (c : Thread nD τ) 0 W) ∗ ⌜acc = iterFin (k0_t5_loop v26).trips
      (overBatch (hbM0_0.view.read (Elt F) xe) (addHit arg10) v20 v26) acc0 k⌝)
  step k acc := by
    unfold k0_t5_body
    iintro ⟨⟨%g8, H8⟩, HE, HS, ⟨%W, HW⟩, %ha⟩
    sl_exec
    sl_unfold_words
    isplitl [H8]; · iexists _; iexact H8
    isplitl [HE]; · iexact HE
    isplitl [HS]; · iexact HS
    isplitl [HW]; · iexists _; iexact HW
    ipureintro
    subst ha
    refine Eq.trans ?_ (iterFin_succ _ _ _ k).symm
    exact congrArg (fun X => iterFin (k0_t6_loop v26 k).trips (fun j => addHit arg10 (atO pos_S8x128 X (k0_off22 v26 k j))) _ _)
      (read_copied (F := F) c _ xe _ _ _)

end Cert.Kernel.Gen
-- ==== Proof.Kernel.CountAll.lean ====
/- The loop over the subs that counts the hits of one pair of column blocks. -/
module

public import proofs.«01_k».proof.Proof.Kernel.Count

@[expose] public section

set_option maxRecDepth 16384

set_option warn.classDefReducibility false

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

variable (c : Dev nD) (i : grid0.Coords) (arg2 : Memref sig .tc .vmem S1x16x336x128 .i32) (harg2 : arg2.IsWhole) (arg3 : Memref sig .tc .vmem S160x768 .bf16) (harg3 : arg3.IsWhole) (arg5 : Memref sig .tc .vmem S160x5376 .bf16) (harg5 : arg5.IsWhole) (arg6 : Memref sig .tc .vmem S384x256 .i32) (harg6 : arg6.IsWhole) (arg7 : Memref sig .tc .vmem S160x256 .f32) (harg7 : arg7.IsWhole) (arg8 : Memref sig .tc .smem S8x128 .i32) (harg8 : arg8.IsWhole)
  (xt : TbBuf0 (F := F) c tbM0_0)

theorem chk1_of {v4 : BitVec 32} {a a' b b' : Elt F .i32} (ha : a = a') (hb : b = b') (h : k0_chk1 v4 a' b') : k0_chk1 v4 a b := by
  subst ha hb; exact h

theorem overList_of {α : Type} {E : Vec F S17168x128 .i32} {f : BitVec 32 → α → α} {x : α} {a a' b b' : BitVec 32} (ha : a = a') (hb : b = b') :
    iterFin (k0_t5_loop b).trips (overBatch E f a b) x (k0_t5_loop b).trips = overList E f a' b' x := by subst ha hb; rfl

/-- The loop over the subs: the hits of all of them. -/
@[sl_loop] def loop4 (hr : InRange (F := F) (tbM0_0.view.read (Elt F) xt) i) (v4 : BitVec 32) (k0_h1 : k0_cond1 v4 = 1#1) (arg10 : BitVec 32)
    (xe : HbBuf0 (F := F) c hbM0_0) :
    Idealize.ShloMosaic.LoopInv (M := Mach F) Idealize.ShloMosaic.frame (wpE (defs₀ (F := F)) Variants.none (c : Thread nD τ) none) Set.univ
      k0_t4_loop.lb k0_t4_loop.ub k0_t4_loop.st k0_t4_ok 0#32
      (k0_t4_body (F := F) i tbM0_0 htbM0_0 arg2 harg2 arg3 harg3 hbM0_0 (Memref.isWhole_whole _) arg5 harg5 arg6 harg6 arg7 harg7 arg8 harg8 cc0_scratch3 v4 k0_h1 arg10) where
  inv k acc := iprop(tbPt0 c tbM0_0 xt ∗ (∃ g8, held c arg8 g8) ∗ hbPt0 c hbM0_0 xe ∗ semVal ((c : Thread nD τ), SemLoc.dma 5) 0
    ∗ (∃ W, owes (c : Thread nD τ) 0 W)
    ∗ ⌜acc = overSubs (tbM0_0.view.read (Elt F) xt) (hbM0_0.view.read (Elt F) xe) i (addHit arg10) 0#32 k⌝)
  step k acc := by
    unfold k0_t4_body
    iintro ⟨HT, ⟨%g8, H8⟩, HE, HS, ⟨%W, HW⟩, %ha⟩
    sl_exec (disch := exact chk1_of (readAt_atO pos_S2048 _ _ _ (by decide) _ _ _) (readAt_atO pos_S2048 _ _ _ (by decide) _ _ _) (hr.1 v4 k))
    isplitl [HT]; · iexact HT
    isplitl [H8]; · iexists _; iexact H8
    isplitl [HE]; · iexact HE
    isplitl [HS]; · iexact HS
    isplitl [HW]; · iexists _; iexact HW
    ipureintro
    subst ha
    refine Eq.trans ?_ (iterFin_succ k0_t4_loop.trips (fun w => overList (hbM0_0.view.read (Elt F) xe) (addHit arg10)
      (firstAt (tbM0_0.view.read (Elt F) xt) i w) (countAt (tbM0_0.view.read (Elt F) xt) i w)) 0#32 k).symm
    exact overList_of (a := loop4.sl.r c i xt k) (b := loop4.sl.r_1 c i xt k) (readAt_atO pos_S2048 _ _ _ (by decide) _ _ _)
      (readAt_atO pos_S2048 _ _ _ (by decide) _ _ _)

end Cert.Kernel.Gen
-- ==== Proof.Kernel.Hits.lean ====
/- The loops that add the exceptions of one pair of column blocks to its product. -/
module

public import proofs.«01_k».proof.Proof.Kernel.CountAll

@[expose] public section

set_option maxRecDepth 16384

set_option warn.classDefReducibility false

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

theorem zero_emb {s : Shape} {o : Fin s.rank → ℕ} (h : ∀ a, o a + s.size a ≤ s.size a) (x : s.Idx) :
    (Rect.unit (s := s) o s.size h).emb x = x := funext fun a => Fin.ext (by
  show o a + 1 * (x a).val = (x a).val
  have := h a; omega)

/-- A load of a whole buffer reads what the buffer reads. -/
theorem readAt_all {k : Kind} {sp : Space} {s : Shape} {e : EltTy} (M : Memref sig k sp s e) {o : Fin s.rank → ℕ}
    (h : ∀ a, o a + s.size a ≤ s.size a) (f : BufTy.Contents (Elt F) M.view.ty) :
    View.readAt (Elt F) M.view (Rect.unit (s := s) o s.size h).toLoadRect f = M.view.read (Elt F) f := by
  funext x
  refine congrArg (M.view.read (Elt F) f) (funext fun a => Fin.ext ?_)
  show o a + 1 * (x a).val = (x a).val
  have := h a; omega

/-- What a buffer reads after a store over the whole of it. -/
theorem read_store_all {k : Kind} {sp : Space} {s : Shape} {e : EltTy} (M : Memref sig k sp s e) {o : Fin s.rank → ℕ}
    (h : ∀ a, o a + s.size a ≤ s.size a) (f : BufTy.Contents (Elt F) M.view.ty) (w : s.Idx → Elt F e) :
    M.view.read (Elt F) (M.view.writes (Elt F) f [⟨Rect.unit (s := s) o s.size h, w⟩]) = w := by
  funext x
  have key := View.read_writes_cons_emb M.view f (Rect.unit (s := s) o s.size h) w [] x
  rwa [zero_emb] at key

/-- The loop's test of a word: whether it is a hit. -/
abbrev hitFlag (p v : BitVec 32) : BitVec 1 :=
  Scalar.cmpi .ne (Scalar.extui (Scalar.cmpi .sgt (Scalar.extui (hit p v)) 0#32)) 0#32

/-- The product with one exception added if it is a hit. -/
def addExc (X : Vec F S160x768 .bf16) (p : Fin k0_t3_loop.trips) (v : BitVec 32) (A : Vec F S160x256 .f32) : Vec F S160x256 .f32 :=
  if hitFlag (Scf.iv 0#32 1#32 p) v = 1#1 then k0_pay3 p v X A else A

/-- A trip's store, read: the product with one exception added if it is a hit. -/
theorem read_addExc {arg7 : Memref sig .tc .vmem S160x256 .f32} {arg3 : Memref sig .tc .vmem S160x768 .bf16}
    (p : Fin k0_t3_loop.trips) {w w' : BitVec 32} (hw : w = w') (f7 : BufTy.Contents (Elt F) arg7.view.ty) (g3 : BufTy.Contents (Elt F) arg3.view.ty)
    {A : Vec F S160x256 .f32} (hA : arg7.view.read (Elt F) f7 = A) :
    arg7.view.read (Elt F) (if hc : hitFlag (Scf.iv 0#32 1#32 p) w = 1#1 then
        arg7.view.writes (Elt F) f7 [⟨Rect.unit (s := S160x256) ![0, 0] S160x256.size inb_S160x256_S160x256_0_0,
          k0_pay3 p w (View.readAt (Elt F) arg3.view (Rect.unit (s := S160x768) ![0, 0] S160x768.size inb_S160x768_S160x768_0_0).toLoadRect g3)
            (View.readAt (Elt F) arg7.view (Rect.unit (s := S160x256) ![0, 0] S160x256.size inb_S160x256_S160x256_0_0).toLoadRect f7)⟩]
      else f7) = addExc (arg3.view.read (Elt F) g3) p w' A := by
  subst hw hA
  unfold addExc
  split
  · rw [read_store_all, readAt_all, readAt_all]
  · rfl

variable (c : Dev nD) (i : grid0.Coords) (arg2 : Memref sig .tc .vmem S1x16x336x128 .i32) (harg2 : arg2.IsWhole) (arg3 : Memref sig .tc .vmem S160x768 .bf16) (harg3 : arg3.IsWhole) (arg5 : Memref sig .tc .vmem S160x5376 .bf16) (harg5 : arg5.IsWhole) (arg6 : Memref sig .tc .vmem S384x256 .i32) (harg6 : arg6.IsWhole) (arg7 : Memref sig .tc .vmem S160x256 .f32) (harg7 : arg7.IsWhole) (arg8 : Memref sig .tc .smem S8x128 .i32) (harg8 : arg8.IsWhole)
  (xt : TbBuf0 (F := F) c tbM0_0)

/-- The loop over a batch's words that adds the hits. -/
@[sl_loop] def loop13 (v4 : BitVec 32) (k0_h1 : k0_cond1 v4 = 1#1) (k0_t3 : Fin k0_t3_loop.trips) (v10 : BitVec 32) (k0_h2 : k0_cond2 v10 = 1#1) (v1028 v1034 : Elt F .i32)
    (k0_hw2 : k0_chk2 v4 v10 v1028 v1034) (k0_t12 : Fin (k0_t12_loop v1034).trips) (g8 : BufTy.Contents (Elt F) arg8.view.ty)
    (g3 : BufTy.Contents (Elt F) arg3.view.ty) (A0 : Vec F S160x256 .f32) :
    Idealize.ShloMosaic.LoopInv (M := Mach F) Idealize.ShloMosaic.frame (wpE (defs₀ (F := F)) Variants.none (c : Thread nD τ) none) Set.univ
      (k0_t13_loop v1034 k0_t12).lb (k0_t13_loop v1034 k0_t12).ub (k0_t13_loop v1034 k0_t12).st (k0_t13_ok v4 v10 v1028 v1034 k0_hw2 k0_t12 k0_h1 k0_h2) ⟨⟩
      (k0_t13_body (F := F) i tbM0_0 htbM0_0 arg2 harg2 arg3 harg3 hbM0_0 (Memref.isWhole_whole _) arg5 harg5 arg6 harg6 arg7 harg7 arg8 harg8 cc0_scratch3 v4 k0_h1 k0_t3 (Scf.iv 0#32 1#32 k0_t3) v10 k0_h2 v1028 v1034 k0_hw2 k0_t12) where
  inv k _ := iprop(held c arg8 g8 ∗ held c arg3 g3 ∗ (∃ f7, held c arg7 f7 ∗ ⌜arg7.view.read (Elt F) f7 = iterFin (k0_t13_loop v1034 k0_t12).trips
    (fun j => addExc (arg3.view.read (Elt F) g3) k0_t3 (atO pos_S8x128 (arg8.view.read (Elt F) g8) (k0_off46 v1034 k0_t12 j))) A0 k⌝))
  step k acc := by
    unfold k0_t13_body
    iintro ⟨H8, H3, %f7, H7, %ha⟩
    sl_exec
    sl_step
    isplitl [H8]; · iexact H8
    isplitl [H3]; · iexact H3
    iexists _
    isplitl [H7]; · iexact H7
    ipureintro
    refine Eq.trans ?_ (iterFin_succ (k0_t13_loop v1034 k0_t12).trips
      (fun j => addExc (arg3.view.read (Elt F) g3) k0_t3 (atO pos_S8x128 (arg8.view.read (Elt F) g8) (k0_off46 v1034 k0_t12 j))) A0 k).symm
    exact read_addExc k0_t3 (w := loop13.sl.r arg8 v4 k0_h1 v10 k0_h2 v1028 v1034 k0_hw2 k0_t12 g8 k)
      (readAt_atO pos_S8x128 _ _ _ (by decide) _ _ _) f7 g3 ha

/-- The loop over the batches of one sub's exceptions: each is copied in, then added. -/
@[sl_loop] def loop12 (v4 : BitVec 32) (k0_h1 : k0_cond1 v4 = 1#1) (k0_t3 : Fin k0_t3_loop.trips) (v10 : BitVec 32) (k0_h2 : k0_cond2 v10 = 1#1) (v1028 v1034 : Elt F .i32)
    (k0_hw2 : k0_chk2 v4 v10 v1028 v1034) (xe : HbBuf0 (F := F) c hbM0_0)
    (g3 : BufTy.Contents (Elt F) arg3.view.ty) (A0 : Vec F S160x256 .f32) :
    Idealize.ShloMosaic.LoopInv (M := Mach F) Idealize.ShloMosaic.frame (wpE (defs₀ (F := F)) Variants.none (c : Thread nD τ) none) Set.univ
      (k0_t12_loop v1034).lb (k0_t12_loop v1034).ub (k0_t12_loop v1034).st (k0_t12_ok v4 v10 v1028 v1034 k0_hw2 k0_h1 k0_h2) ⟨⟩
      (k0_t12_body (F := F) i tbM0_0 htbM0_0 arg2 harg2 arg3 harg3 hbM0_0 (Memref.isWhole_whole _) arg5 harg5 arg6 harg6 arg7 harg7 arg8 harg8 cc0_scratch3 v4 k0_h1 k0_t3 (Scf.iv 0#32 1#32 k0_t3) v10 k0_h2 v1028 v1034 k0_hw2) where
  inv k _ := iprop((∃ g8, held c arg8 g8) ∗ hbPt0 c hbM0_0 xe ∗ semVal ((c : Thread nD τ), SemLoc.dma 5) 0
    ∗ (∃ W, owes (c : Thread nD τ) 0 W) ∗ held c arg3 g3 ∗ (∃ f7, held c arg7 f7 ∗ ⌜arg7.view.read (Elt F) f7 = iterFin (k0_t5_loop v1034).trips
    (overBatch (hbM0_0.view.read (Elt F) xe) (addExc (arg3.view.read (Elt F) g3) k0_t3) v1028 v1034) A0 k⌝))
  step k acc := by
    unfold k0_t12_body
    iintro ⟨⟨%g8, H8⟩, HE, HS, ⟨%W, HW⟩, H3, %f7, H7, %ha⟩
    sl_exec
    sl_step
    sl_unfold_words
    isplitl [H8]; · iexists _; iexact H8
    isplitl [HE]; · iexact HE
    isplitl [HS]; · iexact HS
    isplitl [HW]; · iexists _; iexact HW
    isplitl [H3]; · iexact H3
    iexists _
    isplitl [H7]; · iexact H7
    ipureintro
    refine hL3.trans (Eq.trans ?_ (iterFin_succ (k0_t5_loop v1034).trips
      (overBatch (hbM0_0.view.read (Elt F) xe) (addExc (arg3.view.read (Elt F) g3) k0_t3) v1028 v1034) A0 k).symm)
    rw [← ha]
    exact congrArg (fun X => iterFin (k0_t13_loop v1034 k).trips
        (fun j => addExc (arg3.view.read (Elt F) g3) k0_t3 (atO pos_S8x128 X (k0_off46 v1034 k j))) (arg7.view.read (Elt F) f7) _)
      (read_copied (F := F) c _ xe _ _ _)

theorem chk2_of {v4 v10 : BitVec 32} {a a' b b' : Elt F .i32} (ha : a = a') (hb : b = b') (h : k0_chk2 v4 v10 a' b') : k0_chk2 v4 v10 a b := by
  subst ha hb; exact h

/-- The loop over the subs that adds the hits of all of them. -/
@[sl_loop] def loop11 (hr : InRange (F := F) (tbM0_0.view.read (Elt F) xt) i) (v4 : BitVec 32) (k0_h1 : k0_cond1 v4 = 1#1) (k0_t3 : Fin k0_t3_loop.trips)
    (v10 : BitVec 32) (k0_h2 : k0_cond2 v10 = 1#1) (xe : HbBuf0 (F := F) c hbM0_0)
    (g3 : BufTy.Contents (Elt F) arg3.view.ty) (A0 : Vec F S160x256 .f32) :
    Idealize.ShloMosaic.LoopInv (M := Mach F) Idealize.ShloMosaic.frame (wpE (defs₀ (F := F)) Variants.none (c : Thread nD τ) none) Set.univ
      k0_t11_loop.lb k0_t11_loop.ub k0_t11_loop.st k0_t11_ok ⟨⟩
      (k0_t11_body (F := F) i tbM0_0 htbM0_0 arg2 harg2 arg3 harg3 hbM0_0 (Memref.isWhole_whole _) arg5 harg5 arg6 harg6 arg7 harg7 arg8 harg8 cc0_scratch3 v4 k0_h1 k0_t3 (Scf.iv 0#32 1#32 k0_t3) v10 k0_h2) where
  inv k _ := iprop(tbPt0 c tbM0_0 xt ∗ (∃ g8, held c arg8 g8) ∗ hbPt0 c hbM0_0 xe ∗ semVal ((c : Thread nD τ), SemLoc.dma 5) 0
    ∗ (∃ W, owes (c : Thread nD τ) 0 W) ∗ held c arg3 g3 ∗ (∃ f7, held c arg7 f7 ∗ ⌜arg7.view.read (Elt F) f7 =
    overSubs (tbM0_0.view.read (Elt F) xt) (hbM0_0.view.read (Elt F) xe) i (addExc (arg3.view.read (Elt F) g3) k0_t3) A0 k⌝))
  step k acc := by
    unfold k0_t11_body
    iintro ⟨HT, ⟨%g8, H8⟩, HE, HS, ⟨%W, HW⟩, H3, %f7, H7, %ha⟩
    sl_exec (disch := exact chk2_of (readAt_atO pos_S2048 _ _ _ (by decide) _ _ _) (readAt_atO pos_S2048 _ _ _ (by decide) _ _ _) (hr.2 v4 v10 k))
    sl_step
    isplitl [HT]; · iexact HT
    isplitl [H8]; · iexists _; iexact H8
    isplitl [HE]; · iexact HE
    isplitl [HS]; · iexact HS
    isplitl [HW]; · iexists _; iexact HW
    isplitl [H3]; · iexact H3
    iexists _
    isplitl [H7]; · iexact H7
    ipureintro
    refine hL6.trans (Eq.trans ?_ (iterFin_succ k0_t4_loop.trips (fun w => overList (hbM0_0.view.read (Elt F) xe) (addExc (arg3.view.read (Elt F) g3) k0_t3)
      (firstAt (tbM0_0.view.read (Elt F) xt) i w) (countAt (tbM0_0.view.read (Elt F) xt) i w)) A0 k).symm)
    refine (overList_of (a := loop11.sl.r c i xt k) (b := loop11.sl.r_1 c i xt k) (readAt_atO pos_S2048 _ _ _ (by decide) _ _ _)
      (readAt_atO pos_S2048 _ _ _ (by decide) _ _ _)).trans ?_
    exact congrArg (overList (hbM0_0.view.read (Elt F) xe) (addExc (arg3.view.read (Elt F) g3) k0_t3) _ _) ha

end Cert.Kernel.Gen
-- ==== Proof.Kernel.Buffer.lean ====
/- The buffer of unpacked fields: what it reads once a pair of column blocks has been unpacked into it. -/
module

public import proofs.«01_k».proof.Proof.Kernel.Hits
public import Idealize.ShloMosaic.Lib.Pipeline.Value

@[expose] public section

set_option maxRecDepth 16384

set_option warn.classDefReducibility false

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- Field `f` of a word and of its upper half, each under the exponent bits of a number from 128 on. -/
def fieldOf (f : ℕ) (w : BitVec 32) : BitVec 32 :=
  IntOp.ori (IntOp.andi (match f with | 0 => w | 1 => IntOp.shrui .vector w 5#32 | _ => IntOp.shrui .vector w 10#32) 2031647#32) 1124090624#32

theorem pos_S1x16x336x128 : ∀ a, 0 < S1x16x336x128.size a := by decide

/-- The unpacked fields of pair `p`: the row of 8 `3 w + f` holds field `f` of sub `w`'s words. -/
def aBuf (X : Vec F S1x16x336x128 .i32) (p : ℕ) : Vec F S384x256 .i32 := fun y =>
  fieldOf ((y 0).val / 8 % 3) (atO pos_S1x16x336x128 X
    ![0, (y 0).val / 24, 16 * p + 8 * ((y 1).val / 128) + (y 0).val % 8, (y 1).val % 128])

/-- The index of a [1,1,8,128] block at a place of [8,128]. -/
def unit4 (x : S8x128.Idx) : S1x1x8x128.Idx := fun a => ⟨![0, 0, (x 0).val, (x 1).val] a, by
  have h0 : (x 0).val < 8 := (x 0).isLt
  have h1 : (x 1).val < 128 := (x 1).isLt
  fin_cases a
  · exact Nat.one_pos
  · exact Nat.one_pos
  · exact h0
  · exact h1⟩

theorem cast4 (v : Vec F S1x1x8x128 .i32) (x : S8x128.Idx) :
    shapeCast S8x128 v shapeCasts_S1x1x8x128_S8x128 x = v (unit4 x) :=
  shapeCast_apply v _ x (unit4 x) (by
    rw [Shape.rowMajor_val_four, Shape.rowMajor_val_two]
    show ((0 * 1 + 0) * 8 + (x 0).val) * 128 + (x 1).val = (x 0).val * 128 + (x 1).val
    omega)

theorem field0 (v : Vec F S1x1x8x128 .i32) (x : S8x128.Idx) : k0_pay9 v x = fieldOf 0 (v (unit4 x)) := by
  rw [← cast4 v x]
  unfold k0_pay9
  show shapeCast S8x128 _ shapeCasts_S8x128_S8x128 x = _
  rw [shapeCast_self]; rfl
theorem field1 (v : Vec F S1x1x8x128 .i32) (x : S8x128.Idx) : k0_pay10 v x = fieldOf 1 (v (unit4 x)) := by
  rw [← cast4 v x]
  unfold k0_pay10
  show shapeCast S8x128 _ shapeCasts_S8x128_S8x128 x = _
  rw [shapeCast_self]; rfl
theorem field2 (v : Vec F S1x1x8x128 .i32) (x : S8x128.Idx) : k0_pay11 v x = fieldOf 2 (v (unit4 x)) := by
  rw [← cast4 v x]
  unfold k0_pay11
  show shapeCast S8x128 _ shapeCasts_S8x128_S8x128 x = _
  rw [shapeCast_self]; rfl

/-- A block read at offsets `o`, unpacked and stored at rows from `r0`, columns from `r1`, agrees with the buffer. -/
theorem agrees {arg2 : Memref sig .tc .vmem S1x16x336x128 .i32} (g2 : BufTy.Contents (Elt F) arg2.view.ty) (p : ℕ) {o : Fin 4 → ℕ}
    (h : ∀ a, o a + S1x1x8x128.size a ≤ S1x16x336x128.size a) {r0 r1 : ℕ} (h' : ∀ a, (![r0, r1] : Fin 2 → ℕ) a + S8x128.size a ≤ S384x256.size a)
    (ho : o = ![0, r0 / 24, 16 * p + r1 / 16, 0]) (h0 : 8 ∣ r0) (h1 : 128 ∣ r1) (x : S8x128.Idx) :
    fieldOf (r0 / 8 % 3) (View.readAt (Elt F) arg2.view (Rect.unit (s := S1x16x336x128) o S1x1x8x128.size h).toLoadRect g2 (unit4 x))
      = aBuf (arg2.view.read (Elt F) g2) p ((Rect.unit (s := S384x256) ![r0, r1] S8x128.size h').emb x) := by
  have x0 : (x 0).val < 8 := (x 0).isLt
  have x1 : (x 1).val < 128 := (x 1).isLt
  have e0 : ((Rect.unit (s := S384x256) ![r0, r1] S8x128.size h').emb x 0).val = r0 + 1 * (x 0).val := rfl
  have e1 : ((Rect.unit (s := S384x256) ![r0, r1] S8x128.size h').emb x 1).val = r1 + 1 * (x 1).val := rfl
  unfold aBuf
  rw [e0, e1]
  subst ho
  have hq : (r0 + 1 * (x 0).val) / 8 % 3 = r0 / 8 % 3 := by omega
  rw [hq]
  refine congrArg (fun v => fieldOf (r0 / 8 % 3) v) ?_
  refine congrArg (arg2.view.read (Elt F) g2) (funext fun a => Fin.ext ?_)
  have b1 : r0 / 24 + 1 ≤ 16 := h 1
  have b2 : 16 * p + r1 / 16 + 8 ≤ 336 := h 2
  have b3 : r1 + 128 ≤ 256 := h' 1
  fin_cases a
  · rfl
  · show r0 / 24 + 1 * 0 = (r0 + 1 * (x 0).val) / 24 % 16
    omega
  · show 16 * p + r1 / 16 + 1 * (x 0).val = (16 * p + 8 * ((r1 + 1 * (x 1).val) / 128) + (r0 + 1 * (x 0).val) % 8) % 336
    omega
  · show 0 + 1 * (x 1).val = (r1 + 1 * (x 1).val) % 128 % 128
    omega

theorem piece0 {arg2 : Memref sig .tc .vmem S1x16x336x128 .i32} (g2 : BufTy.Contents (Elt F) arg2.view.ty) (p : ℕ) {o : Fin 4 → ℕ}
    (h : ∀ a, o a + S1x1x8x128.size a ≤ S1x16x336x128.size a) {r0 r1 : ℕ} (h' : ∀ a, (![r0, r1] : Fin 2 → ℕ) a + S8x128.size a ≤ S384x256.size a)
    (ho : o = ![0, r0 / 24, 16 * p + r1 / 16, 0]) (h0 : 8 ∣ r0) (h1 : 128 ∣ r1) (hf : r0 / 8 % 3 = 0) (x : S8x128.Idx) :
    k0_pay9 (View.readAt (Elt F) arg2.view (Rect.unit (s := S1x16x336x128) o S1x1x8x128.size h).toLoadRect g2) x
      = aBuf (arg2.view.read (Elt F) g2) p ((Rect.unit (s := S384x256) ![r0, r1] S8x128.size h').emb x) := by
  rw [← agrees g2 p h h' ho h0 h1, hf]; exact field0 _ x
theorem piece1 {arg2 : Memref sig .tc .vmem S1x16x336x128 .i32} (g2 : BufTy.Contents (Elt F) arg2.view.ty) (p : ℕ) {o : Fin 4 → ℕ}
    (h : ∀ a, o a + S1x1x8x128.size a ≤ S1x16x336x128.size a) {r0 r1 : ℕ} (h' : ∀ a, (![r0, r1] : Fin 2 → ℕ) a + S8x128.size a ≤ S384x256.size a)
    (ho : o = ![0, r0 / 24, 16 * p + r1 / 16, 0]) (h0 : 8 ∣ r0) (h1 : 128 ∣ r1) (hf : r0 / 8 % 3 = 1) (x : S8x128.Idx) :
    k0_pay10 (View.readAt (Elt F) arg2.view (Rect.unit (s := S1x16x336x128) o S1x1x8x128.size h).toLoadRect g2) x
      = aBuf (arg2.view.read (Elt F) g2) p ((Rect.unit (s := S384x256) ![r0, r1] S8x128.size h').emb x) := by
  rw [← agrees g2 p h h' ho h0 h1, hf]; exact field1 _ x
theorem piece2 {arg2 : Memref sig .tc .vmem S1x16x336x128 .i32} (g2 : BufTy.Contents (Elt F) arg2.view.ty) (p : ℕ) {o : Fin 4 → ℕ}
    (h : ∀ a, o a + S1x1x8x128.size a ≤ S1x16x336x128.size a) {r0 r1 : ℕ} (h' : ∀ a, (![r0, r1] : Fin 2 → ℕ) a + S8x128.size a ≤ S384x256.size a)
    (ho : o = ![0, r0 / 24, 16 * p + r1 / 16, 0]) (h0 : 8 ∣ r0) (h1 : 128 ∣ r1) (hf : r0 / 8 % 3 = 2) (x : S8x128.Idx) :
    k0_pay11 (View.readAt (Elt F) arg2.view (Rect.unit (s := S1x16x336x128) o S1x1x8x128.size h).toLoadRect g2) x
      = aBuf (arg2.view.read (Elt F) g2) p ((Rect.unit (s := S384x256) ![r0, r1] S8x128.size h').emb x) := by
  rw [← agrees g2 p h h' ho h0 h1, hf]; exact field2 _ x

/-- The whole buffer loaded after pieces that agree with the unpacked fields and tile it. -/
theorem load_aBuf {arg6 : Memref sig .tc .vmem S384x256 .i32} (X : Vec F S1x16x336x128 .i32) (p : ℕ) (L : List (View.Piece (Elt F) S384x256 .i32))
    (hL : ∀ q ∈ L, ∀ x : q.1.shape.Idx, q.2 x = aBuf X p (q.1.emb x)) (ht : View.Piece.tiled L S8x128.size = true)
    (h : ∀ a, (![0, 0] : Fin 2 → ℕ) a + S384x256.size a ≤ S384x256.size a) :
    arg6.view.readCov L (Rect.unit (s := S384x256) ![0, 0] S384x256.size h).toLoadRect = aBuf X p := by
  refine (readAt_all arg6 h (arg6.view.writes (Elt F) arg6.view.junk L)).trans (funext fun y => ?_)
  exact View.read_writes_apply_of_pieces arg6.view _ (aBuf X p) L hL y (View.cover_of_tiled L S8x128.size ht y)

/-- The block of pair `p` replaced. -/
def putPair (p : ℕ) (w : Vec F S160x256 .bf16) (Y : Vec F S160x5376 .bf16) : Vec F S160x5376 .bf16 := fun y =>
  if (y 1).val / 256 = p then w (fun a => ⟨![(y 0).val, (y 1).val % 256] a, by
    have h0 : (y 0).val < 160 := (y 0).isLt
    fin_cases a
    · exact h0
    · exact Nat.mod_lt _ (by decide)⟩) else Y y

theorem read_put {arg5 : Memref sig .tc .vmem S160x5376 .bf16} (f : BufTy.Contents (Elt F) arg5.view.ty) (p : ℕ) {o : Fin 2 → ℕ}
    (h : ∀ a, o a + S160x256.size a ≤ S160x5376.size a) (ho : o = ![0, 256 * p]) (w : Vec F S160x256 .bf16) :
    arg5.view.read (Elt F) (arg5.view.writes (Elt F) f [⟨Rect.unit (s := S160x5376) o S160x256.size h, w⟩])
      = putPair p w (arg5.view.read (Elt F) f) := by
  subst ho
  funext y
  unfold putPair
  split
  · rename_i hy
    rw [View.read_writes_cons_hit_of_coords arg5.view f _ _ _ (fun a => ⟨![(y 0).val, (y 1).val % 256] a, by
      have h0 : (y 0).val < 160 := (y 0).isLt
      fin_cases a
      · exact h0
      · exact Nat.mod_lt _ (by decide)⟩) y (fun a => by
      fin_cases a
      · show (y 0).val = 0 + 1 * (y 0).val; omega
      · show (y 1).val = 256 * p + 1 * ((y 1).val % 256); omega)]
  · rename_i hy
    rw [View.writes_cons, View.read_slice_write_of_not_mem]
    · rfl
    · rw [Rect.map_emb_univ]
      intro hm
      obtain ⟨x, hx⟩ := (Rect.unit (s := S160x5376) ![0, 256 * p] S160x256.size h).toLoadRect.exists_idx_of_mem hm
      have h1 := congrArg (fun z : S160x5376.Idx => (z 1).val) hx
      have h2 : 256 * p + 1 * (x 1).val = (y 1).val := h1
      have h3 : (x 1).val < 256 := (x 1).isLt
      omega

/-- The product of the scaled rows with pair `p`'s unpacked values. -/
def product (X2 : Vec F S1x16x336x128 .i32) (X3 : Vec F S160x768 .bf16) (p : ℕ) : FVec F S160x256 .f32 := k0_pay154 X3 (aBuf X2 p)

end Cert.Kernel.Gen
-- ==== Proof.Kernel.Products.lean ====
/- The loop that stores the products of the pairs of column blocks. -/
module

public import proofs.«01_k».proof.Proof.Kernel.Buffer

@[expose] public section

set_option maxRecDepth 16384

set_option warn.classDefReducibility false

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

variable (c : Dev nD) (i : grid0.Coords) (arg2 : Memref sig .tc .vmem S1x16x336x128 .i32) (harg2 : arg2.IsWhole) (arg3 : Memref sig .tc .vmem S160x768 .bf16) (harg3 : arg3.IsWhole) (arg5 : Memref sig .tc .vmem S160x5376 .bf16) (harg5 : arg5.IsWhole) (arg6 : Memref sig .tc .vmem S384x256 .i32) (harg6 : arg6.IsWhole) (arg7 : Memref sig .tc .vmem S160x256 .f32) (harg7 : arg7.IsWhole) (arg8 : Memref sig .tc .smem S8x128 .i32) (harg8 : arg8.IsWhole)
  (xt : TbBuf0 (F := F) c tbM0_0)

theorem off17_eq : ∀ k : Fin k0_t1_loop.trips, k0_off17 k = ![0, 256 * k.val] := by decide

set_option maxHeartbeats 4000000 in
/-- The loop over the pairs: each one's product is stored over its block. -/
@[sl_loop] def loop1 (g2 : BufTy.Contents (Elt F) arg2.view.ty) (g3 : BufTy.Contents (Elt F) arg3.view.ty) (Y0 : Vec F S160x5376 .bf16) :
    Idealize.ShloMosaic.LoopInv (M := Mach F) Idealize.ShloMosaic.frame (wpE (defs₀ (F := F)) Variants.none (c : Thread nD τ) none) Set.univ
      k0_t1_loop.lb k0_t1_loop.ub k0_t1_loop.st k0_t1_ok ⟨⟩
      (k0_t1_body (F := F) i tbM0_0 htbM0_0 arg2 harg2 arg3 harg3 hbM0_0 (Memref.isWhole_whole _) arg5 harg5 arg6 harg6 arg7 harg7 arg8 harg8 cc0_scratch3) where
  inv k _ := iprop(held c arg2 g2 ∗ held c arg3 g3 ∗ (∃ f6, held c arg6 f6) ∗ (∃ f5, held c arg5 f5 ∗ ⌜arg5.view.read (Elt F) f5 =
    iterFin k0_t1_loop.trips (fun p => putPair p (k0_pay1 (product (arg2.view.read (Elt F) g2) (arg3.view.read (Elt F) g3) p))) Y0 k⌝))
  step k acc := by
    unfold k0_t1_body
    iintro ⟨H2, H3, ⟨%f6, H6⟩, %f5, H5, %ha⟩
    sl_exec
    sl_step
    isplitl [H2]; · iexact H2
    isplitl [H3]; · iexact H3
    isplitl [H6]; · iexists _; iexact H6
    iexists _
    isplitl [H5]; · iexact H5
    ipureintro
    refine Eq.trans ?_ (iterFin_succ k0_t1_loop.trips (fun p => putPair p (k0_pay1 (product (arg2.view.read (Elt F) g2) (arg3.view.read (Elt F) g3) p))) Y0 k).symm
    rw [← ha]
    clear ha
    refine (read_put f5 k.val (k0_off17_inb k) (off17_eq k) _).trans ?_
    have hG : loop1.sl.v1003 arg2 arg6 g2 k = aBuf (arg2.view.read (Elt F) g2) k.val := by
      unfold loop1.sl.v1003 loop1.sl.H6_96
      refine load_aBuf _ _ _ ?_ rfl _
      iterate 32 (
        refine List.forall_mem_cons.2 ⟨piece2 g2 k.val _ (by decide) ?_ (by decide) (by decide) (by decide), ?_⟩
        · revert k; decide
        refine List.forall_mem_cons.2 ⟨piece1 g2 k.val _ (by decide) ?_ (by decide) (by decide) (by decide), ?_⟩
        · revert k; decide
        refine List.forall_mem_cons.2 ⟨piece0 g2 k.val _ (by decide) ?_ (by decide) (by decide) (by decide), ?_⟩
        · revert k; decide)
      exact fun q hq => absurd hq List.not_mem_nil
    exact congrArg₂ (fun (a : Vec F S160x768 .bf16) (b : Vec F S384x256 .i32) => putPair k.val (k0_pay1 (k0_pay154 a b)) (arg5.view.read (Elt F) f5))
      (readAt_all arg3 _ g3) hG

end Cert.Kernel.Gen
-- ==== Proof.Kernel.Fix.lean ====
/- The loop that recomputes the pairs of column blocks that have exceptions. -/
module

public import proofs.«01_k».proof.Proof.Kernel.Products

@[expose] public section

set_option maxRecDepth 16384

set_option warn.classDefReducibility false

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The number of a pair's hits. -/
abbrev hitsOf (T : Vec F S2048 .i32) (E : Vec F S17168x128 .i32) (i : grid0.Coords) (p : Fin k0_t3_loop.trips) : BitVec 32 :=
  overSubs T E i (addHit (Scf.iv 0#32 1#32 p)) 0#32 k0_t4_loop.trips

/-- The product of a pair with its exceptions added. -/
abbrev fixedOf (T : Vec F S2048 .i32) (E : Vec F S17168x128 .i32) (i : grid0.Coords) (X2 : Vec F S1x16x336x128 .i32) (X3 : Vec F S160x768 .bf16)
    (p : Fin k0_t3_loop.trips) : Vec F S160x256 .f32 :=
  overSubs T E i (addExc X3 p) (k0_pay2 (product X2 X3 p)) k0_t4_loop.trips

/-- A pair's block replaced by the product with the exceptions added, if the pair has any. -/
def fixPair (T : Vec F S2048 .i32) (E : Vec F S17168x128 .i32) (i : grid0.Coords) (X2 : Vec F S1x16x336x128 .i32) (X3 : Vec F S160x768 .bf16)
    (p : Fin k0_t3_loop.trips) (Y : Vec F S160x5376 .bf16) : Vec F S160x5376 .bf16 :=
  if k0_cond2 (hitsOf T E i p) = 1#1 then putPair p (k0_pay7 (fixedOf T E i X2 X3 p)) Y else Y

theorem off51_eq : ∀ k : Fin k0_t3_loop.trips, k0_off51 k = ![0, 256 * k.val] := by decide

variable (c : Dev nD) (i : grid0.Coords) (arg2 : Memref sig .tc .vmem S1x16x336x128 .i32) (harg2 : arg2.IsWhole) (arg3 : Memref sig .tc .vmem S160x768 .bf16) (harg3 : arg3.IsWhole) (arg5 : Memref sig .tc .vmem S160x5376 .bf16) (harg5 : arg5.IsWhole) (arg6 : Memref sig .tc .vmem S384x256 .i32) (harg6 : arg6.IsWhole) (arg7 : Memref sig .tc .vmem S160x256 .f32) (harg7 : arg7.IsWhole) (arg8 : Memref sig .tc .smem S8x128 .i32) (harg8 : arg8.IsWhole)
  (xt : TbBuf0 (F := F) c tbM0_0)

set_option maxHeartbeats 4000000 in
/-- The loop over the pairs that have exceptions. -/
@[sl_loop] def loop3 (hr : InRange (F := F) (tbM0_0.view.read (Elt F) xt) i) (v4 : BitVec 32) (k0_h1 : k0_cond1 v4 = 1#1) (xe : HbBuf0 (F := F) c hbM0_0)
    (g2 : BufTy.Contents (Elt F) arg2.view.ty) (g3 : BufTy.Contents (Elt F) arg3.view.ty) (Y0 : Vec F S160x5376 .bf16) :
    Idealize.ShloMosaic.LoopInv (M := Mach F) Idealize.ShloMosaic.frame (wpE (defs₀ (F := F)) Variants.none (c : Thread nD τ) none) Set.univ
      k0_t3_loop.lb k0_t3_loop.ub k0_t3_loop.st k0_t3_ok ⟨⟩
      (k0_t3_body (F := F) i tbM0_0 htbM0_0 arg2 harg2 arg3 harg3 hbM0_0 (Memref.isWhole_whole _) arg5 harg5 arg6 harg6 arg7 harg7 arg8 harg8 cc0_scratch3 v4 k0_h1) where
  inv k _ := iprop(tbPt0 c tbM0_0 xt ∗ (∃ g8, held c arg8 g8) ∗ hbPt0 c hbM0_0 xe ∗ semVal ((c : Thread nD τ), SemLoc.dma 5) 0
    ∗ (∃ W, owes (c : Thread nD τ) 0 W) ∗ held c arg2 g2 ∗ held c arg3 g3 ∗ (∃ f6, held c arg6 f6) ∗ (∃ f7, held c arg7 f7)
    ∗ (∃ f5, held c arg5 f5 ∗ ⌜arg5.view.read (Elt F) f5 = iterFin k0_t3_loop.trips
      (fixPair (tbM0_0.view.read (Elt F) xt) (hbM0_0.view.read (Elt F) xe) i (arg2.view.read (Elt F) g2) (arg3.view.read (Elt F) g3)) Y0 k⌝))
  step k acc := by
    unfold k0_t3_body
    iintro ⟨HT, ⟨%g8, H8⟩, HE, HS, ⟨%W, HW⟩, H2, H3, ⟨%f6, H6⟩, ⟨%f7, H7⟩, %f5, H5, %ha⟩
    sl_exec
    split
    · rename_i hb
      sl_exec
      sl_step
      isplitl [HT]; · iexact HT
      isplitl [H8]; · iexists _; iexact H8
      isplitl [HE]; · iexact HE
      isplitl [HS]; · iexact HS
      isplitl [HW]; · iexists _; iexact HW
      isplitl [H2]; · iexact H2
      isplitl [H3]; · iexact H3
      isplitl [H6]; · iexists _; iexact H6
      isplitl [H7]; · iexists _; iexact H7
      iexists _
      isplitl [H5]; · iexact H5
      ipureintro
      refine Eq.trans ?_ (iterFin_succ k0_t3_loop.trips (fixPair (tbM0_0.view.read (Elt F) xt) (hbM0_0.view.read (Elt F) xe) i
        (arg2.view.read (Elt F) g2) (arg3.view.read (Elt F) g3)) Y0 k).symm
      rw [← ha]
      refine Eq.trans ?_ (if_pos hb).symm
      clear ha hb
      refine (read_put f5 k.val (k0_off51_inb k) (off51_eq k) _).trans ?_
      rw [readAt_all, hL7]
      clear hL7
      have hG : loop3.sl.v1007 arg2 arg6 g2 k = aBuf (arg2.view.read (Elt F) g2) k.val := by
        unfold loop3.sl.v1007 loop3.sl.H6_96
        refine load_aBuf _ _ _ ?_ rfl _
        iterate 32 (
          refine List.forall_mem_cons.2 ⟨piece2 g2 k.val _ (by decide) ?_ (by decide) (by decide) (by decide), ?_⟩
          · revert k; decide
          refine List.forall_mem_cons.2 ⟨piece1 g2 k.val _ (by decide) ?_ (by decide) (by decide) (by decide), ?_⟩
          · revert k; decide
          refine List.forall_mem_cons.2 ⟨piece0 g2 k.val _ (by decide) ?_ (by decide) (by decide) (by decide), ?_⟩
          · revert k; decide)
        exact fun q hq => absurd hq List.not_mem_nil
      have hp : loop3.sl.r_3 arg2 arg3 arg6 g2 g3 k = product (arg2.view.read (Elt F) g2) (arg3.view.read (Elt F) g3) k.val :=
        congrArg₂ (fun (a : Vec F S160x768 .bf16) (b : Vec F S384x256 .i32) => k0_pay154 a b) (readAt_all arg3 _ g3) hG
      exact congrArg (fun A => putPair k.val (k0_pay7 (overSubs (tbM0_0.view.read (Elt F) xt) (hbM0_0.view.read (Elt F) xe) i
          (addExc (arg3.view.read (Elt F) g3) k) A k0_t4_loop.trips)) (arg5.view.read (Elt F) f5))
        ((read_store_all arg7 inb_S160x256_S160x256_0_0 arg7.view.junk _).trans (congrArg k0_pay2 hp))
    · rename_i hb
      sl_step
      isplitl [HT]; · iexact HT
      isplitl [H8]; · iexists _; iexact H8
      isplitl [HE]; · iexact HE
      isplitl [HS]; · iexact HS
      isplitl [HW]; · iexists _; iexact HW
      isplitl [H2]; · iexact H2
      isplitl [H3]; · iexact H3
      isplitl [H6]; · iexists _; iexact H6
      isplitl [H7]; · iexists _; iexact H7
      iexists _
      isplitl [H5]; · iexact H5
      ipureintro
      refine Eq.trans ?_ (iterFin_succ k0_t3_loop.trips (fixPair (tbM0_0.view.read (Elt F) xt) (hbM0_0.view.read (Elt F) xe) i
        (arg2.view.read (Elt F) g2) (arg3.view.read (Elt F) g3)) Y0 k).symm
      rw [← ha]
      exact (if_neg hb).symm

end Cert.Kernel.Gen
-- ==== Proof.Kernel.Block.lean ====
/- The output's block: pair after pair of column blocks. -/
module

public import proofs.«01_k».proof.Proof.Kernel.Fix

@[expose] public section

set_option maxRecDepth 16384

set_option warn.classDefReducibility false

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

theorem iterFin_zero {α : Type} (n : ℕ) (f : Fin n → α → α) (a : α) : iterFin n f a 0 = a := rfl

/-- The block whose pair `p` of column blocks is `w p`. -/
def tiles (w : ℕ → Vec F S160x256 .bf16) : Vec F S160x5376 .bf16 := fun y =>
  w ((y 1).val / 256) (fun a => ⟨![(y 0).val, (y 1).val % 256] a, by
    have h0 : (y 0).val < 160 := (y 0).isLt
    fin_cases a
    · exact h0
    · exact Nat.mod_lt _ (by decide)⟩)

theorem putPair_apply (p : ℕ) (w : ℕ → Vec F S160x256 .bf16) (Y : Vec F S160x5376 .bf16) (y) :
    putPair p (w p) Y y = if (y 1).val / 256 = p then tiles w y else Y y := by
  unfold putPair tiles
  split
  · rename_i h; rw [h]
  · rfl

/-- Storing pair after pair leaves the block of all of them, whatever was there. -/
theorem iterFin_putPair (n : ℕ) (w : ℕ → Vec F S160x256 .bf16) (Y : Vec F S160x5376 .bf16) (k : ℕ) (hk : k ≤ n) :
    iterFin n (fun p => putPair p.val (w p.val)) Y k = fun y => if (y 1).val / 256 < k then tiles w y else Y y := by
  induction k with
  | zero => funext y; rw [if_neg (Nat.not_lt_zero _)]; rfl
  | succ k ih =>
    refine (iterFin_succ n (fun p => putPair p.val (w p.val)) Y ⟨k, hk⟩).trans ?_
    rw [ih (by omega)]
    funext y
    rw [putPair_apply]
    by_cases h : (y 1).val / 256 = k
    · rw [if_pos h, if_pos (by omega)]
    · rw [if_neg h]
      by_cases h' : (y 1).val / 256 < k
      · rw [if_pos h', if_pos (by omega)]
      · rw [if_neg h', if_neg (by omega)]

/-- Pair `p`'s columns of the block: the product, with the exceptions added if the pair has any. -/
def fixedTile (T : Vec F S2048 .i32) (E : Vec F S17168x128 .i32) (i : grid0.Coords) (X2 : Vec F S1x16x336x128 .i32) (X3 : Vec F S160x768 .bf16)
    (p : ℕ) : Vec F S160x256 .bf16 :=
  if h : p < k0_t3_loop.trips then
    if k0_cond2 (hitsOf T E i ⟨p, h⟩) = 1#1 then k0_pay7 (fixedOf T E i X2 X3 ⟨p, h⟩) else k0_pay1 (product X2 X3 p)
  else k0_pay1 (product X2 X3 p)

theorem fixPair_tiles (T : Vec F S2048 .i32) (E : Vec F S17168x128 .i32) (i : grid0.Coords) (X2 : Vec F S1x16x336x128 .i32) (X3 : Vec F S160x768 .bf16)
    (p : Fin k0_t3_loop.trips) (Y : Vec F S160x5376 .bf16)
    (hY : ∀ y, (y 1).val / 256 = p.val → Y y = tiles (fun p => k0_pay1 (product X2 X3 p)) y) :
    fixPair T E i X2 X3 p Y = putPair p.val (fixedTile T E i X2 X3 p.val) Y := by
  unfold fixPair fixedTile
  rw [dif_pos p.isLt]
  split
  · rfl
  · funext y
    rw [putPair_apply p.val (fun p => k0_pay1 (product X2 X3 p))]
    split
    · rename_i h; exact hY y h
    · rfl

/-- The exceptions' loop over the block of the products leaves the block of the corrected pairs. -/
theorem iterFin_fixPair (T : Vec F S2048 .i32) (E : Vec F S17168x128 .i32) (i : grid0.Coords) (X2 : Vec F S1x16x336x128 .i32) (X3 : Vec F S160x768 .bf16)
    (k : ℕ) (hk : k ≤ k0_t3_loop.trips) :
    iterFin k0_t3_loop.trips (fixPair T E i X2 X3) (tiles fun p => k0_pay1 (product X2 X3 p)) k
      = iterFin k0_t3_loop.trips (fun p => putPair p.val (fixedTile T E i X2 X3 p.val)) (tiles fun p => k0_pay1 (product X2 X3 p)) k := by
  induction k with
  | zero => rw [iterFin_zero, iterFin_zero]
  | succ k ih =>
    refine (iterFin_succ k0_t3_loop.trips (fixPair T E i X2 X3) _ ⟨k, hk⟩).trans
      (Eq.trans ?_ (iterFin_succ k0_t3_loop.trips (fun p => putPair p.val (fixedTile T E i X2 X3 p.val)) _ ⟨k, hk⟩).symm)
    rw [ih (by omega)]
    refine fixPair_tiles T E i X2 X3 ⟨k, hk⟩ _ fun y hy => ?_
    rw [iterFin_putPair _ _ _ _ (by omega)]
    exact if_neg (Nat.not_lt.2 (Nat.le_of_eq hy.symm))

theorem lt_trips1 (y : S160x5376.Idx) : (y 1).val / 256 < k0_t1_loop.trips := by
  have h : (y 1).val < 5376 := (y 1).isLt
  have e : k0_t1_loop.trips = 21 := by decide
  omega
theorem lt_trips3 (y : S160x5376.Idx) : (y 1).val / 256 < k0_t3_loop.trips := by
  have h : (y 1).val < 5376 := (y 1).isLt
  have e : k0_t3_loop.trips = 21 := by decide
  omega

/-- What the body leaves in the output's block. -/
def blockOf (T : Vec F S2048 .i32) (E : Vec F S17168x128 .i32) (i : grid0.Coords) (X2 : Vec F S1x16x336x128 .i32) (X3 : Vec F S160x768 .bf16) :
    Vec F S160x5376 .bf16 :=
  if k0_cond1 (totalOf T i k0_t2_loop.trips) = 1#1 then tiles (fixedTile T E i X2 X3) else tiles fun p => k0_pay1 (product X2 X3 p)

theorem loop1_end (X2 : Vec F S1x16x336x128 .i32) (X3 : Vec F S160x768 .bf16) (Y : Vec F S160x5376 .bf16) :
    iterFin k0_t1_loop.trips (fun p => putPair p (k0_pay1 (product X2 X3 p))) Y k0_t1_loop.trips = tiles fun p => k0_pay1 (product X2 X3 p) := by
  rw [iterFin_putPair k0_t1_loop.trips (fun p => k0_pay1 (product X2 X3 p)) Y _ le_rfl]
  funext y
  rw [if_pos (lt_trips1 y)]

theorem loop3_end (T : Vec F S2048 .i32) (E : Vec F S17168x128 .i32) (i : grid0.Coords) (X2 : Vec F S1x16x336x128 .i32) (X3 : Vec F S160x768 .bf16) :
    iterFin k0_t3_loop.trips (fixPair T E i X2 X3) (tiles fun p => k0_pay1 (product X2 X3 p)) k0_t3_loop.trips
      = tiles (fixedTile T E i X2 X3) := by
  rw [iterFin_fixPair T E i X2 X3 _ le_rfl, iterFin_putPair _ _ _ _ le_rfl]
  funext y
  rw [if_pos (lt_trips3 y)]

end Cert.Kernel.Gen
-- ==== Proof.Kernel.Run.lean ====
/- The run of the kernel's body at one grid point. -/
module

public import proofs.«01_k».proof.Proof.Kernel.Block

@[expose] public section

set_option maxRecDepth 16384

set_option warn.classDefReducibility false

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

set_option maxHeartbeats 4000000 in
/-- The body's triple: on whole staging memrefs the inputs' buffers end as they were and the output's at its block. -/
theorem kernelRun (c : Dev nD) (i : grid0.Coords) (arg2 : Memref sig .tc .vmem S1x16x336x128 .i32) (harg2 : arg2.IsWhole) (arg3 : Memref sig .tc .vmem S160x768 .bf16) (harg3 : arg3.IsWhole) (arg5 : Memref sig .tc .vmem S160x5376 .bf16) (harg5 : arg5.IsWhole) (arg6 : Memref sig .tc .vmem S384x256 .i32) (harg6 : arg6.IsWhole) (arg7 : Memref sig .tc .vmem S160x256 .f32) (harg7 : arg7.IsWhole) (arg8 : Memref sig .tc .smem S8x128 .i32) (harg8 : arg8.IsWhole)
    (x0 : Vec F S1x16x336x128 .i32) (x1 : Vec F S160x768 .bf16) (xt : TbBuf0 (F := F) c tbM0_0) (xe : HbBuf0 (F := F) c hbM0_0)
    (hr : InRange (F := F) (tbM0_0.view.read (Elt F) xt) i) :
      ∀ (W : Waits sig Unit) (K : PUnit → sProp (MT nD τ sig Unit (Elt F) ℕ (Pipeline.UD sig nD τ) ℕ)),
        iprop(owns (c : Thread nD τ) arg2 fullShare x0 ∗ owns (c : Thread nD τ) arg3 fullShare x1 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ tbPt0 c tbM0_0 xt ∗ semVal ((c : Thread nD τ), SemLoc.dma 5) 0 ∗ hbPt0 c hbM0_0 xe ∗ owes (c : Thread nD τ) 0 W
            ∗ (iprop(owns (c : Thread nD τ) arg2 fullShare x0 ∗ owns (c : Thread nD τ) arg3 fullShare x1 ∗ owns (c : Thread nD τ) arg5 fullShare (blockOf (tbM0_0.view.read (Elt F) xt) (hbM0_0.view.read (Elt F) xe) i x0 x1) ∗ (∃ d, owns (c : Thread nD τ) arg6 fullShare d) ∗ (∃ d, owns (c : Thread nD τ) arg7 fullShare d) ∗ (∃ d, owns (c : Thread nD τ) arg8 fullShare d) ∗ tbPt0 c tbM0_0 xt ∗ semVal ((c : Thread nD τ), SemLoc.dma 5) 0 ∗ hbPt0 c hbM0_0 xe ∗ (∃ W', owes (c : Thread nD τ) 0 W')) -∗ K ⟨⟩))
          ⊢ wp Idealize.ShloMosaic.frame (wpE (defs₀ (F := F)) Variants.none c none) Set.univ (cc0_spmm i tbM0_0 htbM0_0 arg2 harg2 arg3 harg3 (Memref.whole main_arg3) (Memref.isWhole_whole _) arg5 harg5 arg6 harg6 arg7 harg7 arg8 harg8 cc0_scratch3) K := by
  intro W K
  simp only [cc0_spmm_eq_skeleton]; unfold cc0_spmm_skel
  unfold owns
  iintro ⟨⟨%f0, %hf0, H0⟩, ⟨%f1, %hf1, H1⟩, ⟨%d2, %f2, -, H2⟩, ⟨%ds0, %fs0, -, HS0⟩, ⟨%ds1, %fs1, -, HS1⟩, ⟨%ds2, %fs2, -, HS2⟩, HT0, Hq0, Hh0, HW, Hk⟩
  obtain rfl := harg2.eq_unread hf0; obtain rfl := harg3.eq_unread hf1
  sl_exec
  have hL4 := hL4.trans (loop1_end _ _ _)
  rw [hf0, hf1] at hL4
  split
  · rename_i hb
    sl_exec
    rw [hf0, hf1] at hL10
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; swap; · iexact H2
      ipureintro
      refine (hL10.trans (congrArg (fun Y => iterFin k0_t3_loop.trips (fixPair (tbM0_0.view.read (Elt F) xt) (hbM0_0.view.read (Elt F) xe) i x0 x1) Y
        k0_t3_loop.trips) hL4)).trans ?_
      exact (loop3_end _ _ _ _ _).trans (if_pos hb).symm
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    isplitl [HT0]; · iexact HT0
    isplitl [Hq0]; · iexact Hq0
    isplitl [Hh0]; · iexact Hh0
    iexists _; iexact HW
  · rename_i hb
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; swap; · iexact H2
      ipureintro
      rw [hL4]
      exact (if_neg hb).symm
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    isplitl [HT0]; · iexact HT0
    isplitl [Hq0]; · iexact Hq0
    isplitl [Hh0]; · iexact Hh0
    iexists _; iexact HW

end Cert.Kernel.Gen
-- ==== Proof.Kernel.Frame.lean ====
/- The launch of the kernel: its result array and its frame. -/
module

public import proofs.«01_k».proof.Proof.Kernel.Run

public import Idealize.ShloMosaic.Lib.Claim

@[expose] public section

set_option maxRecDepth 16384

set_option warn.classDefReducibility false

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)
/-! ## The pipeline's proof data -/

/-- The body's block at point `t`. -/
abbrev outBlock (hO : Ok m) (c : Dev nD) (t : Fin (cfgM m hO).N) : Vec F S160x5376 .bf16 :=
  blockOf (tbM0_0.view.read (Elt F) (tbl m 0)) (hbM0_0.view.read (Elt F) (V m c main_arg3)) (grid0.coords t) (iblk m hO c 0 t) (iblk m hO c 1 t)

/-- The proof data of the one pipeline on core `c`: the arrays as the region finds them (`V`); after the body at
    point `t` each input's buffer at its block and the outputs, FORGOTTEN, at `Dat.unnamed`; the invariant
    (Lib/Pipeline/Frame.lean `ΦD`: the scoped rest, the generator register, the own cells at zero, the HBM operands at
    their launch contents; and the tables' halves, `ΦT`); nothing owed; full shares. -/
def dats (hO : Ok m) (_ : Fin 1) (c : Dev nD) : Dat τ (Elt F) Unit ℕ (Pipeline.UD sig nD τ) ℕ (cfgM m hO) c where
  A w := V m c (Pipeline.arrRef spec0 w)
  after w t := match w with
    | ⟨0, _⟩ => iblk m hO c 0 t
    | ⟨1, _⟩ => iblk m hO c 1 t
    | ⟨2, _⟩ => outBlock m hO c t
  Φ _ := iprop(Pipeline.ΦD osem0 spec0 H0 (V m) c ∗ Pipeline.ΦT pre0 (tbl m) c)
  q _ := fullShare
  owed _ := 0

/-- The proof data's arrays are the region-entry contents: the proof data's definition projected (`dsimp`), so that
    `V` — a fold over @main's host prefix, long for some programs — is never unfolded to check it. -/
theorem A_eq (hO : Ok m) (c : Dev nD) (w : Fin (cfgM m hO).W) : (dats m hO 0 c).A w = V m c (Pipeline.arrRef spec0 w) := by
  dsimp only [dats]

/-- What the body leaves, window by window (the proof data's `match` reduced by `dsimp`). -/
theorem after0_0 (hO : Ok m) (c : Dev nD) (t : Fin (cfgM m hO).N) : (dats m hO 0 c).after 0 t = iblk m hO c 0 t := by dsimp only [dats]; try rfl
theorem after0_1 (hO : Ok m) (c : Dev nD) (t : Fin (cfgM m hO).N) : (dats m hO 0 c).after 1 t = iblk m hO c 1 t := by dsimp only [dats]; try rfl

theorem after0_2 (hO : Ok m) (c : Dev nD) (t : Fin (cfgM m hO).N) : (dats m hO 0 c).after 2 t = outBlock m hO c t := by dsimp only [dats]; try rfl

/-- Each input's current staging buffer holds its block at every point, fetched there or not (`beforeK_W_of`). -/
theorem before0_0 (hO : Ok m) (c : Dev nD) (t : Fin (cfgM m hO).N) (d) : (dats m hO 0 c).before 0 t d = iblk m hO c 0 t :=
  before0_0_of m hO (dats m hO 0 c) (A_eq m hO c 0) (after0_0 m hO c) t d
theorem before0_1 (hO : Ok m) (c : Dev nD) (t : Fin (cfgM m hO).N) (d) : (dats m hO 0 c).before 1 t d = iblk m hO c 1 t :=
  before0_1_of m hO (dats m hO 0 c) (A_eq m hO c 1) (after0_1 m hO c) t d

/-! ## The body obligation, at a generic point -/

/-- What the body is called with at point `t` (Lib/Pipeline.lean `BodyObligation`'s precondition, the windows one by one), -/
def bodyPre (hO : Ok m) (c : Dev nD) (t : Fin (cfgM m hO).N) : sProp (MT nD τ sig Unit (Elt F) ℕ (Pipeline.UD sig nD τ) ℕ) :=
  iprop((dats m hO 0 c).Φ t.castSucc ∗ (dats m hO 0 c).owesAt () t.castSucc
    ∗ (∃ d, owns (c : Thread nD τ) (ms0_0 m hO t) fullShare ((dats m hO 0 c).before 0 t d))
    ∗ (∃ d, owns (c : Thread nD τ) (ms0_1 m hO t) fullShare ((dats m hO 0 c).before 1 t d))
    ∗ (∃ d, owns (c : Thread nD τ) (ms0_2 m hO t) fullShare ((dats m hO 0 c).before 2 t d)))

/-- and what it returns. -/
def bodyPost (hO : Ok m) (c : Dev nD) (t : Fin (cfgM m hO).N) : sProp (MT nD τ sig Unit (Elt F) ℕ (Pipeline.UD sig nD τ) ℕ) :=
  iprop((dats m hO 0 c).Φ t.succ ∗ (dats m hO 0 c).owesAt () t.succ
    ∗ owns (c : Thread nD τ) (ms0_0 m hO t) fullShare ((dats m hO 0 c).after 0 t)
    ∗ owns (c : Thread nD τ) (ms0_1 m hO t) fullShare ((dats m hO 0 c).after 1 t)
    ∗ owns (c : Thread nD τ) (ms0_2 m hO t) fullShare ((dats m hO 0 c).after 2 t))

/-- The body at any point: the inputs' memrefs hold their blocks (`before0_W`); so the
    run applies; the invariant (`PhiD0_eq`) hands the body its scratch, the register, its DMA cells at zero and the HBM operands, and takes them back as they were; the core's `owes` goes in at whatever the points before recorded and comes back with this point's waits, within the next point's bound (everything). -/
theorem sound_body (hO : Ok m) (hr : ∀ i, InRange (F := F) (tbM0_0.view.read (Elt F) (tbl m 0)) i) (c : Dev nD) (t : Fin (cfgM m hO).N) :
    bodyPre m hO c t ⊢ wp Idealize.ShloMosaic.frame (wpE (defs₀ (F := F)) Variants.none c none) Set.univ (bodyAt0 (adm m hO) t) (fun _ => bodyPost m hO c t) := by
  unfold bodyPre bodyPost bodyAt0
  simp only [before0_0, before0_1]
  rw [show (dats m hO 0 c).Φ t.succ = (dats m hO 0 c).Φ t.castSucc from rfl,
    after0_0, after0_1, after0_2]
  rw [show (dats m hO 0 c).Φ t.castSucc = iprop(Pipeline.ΦD osem0 spec0 H0 (V m) c ∗ Pipeline.ΦT pre0 (tbl m) c) from rfl, PhiD0_eq, PhiT0_eq]
  unfold Dat.owesAt Pipeline.owesWithin
  rw [show (dats m hO 0 c).owed t.castSucc = 0 from rfl, show (dats m hO 0 c).owed t.succ = 0 from rfl]
  iintro ⟨⟨⟨⟨HS0, HS1, HS2⟩, Hg, Hq0, Hh0⟩, HT0⟩, ⟨%W, -, HW⟩, ⟨%d0, H0⟩, ⟨%d1, H1⟩, ⟨%d2, H2⟩⟩
  iapply ((kernelRun c (grid0.coords t) _ _ _ _ _ _ _ _ _ _ _ _ (iblk m hO c 0 t) (iblk m hO c 1 t) (tbl m 0) (V m c main_arg3) (hr _)) W _)
  isplitl [H0]; · iexact H0
  isplitl [H1]; · iexact H1
  isplitl [H2]; · iexists _; iexact H2
  isplitl [HS0]; · iexact HS0
  isplitl [HS1]; · iexact HS1
  isplitl [HS2]; · iexact HS2
  isplitl [HT0]; · iexact HT0
  isplitl [Hq0]; · iexact Hq0
  isplitl [Hh0]; · iexact Hh0
  isplitl [HW]; · iexact HW
  iintro ⟨H0, H1, H2, HS0, HS1, HS2, HT0, Hq0, Hh0, ⟨%W', HW'⟩⟩
  isplitl [HS0 HS1 HS2 Hg Hq0 Hh0 HT0]
  · isplitl [HS0 HS1 HS2 Hg Hq0 Hh0]
    · isplitl [HS0 HS1 HS2]
      · isplitl [HS0]; · iexact HS0
        isplitl [HS1]; · iexact HS1
        iexact HS2
      isplitl [Hg]
      · iexact Hg
      isplitl [Hq0]
      · iexact Hq0
      iexact Hh0
    iexact HT0
  isplitl [HW']
  · iexists W'; isplitr; · ipureintro; exact fun _ _ => Or.inl trivial
    iexact HW'
  isplitl [H0]; · iexact H0
  isplitl [H1]; · iexact H1
  iexact H2

/-- The body table's row at point `t`'s slots is the body as `bodyAt0` spells it. -/
theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

/-- The library's body obligation, at every point: the body's triple restated (Lib/Pipeline/FrameBody.lean `triple_restated`). -/
theorem body_obligation (hO : Ok m) (hr : ∀ i, InRange (F := F) (tbM0_0.view.read (Elt F) (tbl m 0)) i) (c : Dev nD) : BodyObligation (dats (F := F) m hO 0 c) (defs₀ (F := F)) Variants.none () Set.univ := fun t => by
  rw [bigSep_W0, bigSep_W0, defs₀_row m hO]
  exact triple_restated (sound_body m hO hr c t) rfl .rfl fun _ => .rfl

/-! ## The run and the frame -/

set_option backward.isDefEq.respectTransparency.types false in
/-- The launch: every weakly fair execution from zero counters ends with the arrays as the proof data says, every other
    buffer as it was, and every counter at zero. -/
theorem run_main_quiescent (hO : Ok m) (hr : ∀ i, InRange (F := F) (tbM0_0.view.read (Elt F) (tbl m 0)) i) :
    θ_run defs (onTc (τ := τ) (main (F := F))) (s₀ m ρ) (fun r => Pipeline.FramePost (Pipeline.pin pcfgs fun _ => adm m hO) (dats m hO) 0 (V m) r ∧ r.2.sem = fun _ => 0) :=
  Pipeline.θ_run_frameP_dma (Q' := _) pcfgs (fun _ => adm m hO) (dats m hO) (0 : Fin 1) launch0 osem0 defs₀ Variants.none ownSemFacts0 H0 H0_sub m ρ main
    (hbody := fun c => (body_obligation m hO hr c).loose) (hshare := fun c => (dats m hO 0 c).share_full fun _ => rfl)
    (howed := fun _ _ => rfl) (V := V m) (hmain := hmain m Variants.none) (hA := A_eq m hO) (hpf := V_pre m) (hin := fun _ => .rfl) (hout := fun c => by change iprop(_ ∗ _) ⊢ _; iintro ⟨HD, -⟩; iexact HD)

/-- The run: the result array holds what the write-backs left, the arguments are unchanged and the counters are zero. -/
theorem run_value (hO : Ok m) (hr : ∀ i, InRange (F := F) (tbM0_0.view.read (Elt F) (tbl m 0)) i) :
    θ_run defs (onTc (τ := τ) (main (F := F))) ⟨m, fun _ => 0, ρ⟩ (fun r => (∀ c : Dev nD,
      r.2.mem ((c.tc : Thread nD τ).loc main_v0) = (dats m hO 0 c).arrAt 2 (cfgM m hO).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) ∧ r.2.sem = fun _ => 0) :=
  (θ_run defs _ _).mono (fun _ h => ⟨fun c => ⟨(h.1 c).1 2,
      ((h.1 c).2 main_arg0 (by decide : main_arg0 ∈ Pipeline.restRefs sig spec0)).trans (V_main_arg0 m c),
      ((h.1 c).1 0).trans (((dats m hO 0 c).arrAt_in 0 rfl _).trans ((A_eq m hO c 0).trans (V_main_arg1 m c))),
      ((h.1 c).1 1).trans (((dats m hO 0 c).arrAt_in 1 rfl _).trans ((A_eq m hO c 1).trans (V_main_arg2 m c))),
      ((h.1 c).2 main_arg3 (by decide : main_arg3 ∈ Pipeline.restRefs sig spec0)).trans (V_main_arg3 m c)⟩, h.2⟩)
    (run_main_quiescent m ρ hO hr)

/-- The frame. -/
theorem frame (hO : Ok m) (hr : ∀ i, InRange (F := F) (tbM0_0.view.read (Elt F) (tbl m 0)) i) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) ∧ r.2.sem = fun _ => 0) :=
  (θ_run defs _ _).mono (fun _ h => ⟨fun c => (h.1 c).2, h.2⟩) (run_value m ρ hO hr)

end Cert.Kernel.Gen
-- ==== Proof.Pre.lean ====
/- The precondition read back: every sub's exceptions begin at a whole batch and lie inside their array. -/
module

public import proofs.«01_k».proof.Pre_exceptions_in_range
public import proofs.«01_k».proof.Proof.Gen.Pre_exceptions_in_range
public import Idealize.ShloMosaic.Lib.Pointwise
public import Idealize.ShloMosaic.Lib.ReduceAll
public import Idealize.ShloMosaic.Lib.Affine
public import Idealize.ShloMosaic.Lib.WordArith
public import Idealize.ShloMosaic.Lib.Pipeline.Value

@[expose] public section

noncomputable section

namespace Cert.Pre_exceptions_in_range

open Idealize.ShloMosaic Idealize.ShloMosaic.Pointwise
open Facts

variable [Facts]

variable {F : FTy → Type} [FloatOps F]

/-- The table's word at `n`. -/
abbrev word (T : IVec S2048 32) (n : ℕ) : BitVec 32 := T fun a => ⟨n % S2048.size a, Nat.mod_lt _ (by revert a; decide)⟩

/-- Row `r`, slab `k` of the table's column `o`. -/
theorem column (T : IVec S2048 32) (o : ℕ) (h : S32x4x16.Slices ![0, o, 0] S32x1x15) (r : Fin 32) (k : Fin 15) (ho : o < 4) :
    shapeCast S32x15 (extractStridedSlice S32x1x15 ![0, o, 0] (shapeCast S32x4x16 T Facts.shapeCasts_S2048_S32x4x16) h) Facts.shapeCasts_S32x1x15_S32x15 (ix2 r k)
      = word T (64 * r + 16 * o + k) := by
  have hr := r.isLt
  have hk := k.isLt
  rw [shapeCast_apply _ _ (ix2 r k) (ix3 r 0 k) (by
    rw [Shape.rowMajor_val_three, Shape.rowMajor_val_two]
    show (r.val * 1 + 0) * 15 + k.val = r.val * 15 + k.val
    omega)]
  rw [extractStridedSlice_apply _ _ _ (ix3 r 0 k) (ix3 r ⟨o, ho⟩ ⟨k, by omega⟩) (by
    intro a
    fin_cases a
    · exact (Nat.zero_add _).symm
    · rfl
    · exact (Nat.zero_add _).symm)]
  refine shapeCast_apply _ _ _ _ ?_
  rw [Shape.rowMajor_val_three, Shape.rowMajor_val_one]
  show (64 * r.val + 16 * o + k.val) % 2048 = (r.val * 4 + o) * 16 + k.val
  omega

/-- What the precondition says of row `r` and slab `k`. -/
theorem decoded (T : IVec S2048 32) (W : IVec S30x16x336x128 32) (X : FVec F S160x768 .bf16) (E : IVec S17168x128 32)
    (h : fn T W X E = fun _ => 1#1) (r : Fin 32) (k : Fin 15) :
    0 ≤ (word T (64 * r + 16 * 0 + k)).toInt ∧ 0 ≤ (word T (64 * r + 16 * 2 + k)).toInt ∧ (word T (64 * r + 16 * 2 + k)).toInt % 1024 = 0
      ∧ (word T (64 * r + 16 * 2 + k)).toInt + (word T (64 * r + 16 * 0 + k)).toInt ≤ 2197504 := by
  have h0 := congrFun h (fun a => a.elim0)
  unfold fn fn_part1 at h0
  have h1 := Host.reduce_andi_all _ _ _ _ _ h0 (ix2 r k)
  obtain ⟨h1, c5⟩ := IntOp.andi_eq_one.1 h1
  obtain ⟨h1, c4⟩ := IntOp.andi_eq_one.1 h1
  obtain ⟨h1, c3⟩ := IntOp.andi_eq_one.1 h1
  obtain ⟨c1, c2⟩ := IntOp.andi_eq_one.1 h1
  have e0 := column T 0 slices_S32x4x16_S32x1x15_0_0_0 r k (by decide)
  have e2 := column T 2 slices_S32x4x16_S32x1x15_0_2_0 r k (by decide)
  have c1 := IntOp.cmpi_sge.1 c1
  have c2 := IntOp.cmpi_sge.1 c2
  have c3 := IntOp.cmpi_eq.1 c3
  have c4 := IntOp.cmpi_sle.1 c4
  have c5 := IntOp.cmpi_sle.1 c5
  rw [e0] at c1
  rw [e2] at c2 c4
  change IntOp.andi _ 1023#32 = 0#32 at c3
  rw [e2] at c3
  change _ ≤ (IntOp.subi 2197504#32 _).toInt at c5
  rw [e0, e2] at c5
  generalize word T (64 * r + 16 * 0 + k) = n at *
  generalize word T (64 * r + 16 * 2 + k) = a at *
  have z : (0#32 : BitVec 32).toInt = 0 := by decide
  have t : (2197504#32 : BitVec 32).toInt = 2197504 := by decide
  have c1 : 0 ≤ n.toInt := c1
  have c2 : 0 ≤ a.toInt := c2
  have c4 : a.toInt ≤ 2197504 := c4
  refine ⟨c1, c2, ?_, ?_⟩
  · have e := congrArg BitVec.toNat c3
    have e' : a.toNat % 1024 = 0 := by
      rw [← Nat.and_two_pow_sub_one_eq_mod a.toNat 10]
      simpa [IntOp.andi] using e
    have hc := BitVec.toInt_eq_toNat_cond a
    have hl := a.isLt
    split at hc <;> omega
  · have := WordArith.toInt_sub_of_bounds 2197504#32 a (by omega) (by omega)
    change _ ≤ (2197504#32 - a).toInt at c5
    omega

end Cert.Pre_exceptions_in_range
-- ==== Proof.Kernel.Inbounds.lean ====
/- The precondition puts every sub's exceptions inside their array: every transfer and load of the kernel is in bounds. -/
module

public import proofs.«01_k».proof.Proof.Kernel.Bounds
public import proofs.«01_k».proof.Proof.Kernel.Frame
public import proofs.«01_k».proof.Proof.Pre

@[expose] public section

set_option maxRecDepth 16384

noncomputable section

namespace Cert.Kernel.Gen

open Idealize.ShloMosaic Idealize.ShloMosaic.TcCoe

variable {F : FTy → Type} [FloatOps F]

set_option maxHeartbeats 1000000 in
/-- Where the kernel reads a sub's first place and number in the table: column 2 and column 0 of the core's row, at the slab. -/
theorem off19_at : ∀ (i : grid0.Coords) (w : Fin k0_t4_loop.trips), k0_off19 i w 0 = 64 * (((i 0).val % 2) * 16 + w.val) + 16 * 2 + (i 0).val / 2 := by
  decide +kernel
theorem off20_at : ∀ (i : grid0.Coords) (w : Fin k0_t4_loop.trips), k0_off20 i w 0 = 64 * (((i 0).val % 2) * 16 + w.val) + 16 * 0 + (i 0).val / 2 := by
  decide +kernel
theorem off18_at : ∀ (i : grid0.Coords) (w : Fin k0_t2_loop.trips), k0_off18 i w 0 = 64 * (((i 0).val % 2) * 16 + w.val) + 16 * 0 + (i 0).val / 2 := by
  decide +kernel

/-- The table's word read at `o` is the word numbered `n`. -/
theorem tabAt_word (T : Vec F S2048 .i32) (o : Fin 1 → ℕ) (n : ℕ) (h : o 0 = n) : tabAt T o = Cert.Pre_exceptions_in_range.word T n := by
  refine congrArg T (funext fun a => Fin.ext ?_)
  have ha : a = 0 := Subsingleton.elim _ _
  subst ha
  exact congrArg (· % 2048) h

variable [Cert.Pre_exceptions_in_range.Facts]

/-- Every sub's exceptions fit. -/
theorem fits_of_pre (T : Vec F S2048 .i32) (W : Vec F S30x16x336x128 .i32) (X : Vec F S160x768 .bf16) (E : Vec F S17168x128 .i32)
    (h : Cert.Pre_exceptions_in_range.fn (F := F) T W X E = fun _ => 1#1) (i : grid0.Coords) (w : Fin k0_t4_loop.trips) :
    Fits (firstAt T i w) (countAt T i w) := by
  have hi : (i 0).val < 30 := (i 0).isLt
  have hw : w.val < 16 := w.isLt.trans_le (by decide)
  obtain ⟨h1, h2, h3, h4⟩ := Cert.Pre_exceptions_in_range.decoded (F := F) T W X E h ⟨((i 0).val % 2) * 16 + w.val, by omega⟩ ⟨(i 0).val / 2, by omega⟩
  rw [firstAt, countAt, tabAt_word T _ _ (off19_at i w), tabAt_word T _ _ (off20_at i w)]
  exact ⟨h1, h2, h3, h4⟩

/-- The run's hypothesis, from the precondition on the arguments. -/
theorem inRange_of_pre (m : (ℓ : Loc nD τ sig) → Buf (Elt F) ℓ)
    (h : Cert.Pre_exceptions_in_range.fn (F := F) (m (((0 : Dev nD).tc : Thread nD τ).loc main_arg0)) (m (((0 : Dev nD).tc : Thread nD τ).loc main_arg1))
      (m (((0 : Dev nD).tc : Thread nD τ).loc main_arg2)) (m (((0 : Dev nD).tc : Thread nD τ).loc main_arg3)) = fun _ => 1#1) (i : grid0.Coords) :
    InRange (F := F) (tbM0_0.view.read (Elt F) (tbl m 0)) i :=
  inRange_of _ i fun w => fits_of_pre _ _ _ _ h i w

end Cert.Kernel.Gen
-- ==== Proof.KernelIdeal.Points.lean ====
/- The kernel body at a grid point, and when the constant input is fetched. -/
module

public import proofs.«01_k».proof.Proof.Gen.KernelIdeal
public import Idealize.ShloMosaic.Lib.Pipeline.Kit

@[expose] public section

noncomputable section

namespace Cert.KernelIdeal.Gen

open Idealize.ShloMosaic Idealize.ShloMosaic.TcCoe
open Idealize.SL Idealize.SL.Sem

variable {F : FTy → Type} [FloatOps F]
/-! ## custom_call 0 -/

/-! A call with PREFETCHED TABLES: its memrefs and body are stated over the pipeline at ANY admissible contents `a`
    of the tables (a certificate instantiates them at the contents it reads off the launch memory). A window whose
    index map reads no table has the same schedule at every `a`: stated over the grid, the window's direction and
    that map alone (Lib/Pipeline/Kit.lean `Window.fetchOf` / `flushOf`), proved from the map and the fact about the
    axes it reads (`hreadsK_W`) or decided, and restated over the pinned window, which unfolds to them. A window whose
    map reads a table gets none here. -/

-- window 0: no schedule fact — its index map has a form the schedule evaluator does not handle
/-- Window 1 (operand 2 (%arg2)) is fetched at the first point only, at any contents of the tables (its index map reads none). -/
theorem fetch0_1 (a : (pcfg0 (F := F)).Adm) : ∀ t : Fin (cfg0 a).N, ((cfg0 a).win 1).fetch t = true ↔ t.val % 30 = 0 :=
  (fun t => Pipeline.Window.fetchOf_const cc0_transform_1 (fun _ _ => rfl) (n := 30) (by decide) t : ∀ t : Fin grid0.N, Pipeline.Window.fetchOf grid0 false cc0_transform_1 t = true ↔ t.val % 30 = 0)
-- window 2: no schedule fact — its index map has a form the schedule evaluator does not handle

/-- The current staging memref of each window at point `t`: which of its buffers it is on. -/
abbrev st0_0 (a : (pcfg0 (F := F)).Adm) (t : Fin (cfg0 a).N) := ((cfg0 a).win 0).stage ((cfg0 a).slots t 0)
abbrev st0_1 (a : (pcfg0 (F := F)).Adm) (t : Fin (cfg0 a).N) := ((cfg0 a).win 1).stage ((cfg0 a).slots t 1)
abbrev st0_2 (a : (pcfg0 (F := F)).Adm) (t : Fin (cfg0 a).N) := ((cfg0 a).win 2).stage ((cfg0 a).slots t 2)

/-- The kernel body at point `t`, on what the pipeline calls it with (`defs₀`'s row at the slots). -/
abbrev bodyAt0 (a : (pcfg0 (F := F)).Adm) (t : Fin (cfg0 a).N) : Prog (TpuEff nD τ sig (Elt F) Λ₀ .tc) PUnit :=
  cc0_spmm (grid0.coords t) (Memref.whole main_arg0) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (Memref.whole main_arg3) (Memref.isWhole_whole _) (spec0_2.stage ((cfg0 a).slots t 2)) (hstage0_2 (((cfg0 a).slots t 2).cast nbuf0_2)) (Memref.whole cc0_scratch0) (Memref.isWhole_whole _) (Memref.whole cc0_scratch1) (Memref.isWhole_whole _) (Memref.whole cc0_scratch2) (Memref.isWhole_whole _) cc0_scratch3

end Cert.KernelIdeal.Gen

end
-- ==== Proof.KernelIdeal.Kit.lean ====
/- What the run of the kernel is stated over: the tables, the windows' blocks, the staging buffers, the scratch, the
   operand left in HBM and the body's semaphore. -/
module

public import proofs.«01_k».proof.Proof.Gen.KernelIdeal.Launch
public import proofs.«01_k».proof.Proof.Gen.KernelIdeal.Skeleton
public import proofs.«01_k».proof.Proof.KernelIdeal.Points
public import Idealize.ShloMosaic.Lib.Pipeline.FrameBody
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)
/-! ## @main up to the region -/

/-- Core `c`'s TensorCore buffers when the region is entered: as launched (@main is the region alone). -/
abbrev V (c : Dev nD) (b : Ref sig .tc) : Buf (Elt F) ((c : Thread nD τ).loc b) := m ((c : Thread nD τ).loc b)

set_option maxHeartbeats 800000 in
/-- @main up to the region, at the certificate's variants `𝒱₀`: the region alone (`Pipeline.hmain_region` off
    `main_chain`). -/
theorem hmain (𝒱₀ : Variants) : Pipeline.HMainP (Ix := Unit) (Name := ℕ) (U := Pipeline.UD sig nD τ) (Lvl := ℕ) pcfgs 0 defs₀ 𝒱₀ m (main (F := F)) (V m) :=
  Pipeline.hmainP_region pcfgs 0 defs₀ 𝒱₀ m main fun c => (main_chain c).trans rfl

theorem V_main_arg0 (c : Dev nD) : V m c main_arg0 = m ((c : Thread nD τ).loc main_arg0) := rfl
theorem V_main_arg1 (c : Dev nD) : V m c main_arg1 = m ((c : Thread nD τ).loc main_arg1) := rfl
theorem V_main_arg2 (c : Dev nD) : V m c main_arg2 = m ((c : Thread nD τ).loc main_arg2) := rfl
theorem V_main_arg3 (c : Dev nD) : V m c main_arg3 = m ((c : Thread nD τ).loc main_arg3) := rfl

/-! ## The prefetched tables, read off the launch memory -/

/-- The tables' contents when the region is entered (`V`; the program runs on ONE device: device 0's). -/
def tbl : pre0.Contents (Elt F) := fun j => V m (0 : Dev nD) (pre0.ref j)
/-- On every device the tables hold those contents (there is one device). -/
theorem V_pre (c : Dev nD) (j : Fin 1) : V m c (pre0.ref j) = tbl m j := by
  obtain rfl : c = 0 := Subsingleton.elim _ _; rfl
/-- The pipeline's side condition of the tables' contents: every window whose index map reads a table has its block
    inside the array at every point (the printed `ok0`; `True` when no map reads a table). The frame holds
    under it; Proof.lean proves it from the precondition. -/
abbrev Ok : Prop := ok0 (F := F) (tbl m)
/-- The tables' contents as ADMISSIBLE contents, and the pipeline at them: what the launch theorem runs
    (Lib/Pipeline/Frame.lean `θ_run_frameP`). -/
abbrev adm (hO : Ok m) : (pcfg0 (F := F)).Adm := ⟨tbl m, hO⟩
abbrev cfgM (hO : Ok m) : Pipeline.Cfg sig Λ₀ := cfg0 (adm m hO)

/-- Each table as the body is handed it: its whole buffer as a memref, and that memref's wholeness. -/
abbrev tbM0_0 : Memref sig .tc .smem S2048 .i32 := Memref.whole main_arg0
abbrev htbM0_0 : tbM0_0.IsWhole := Memref.isWhole_whole _

/-- A table memref's buffer on core `c`: its contents type, and it held at HALF the full share at `f` — behind this
    abbreviation, so that the run's rewriting of the goal leaves `Memref.view` intact (the form the executor reads a held
    buffer in); read-only: the pipeline keeps the other half. -/
abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp (MT nD τ sig Unit (Elt F) ℕ (Pipeline.UD sig nD τ) ℕ) :=
  M.view.loc (c : Thread nD τ) ↦{fullShare.right} f

/-- The tables' halves the region hands the body (Lib/Pipeline/Frame.lean `ΦT`), table by table: what the body
    obligation hands the run and takes back. -/
theorem PhiT0_eq (c : Dev nD) : (Pipeline.ΦT pre0 (tbl m) c : sProp (MT nD τ sig Unit (Elt F) ℕ (Pipeline.UD sig nD τ) ℕ)) = iprop(tbPt0 c tbM0_0 (tbl m 0)) := by
  unfold Pipeline.ΦT Pipeline.prefHeld
  rw [show (Finset.univ : Finset (Fin 1)) = {(0 : Fin 1)} from by decide, bigSep_singleton]
  rfl

/-! ## The windows' blocks -/

/-- Window `w`'s block at point `t`, read off its array as the region finds it (`V`) — for a window whose index map reads a
    table, a function of the tables' words (`hO`: the pipeline at them). -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of (hO : Ok m) {c : Dev nD} (dat : Dat τ (Elt F) Unit ℕ (Pipeline.UD sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of (hO : Ok m) {c : Dev nD} (dat : Dat τ (Elt F) Unit ℕ (Pipeline.UD sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `RDat.FramePost` read at the argument arrays — a staged input by the library's
    `RDat.FramePost.arr_in`, an array no window stages by the post's second clause, each then by `V_…` — is the frame
    claim's post (`Cert.frame_Kernel`, Defs.lean, at any `F`). -/
theorem frame_of (hO : Ok m) (rdat : (c : Dev nD) → Pipeline.RDat τ (Elt F) Unit ℕ (Pipeline.UD sig nD τ) ℕ ((Pipeline.pin pcfgs fun _ => adm m hO) 0) c)
    (hA : ∀ c w, (rdat c).A w = V m c (Pipeline.arrRef spec0 w))
    (h : θ_run defs (onTc (τ := τ) (main (F := F))) (s₀ m ρ) (Pipeline.RDat.FramePost ((Pipeline.pin pcfgs fun _ => adm m hO) 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h c).2 main_arg0 (by decide : main_arg0 ∈ Pipeline.restRefs sig spec0)).trans (V_main_arg0 m c),
      (Pipeline.RDat.FramePost.arr_in h c 0 rfl).trans ((hA c 0).trans (V_main_arg1 m c)),
      (Pipeline.RDat.FramePost.arr_in h c 1 rfl).trans ((hA c 1).trans (V_main_arg2 m c)),
      ((h c).2 main_arg3 (by decide : main_arg3 ∈ Pipeline.restRefs sig spec0)).trans (V_main_arg3 m c)⟩) h

/-! ## The kernel body on any staging memrefs: a subtype the run finds -/

/-- Each window's current staging memref at point `t`, spelled as the pipeline passes it (`bodyAt0`), and its wholeness. -/
abbrev ms0_0 (hO : Ok m) (t : Fin (cfgM m hO).N) : Memref sig .tc .vmem S1x16x336x128 .i32 := spec0_0.stage ((cfgM m hO).slots t 0)
abbrev hs0_0 (hO : Ok m) (t : Fin (cfgM m hO).N) : (ms0_0 m hO t).IsWhole := hstage0_0 (((cfgM m hO).slots t 0).cast nbuf0_0)
abbrev ms0_1 (hO : Ok m) (t : Fin (cfgM m hO).N) : Memref sig .tc .vmem S160x768 .bf16 := spec0_1.stage ((cfgM m hO).slots t 1)
abbrev hs0_1 (hO : Ok m) (t : Fin (cfgM m hO).N) : (ms0_1 m hO t).IsWhole := hstage0_1 (((cfgM m hO).slots t 1).cast nbuf0_1)
abbrev ms0_2 (hO : Ok m) (t : Fin (cfgM m hO).N) : Memref sig .tc .vmem S160x5376 .bf16 := spec0_2.stage ((cfgM m hO).slots t 2)
abbrev hs0_2 (hO : Ok m) (t : Fin (cfgM m hO).N) : (ms0_2 m hO t).IsWhole := hstage0_2 (((cfgM m hO).slots t 2).cast nbuf0_2)
/-- The scratch operands: whole scoped buffers of the kernel's own, passed beside the windows. -/
abbrev scM0_0 : Memref sig .tc .vmem S384x256 .i32 := Memref.whole cc0_scratch0
abbrev scM0_1 : Memref sig .tc .vmem S160x256 .f32 := Memref.whole cc0_scratch1
abbrev scM0_2 : Memref sig .tc .smem S8x128 .i32 := Memref.whole cc0_scratch2
/-- The operands left in HBM that the body copies into scratch itself, whole. -/
abbrev hbM0_0 : Memref sig .tc .hbm S17168x128 .i32 := Memref.whole main_arg3
/-- Memref `M`'s buffer on core `c`: its contents type, and it held whole at `f` — behind this abbreviation, so that the
    run's rewriting of the goal leaves `Memref.view` intact (the form the executor reads a held buffer in). -/
abbrev HbBuf0 (c : Dev nD) {sp : Space} {S : Shape} {e : EltTy} (M : Memref sig .tc sp S e) : Type := Buf (Elt F) (M.view.loc (c : Thread nD τ))
abbrev hbPt0 (c : Dev nD) {sp : Space} {S : Shape} {e : EltTy} (M : Memref sig .tc sp S e) (f : HbBuf0 (F := F) c M) : sProp (MT nD τ sig Unit (Elt F) ℕ (Pipeline.UD sig nD τ) ℕ) :=
  M.view.loc (c : Thread nD τ) ↦{fullShare} f

/-- The body's own DMA semaphores, cell by cell (their numbers in the pool): the kernel's own semaphores for the launch
    (`Pipeline.OwnSemFacts`: none is a window's). -/
abbrev osem0 : Fin 1 → SemLoc sig := fun j => (![SemLoc.dma 5] : Fin 1 → SemLoc sig) j
theorem ownSemFacts0 : Pipeline.OwnSemFacts spec0 osem0 := by decide
/-- The cells at zero, listed. -/
theorem ownSems00_eq (c : Dev nD) :
    (Pipeline.ownSems0 (Ix := Unit) (Name := ℕ) (U := Pipeline.UD sig nD τ) (Lvl := ℕ) (Val := Elt F) (τ := τ) osem0 c : sProp (MT nD τ sig Unit (Elt F) ℕ (Pipeline.UD sig nD τ) ℕ))
      = iprop(semVal ((c : Thread nD τ), SemLoc.dma 5) 0) := by
  rw [Pipeline.ownSems0_eq_of_list c osem0 [0] (by decide) (by decide)]; rfl
/-- The HBM operands the body moves, as references: unscoped, no window's array, no table (`Pipeline.restRefsP`). -/
def H0 : Finset (Ref sig .tc) := {main_arg3}
theorem H0_sub : H0 ⊆ Pipeline.restRefsP sig pre0 spec0 := by decide
/-- Their points-tos at the launch contents, listed. -/
theorem hbmPts0_eq (c : Dev nD) :
    (bigSep H0 (fun b => ((c : Thread nD τ).loc b) ↦{fullShare} V m c b) : sProp (MT nD τ sig Unit (Elt F) ℕ (Pipeline.UD sig nD τ) ℕ)) = iprop(hbPt0 c hbM0_0 (V m c main_arg3)) := by
  rw [BI.bigSep_eq_bigSepL_of_eq [main_arg3] (by decide) (by decide)]; rfl

/-- The invariant of a body with transfers of its own, `Pipeline.ΦD`, conjunct by conjunct: the scratch operands owned at
    some contents, the generator register at some state, the own cells at zero, the HBM operands at their launch
    contents — what the body obligation hands the run and takes back. -/
theorem PhiD0_eq (c : Dev nD) :
    (Pipeline.ΦD osem0 spec0 H0 (V m) c : sProp (MT nD τ sig Unit (Elt F) ℕ (Pipeline.UD sig nD τ) ℕ))
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r) ∗ iprop(semVal ((c : Thread nD τ), SemLoc.dma 5) 0) ∗ iprop(hbPt0 c hbM0_0 (V m c main_arg3))) := by
  rw [Pipeline.ΦD_eq, scopedRest0_eq, ownSems00_eq, hbmPts0_eq]; simp only [scM0_0, scM0_1, scM0_2, owns_whole]; try rfl

end Cert.KernelIdeal.Gen

end
-- ==== Proof.KernelIdeal.Words.lean ====
/- What the kernel computes with the table's and the exceptions' words, as functions: the words of a batch, the test
   that a word's column lies in the pair of column blocks at hand, and the number of hits. -/
module

public import proofs.«01_k».proof.Proof.KernelIdeal.Kit
public import Idealize.ShloMosaic.Lib.LoopRemainder

@[expose] public section

set_option maxRecDepth 16384

noncomputable section

namespace Cert.KernelIdeal.Gen

open Idealize.ShloMosaic Idealize.ShloMosaic.TcCoe

variable {F : FTy → Type} [FloatOps F]

/-- `f` applied for the first `k` of `n` trips. -/
def iterFin {α : Type} (n : ℕ) (f : Fin n → α → α) (a : α) : ℕ → α
  | 0 => a
  | k + 1 => if h : k < n then f ⟨k, h⟩ (iterFin n f a k) else iterFin n f a k

theorem iterFin_succ {α : Type} (n : ℕ) (f : Fin n → α → α) (a : α) (k : Fin n) :
    iterFin n f a (k.val + 1) = f k (iterFin n f a k.val) := dif_pos k.isLt

/-- The element of `X` at offsets `o` (taken modulo the extents, so that no evidence is carried along). -/
def atO {s : Shape} (hs : ∀ a, 0 < s.size a) {α : Type} (X : s.Idx → α) (o : Fin s.rank → ℕ) : α :=
  X fun a => ⟨o a % s.size a, Nat.mod_lt _ (hs a)⟩

theorem pos_S2048 : ∀ a, 0 < S2048.size a := by decide
theorem pos_S8x128 : ∀ a, 0 < S8x128.size a := by decide
theorem pos_S17168x128 : ∀ a, 0 < S17168x128.size a := by decide

/-- A one-element load at offsets inside the array is the element there. -/
theorem readAt_atO {κ : Kind} {sp : Space} {s : Shape} {e : EltTy} (hs : ∀ a, 0 < s.size a) (v : View sig κ sp s e)
    (o size : Fin s.rank → ℕ) (h1 : ∀ a, size a = 1) (h : ∀ a, o a + size a ≤ s.size a) (f : v.ty.Contents (Elt F))
    (x : (Rect.unit (s := s) o size h).toLoadRect.shape.Idx) :
    View.readAt (Elt F) v (Rect.unit (s := s) o size h).toLoadRect f x = atO hs (v.read (Elt F) f) o := by
  refine congrArg (v.read (Elt F) f) (funext fun a => Fin.ext ?_)
  have h2 : (x a).val < size a := (x a).isLt
  have h3 := h a
  have h4 := h1 a
  show o a + 1 * (x a).val = o a % s.size a
  rw [Nat.mod_eq_of_lt (by omega)]; omega

/-- Eight rows of the exceptions, from row `o 0`. -/
def batch (E : Vec F S17168x128 .i32) (o : Fin 2 → ℕ) : Vec F S8x128 .i32 :=
  fun x => atO pos_S17168x128 E fun a => o a + (x a).val

/-- The `j`-th word of batch `k` of the exceptions whose first place and number are `v20` and `v26`. -/
def wordOf (E : Vec F S17168x128 .i32) (v20 v26 : BitVec 32) (k : Fin (k0_t5_loop v26).trips)
    (j : Fin (k0_t6_loop v26 k).trips) : BitVec 32 :=
  atO pos_S8x128 (batch E (k0_off21 v20 v26 k)) (k0_off22 v26 k j)

/-- Word `v`'s column lies in pair `p` of column blocks. -/
def hit (p v : BitVec 32) : BitVec 1 :=
  Scalar.andi (Scalar.cmpi .sge (Scalar.subi (Scalar.shrui v 18#32) (Scalar.muli p 256#32)) 0#32)
    (Scalar.cmpi .slt (Scalar.subi (Scalar.shrui v 18#32) (Scalar.muli p 256#32)) 256#32)

/-- The table's word at `o`. -/
abbrev tabAt (T : Vec F S2048 .i32) (o : Fin 1 → ℕ) : BitVec 32 := atO pos_S2048 T o

/-- `f` applied to every word of batch `k`, in order. -/
def overBatch {α : Type} (E : Vec F S17168x128 .i32) (f : BitVec 32 → α → α) (v20 v26 : BitVec 32)
    (k : Fin (k0_t5_loop v26).trips) (a : α) : α :=
  iterFin (k0_t6_loop v26 k).trips (fun j => f (wordOf E v20 v26 k j)) a (k0_t6_loop v26 k).trips

/-- `f` applied to every word of the exceptions whose first place and number are `v20` and `v26`, in order. -/
def overList {α : Type} (E : Vec F S17168x128 .i32) (f : BitVec 32 → α → α) (v20 v26 : BitVec 32) (a : α) : α :=
  iterFin (k0_t5_loop v26).trips (overBatch E f v20 v26) a (k0_t5_loop v26).trips

/-- The first place of the exceptions of sub `w`, and their number. -/
abbrev firstAt (T : Vec F S2048 .i32) (i : grid0.Coords) (w : Fin k0_t4_loop.trips) : BitVec 32 := tabAt T (k0_off19 i w)
abbrev countAt (T : Vec F S2048 .i32) (i : grid0.Coords) (w : Fin k0_t4_loop.trips) : BitVec 32 := tabAt T (k0_off20 i w)

/-- `f` applied to every exception of the block, sub by sub. -/
def overSubs {α : Type} (T : Vec F S2048 .i32) (E : Vec F S17168x128 .i32) (i : grid0.Coords) (f : BitVec 32 → α → α)
    (a : α) : ℕ → α :=
  iterFin k0_t4_loop.trips (fun w => overList E f (firstAt T i w) (countAt T i w)) a

/-- One more hit if the word is one. -/
def addHit (p v a : BitVec 32) : BitVec 32 := Scalar.addi a (Scalar.extui (hit p v))

/-- The number of the block's exceptions. -/
def totalOf (T : Vec F S2048 .i32) (i : grid0.Coords) : ℕ → BitVec 32 :=
  iterFin k0_t2_loop.trips (fun w a => Scalar.addi a (tabAt T (k0_off18 i w))) 0#32

/-- Every sub's exceptions lie inside the array: the kernel's transfers and loads are in bounds. -/
def InRange (T : Vec F S2048 .i32) (i : grid0.Coords) : Prop :=
  (∀ v4 w, k0_chk1 v4 (firstAt T i w) (countAt T i w)) ∧ (∀ v4 v10 w, k0_chk2 v4 v10 (firstAt T i w) (countAt T i w))

end Cert.KernelIdeal.Gen

end
-- ==== Proof.KernelIdeal.Bounds.lean ====
/- The exceptions of a block lie inside their array: the bounds the kernel's loops rely on. -/
module

public import proofs.«01_k».proof.Proof.KernelIdeal.Words

public import Idealize.ShloMosaic.Lib.LoopRemainder

@[expose] public section

set_option maxRecDepth 16384

set_option warn.classDefReducibility false

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The exceptions from place `a`, `n` of them, lie inside the array and begin at a whole batch. -/
structure Fits (a n : BitVec 32) : Prop where
  n0 : 0 ≤ n.toInt
  a0 : 0 ≤ a.toInt
  am : a.toInt % 1024 = 0
  le : a.toInt + n.toInt ≤ 2197504

open Affine in
theorem ub5 {a n : BitVec 32} (h : Fits a n) : IsInt (k0_t5_loop n).ub ((n.toInt + 1023) / 1024) := by
  obtain ⟨h1, h2, h3, h4⟩ := h
  have e : (k0_t5_loop n).ub = Scalar.addi 0#32 (Scalar.subi (Scalar.divsi (Scalar.addi n 1023#32) 1024#32) 0#32) := by
    show Scalar.addi 0#32 (Scalar.muli (Scalar.divsi _ 1#32) 1#32) = _
    rw [Scalar.muli_divsi_one]
  rw [e]
  have i1 : IsInt (Scalar.addi n 1023#32) (n.toInt + 1023) := addi (word n) (ofNat (e := 1023) 1023 ⟨rfl, by decide⟩) ⟨rfl, by omega, by omega⟩
  have i2 : IsInt (Scalar.divsi (Scalar.addi n 1023#32) 1024#32) ((n.toInt + 1023) / 1024) :=
    divsi i1 (ofNat (e := 1024) 1024 ⟨rfl, by decide⟩) ⟨rfl, by omega, by omega⟩
  have i3 := subi (e := (n.toInt + 1023) / 1024) i2 (ofNat (e := 0) 0 ⟨rfl, by decide⟩) ⟨by omega, by omega, by omega⟩
  exact addi (ofNat (e := 0) 0 ⟨rfl, by decide⟩) i3 ⟨by omega, by omega, by omega⟩

open Affine in
theorem trips5 {a n : BitVec 32} (h : Fits a n) : (k0_t5_loop n).trips = ((n.toInt + 1023) / 1024).toNat := by
  have := h.n0
  exact trips_eq (ofNat (e := 0) 0 ⟨rfl, by decide⟩) (ub5 h) (ofNat (e := 1) 1 ⟨rfl, by decide⟩) _ ⟨by decide, by omega⟩

open Affine in
theorem ok5 {a n : BitVec 32} (h : Fits a n) : (k0_t5_loop n).OK := by
  obtain ⟨h1, h2, h3, h4⟩ := h
  exact ok (ofNat (e := 0) 0 ⟨rfl, by decide⟩) (ub5 ⟨h1, h2, h3, h4⟩) (ofNat (e := 1) 1 ⟨rfl, by decide⟩) ⟨by decide, by omega⟩

/-- Batch `k` begins before the last exception. -/
theorem batch_lt {a n : BitVec 32} (h : Fits a n) (k : Fin (k0_t5_loop n).trips) : 1024 * (k.val : Int) < n.toInt := by
  have h1 : k.val < ((n.toInt + 1023) / 1024).toNat := lt_of_lt_of_eq k.isLt (trips5 h)
  omega

open Affine in
theorem iv01 (k : ℕ) (h : k < 2 ^ 31) : IsInt (Scf.iv 0#32 1#32 k) k :=
  iv (ofNat (e := 0) 0 ⟨rfl, by decide⟩) (ofNat (e := 1) 1 ⟨rfl, by decide⟩) k ⟨by omega, by omega, by omega⟩

open Affine in
theorem row21 {a n : BitVec 32} (h : Fits a n) (k : Fin (k0_t5_loop n).trips) : IsInt (k0_mult34 a n k) (a.toInt / 128 + 8 * k.val) := by
  have hk := batch_lt h k
  obtain ⟨h1, h2, h3, h4⟩ := h
  have i1 := shrsi (e := a.toInt / 128) (word a) (ofNat (e := 7) 7 ⟨rfl, by decide⟩) 7 128 (by decide) ⟨rfl, rfl, by decide⟩
  have i2 := muli (e := 8 * k.val) (iv01 k.val (by omega)) (ofNat (e := 8) 8 ⟨rfl, by decide⟩) ⟨by omega, by omega, by omega⟩
  exact addi i1 i2 ⟨rfl, by omega, by omega⟩

theorem off21 {a n : BitVec 32} (h : Fits a n) (k : Fin (k0_t5_loop n).trips) : k0_off21 a n k = ![(a.toInt / 128 + 8 * k.val).toNat, 0] := by
  have h1 := Affine.toNat_of (row21 h k) (by have := h.a0; omega)
  show ![(k0_mult34 a n k).toNat, 0] = _
  rw [← h1]; rfl

open Affine in
theorem ub6 {a n : BitVec 32} (h : Fits a n) (k : Fin (k0_t5_loop n).trips) :
    IsInt (k0_t6_loop n k).ub (min (n.toInt - 1024 * k.val) 1024) := by
  have hk := batch_lt h k
  obtain ⟨h1, h2, h3, h4⟩ := h
  have e : (k0_t6_loop n k).ub = Scalar.addi 0#32 (Scalar.subi (Scalar.minsi (Scalar.subi n (Scalar.muli (Scf.iv 0#32 1#32 k) 1024#32)) 1024#32) 0#32) := by
    show Scalar.addi 0#32 (Scalar.muli (Scalar.divsi _ 1#32) 1#32) = _
    rw [Scalar.muli_divsi_one]
  rw [e]
  have i2 := muli (e := 1024 * k.val) (iv01 k.val (by omega)) (ofNat (e := 1024) 1024 ⟨rfl, by decide⟩) ⟨by omega, by omega, by omega⟩
  have i3 := subi (e := n.toInt - 1024 * k.val) (word n) i2 ⟨rfl, by omega, by omega⟩
  have i4 := minsi (e := min (n.toInt - 1024 * k.val) 1024) i3 (ofNat (e := 1024) 1024 ⟨rfl, by decide⟩) rfl
  have i5 := subi (e := min (n.toInt - 1024 * k.val) 1024) i4 (ofNat (e := 0) 0 ⟨rfl, by decide⟩) ⟨by omega, by omega, by omega⟩
  exact addi (ofNat (e := 0) 0 ⟨rfl, by decide⟩) i5 ⟨by omega, by omega, by omega⟩

open Affine in
theorem trips6 {a n : BitVec 32} (h : Fits a n) (k : Fin (k0_t5_loop n).trips) :
    (k0_t6_loop n k).trips = (min (n.toInt - 1024 * k.val) 1024).toNat := by
  have := batch_lt h k
  exact trips_eq (ofNat (e := 0) 0 ⟨rfl, by decide⟩) (ub6 h k) (ofNat (e := 1) 1 ⟨rfl, by decide⟩) _ ⟨by decide, by omega⟩

open Affine in
theorem ok6 {a n : BitVec 32} (h : Fits a n) (k : Fin (k0_t5_loop n).trips) : (k0_t6_loop n k).OK := by
  have := batch_lt h k
  exact ok (ofNat (e := 0) 0 ⟨rfl, by decide⟩) (ub6 h k) (ofNat (e := 1) 1 ⟨rfl, by decide⟩) ⟨by decide, by omega⟩

theorem toNat_andi127 (x : BitVec 32) : (Scalar.andi x 127#32).toNat = x.toNat % 128 := by
  show (x &&& 127#32).toNat = _
  rw [BitVec.toNat_and]
  exact Nat.and_two_pow_sub_one_eq_mod x.toNat 7

open Affine in
theorem off22 {a n : BitVec 32} (h : Fits a n) (k : Fin (k0_t5_loop n).trips) (j : Fin (k0_t6_loop n k).trips) :
    k0_off22 n k j = ![j.val / 128, j.val % 128] ∧ j.val < 1024 := by
  have hj : j.val < (min (n.toInt - 1024 * k.val) 1024).toNat := lt_of_lt_of_eq j.isLt (trips6 h k)
  have hj' : j.val < 1024 := by omega
  have i0 := iv01 j.val (by omega)
  have i1 := shrsi (e := (j.val : Int) / 128) i0 (ofNat (e := 7) 7 ⟨rfl, by decide⟩) 7 128 (by decide) ⟨rfl, rfl, by decide⟩
  have e1 := toNat_of i1 (by omega)
  have e0 := toNat_of i0 (by omega)
  refine ⟨?_, hj'⟩
  show ![(Scalar.shrsi (Scf.iv 0#32 1#32 j) 7#32).toNat, (Scalar.andi (Scf.iv 0#32 1#32 j) 127#32).toNat] = _
  rw [toNat_andi127]
  have a1 : (Scalar.shrsi (Scf.iv 0#32 1#32 j.val) 7#32).toNat = j.val / 128 := by omega
  have a2 : (Scf.iv 0#32 1#32 j.val).toNat % 128 = j.val % 128 := by omega
  rw [a1, a2]

/-- The kernel's transfers and loads of these exceptions are in bounds, in both of its passes over them. -/
theorem chk1 {a n : BitVec 32} (h : Fits a n) (v4 : BitVec 32) : k0_chk1 v4 a n := by
  refine ⟨fun _ => ok5 h, fun k _ => ?_, fun k _ => ?_, fun k _ => ok6 h k, fun k j _ => ?_, fun _ _ => Scf.rem_ok _ _, fun _ j _ => (Scf.rem_no_trip _ _ j).elim,
    fun _ => Scf.rem_ok _ _, fun k _ => (Scf.rem_no_trip _ _ k).elim, fun k _ => (Scf.rem_no_trip _ _ k).elim, fun k _ => (Scf.rem_no_trip _ _ k).elim,
    fun k _ _ => (Scf.rem_no_trip _ _ k).elim, fun k _ => (Scf.rem_no_trip _ _ k).elim, fun k _ _ => (Scf.rem_no_trip _ _ k).elim⟩
  · obtain ⟨h1, h2, h3, h4⟩ := h
    exact Affine.dvd_of (row21 ⟨h1, h2, h3, h4⟩ k) 8 ⟨by omega, by omega⟩
  · have hk := batch_lt h k
    rw [off21 h k]
    obtain ⟨h1, h2, h3, h4⟩ := h
    intro x
    fin_cases x
    · show (a.toInt / 128 + 8 * k.val).toNat + 8 ≤ 17168
      omega
    · exact (by decide : 0 + 128 ≤ 128)
  · obtain ⟨e, hj⟩ := off22 h k j
    rw [e]
    intro x
    fin_cases x
    · show j.val / 128 + 1 ≤ 8
      omega
    · show j.val % 128 + 1 ≤ 128
      omega

theorem chk2 {a n : BitVec 32} (h : Fits a n) (v4 v10 : BitVec 32) : k0_chk2 v4 v10 a n := by
  obtain ⟨c1, c2, c3, c4, c5, c6, c7, c8, c9, c10, c11, c12, c13, c14⟩ := chk1 h v4
  exact ⟨fun h _ => c1 h, fun k h _ => c2 k h, fun k h _ => c3 k h, fun k h _ => c4 k h, fun k j h _ => c5 k j h, fun k h _ => c6 k h, fun k j h _ => c7 k j h,
    fun h _ => c8 h, fun k h _ => c9 k h, fun k h _ => c10 k h, fun k h _ => c11 k h, fun k j h _ => c12 k j h, fun k h _ => c13 k h, fun k j h _ => c14 k j h⟩

theorem inRange_of (T : Vec F S2048 .i32) (i : grid0.Coords) (h : ∀ w, Fits (firstAt T i w) (countAt T i w)) : InRange T i :=
  ⟨fun v4 w => chk1 (h w) v4, fun v4 v10 w => chk2 (h w) v4 v10⟩

end Cert.KernelIdeal.Gen
-- ==== Proof.KernelIdeal.Count.lean ====
/- The loops that count: the block's exceptions, and those of them whose column lies in a pair of column blocks. -/
module

public import proofs.«01_k».proof.Proof.KernelIdeal.Words

@[expose] public section

set_option maxRecDepth 16384

set_option warn.classDefReducibility false

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- What the run's assertions are stated over. -/
abbrev Mach (F : FTy → Type) : Type _ := MT nD τ sig Unit (Elt F) ℕ (Pipeline.UD sig nD τ) ℕ

/-- A memref's buffer held whole at `f`. -/
abbrev held (c : Dev nD) {sp : Space} {s : Shape} {e : EltTy} (M : Memref sig .tc sp s e)
    (f : BufTy.Contents (Elt F) M.view.ty) : sProp (Mach F) :=
  M.view.loc (c : Thread nD τ) ↦[M.view.set]{fullShare} f

/-- Eight rows of the exceptions copied over a buffer: what the buffer then reads. -/
theorem read_copied (c : Dev nD) {arg8 : Memref sig .tc .smem S8x128 .i32} (g : BufTy.Contents (Elt F) arg8.view.ty)
    (xe : HbBuf0 (F := F) c hbM0_0) (o : Fin 2 → ℕ) (h : ∀ a, o a + S8x128.size a ≤ S17168x128.size a) (hh) :
    View.read (Elt F) arg8.view (arg8.view.writes (Elt F) g
      [⟨Rect.whole S8x128, ReadAs.same.apply (View.read (Elt F) (hbM0_0.slice (Rect.unit (s := S17168x128) o S8x128.size h) hh).view xe)⟩])
      = batch (hbM0_0.view.read (Elt F) xe) o := by
  funext x
  have hx : (Rect.whole S8x128).emb x = x := funext fun a => Fin.ext (by
    show 0 + 1 * (x a).val = (x a).val; omega)
  have key := View.read_writes_cons_emb arg8.view g (Rect.whole S8x128)
    (ReadAs.same.apply (View.read (Elt F) (hbM0_0.slice (Rect.unit (s := S17168x128) o S8x128.size h) hh).view xe)) [] x
  rw [hx] at key
  rw [key]
  refine congrArg (hbM0_0.view.read (Elt F) xe) (funext fun a => Fin.ext ?_)
  have h3 := h a
  have h4 : (x a).val < S8x128.size a := (x a).isLt
  show o a + 1 * (x a).val = (o a + (x a).val) % S17168x128.size a
  rw [Nat.mod_eq_of_lt (by omega)]; omega

variable (c : Dev nD) (i : grid0.Coords) (arg2 : Memref sig .tc .vmem S1x16x336x128 .i32) (harg2 : arg2.IsWhole) (arg3 : Memref sig .tc .vmem S160x768 .bf16) (harg3 : arg3.IsWhole) (arg5 : Memref sig .tc .vmem S160x5376 .bf16) (harg5 : arg5.IsWhole) (arg6 : Memref sig .tc .vmem S384x256 .i32) (harg6 : arg6.IsWhole) (arg7 : Memref sig .tc .vmem S160x256 .f32) (harg7 : arg7.IsWhole) (arg8 : Memref sig .tc .smem S8x128 .i32) (harg8 : arg8.IsWhole)
  (xt : TbBuf0 (F := F) c tbM0_0)

/-- The loop that sums the table's counts. -/
@[sl_loop] def loop2 :
    Idealize.ShloMosaic.LoopInv (M := Mach F) Idealize.ShloMosaic.frame (wpE (defs₀ (F := F)) Variants.none (c : Thread nD τ) none) Set.univ
      k0_t2_loop.lb k0_t2_loop.ub k0_t2_loop.st k0_t2_ok 0#32
      (k0_t2_body (F := F) i tbM0_0 htbM0_0 arg2 harg2 arg3 harg3 hbM0_0 (Memref.isWhole_whole _) arg5 harg5 arg6 harg6 arg7 harg7 arg8 harg8 cc0_scratch3) where
  inv k acc := iprop(tbPt0 c tbM0_0 xt ∗ ⌜acc = totalOf (tbM0_0.view.read (Elt F) xt) i k⌝)
  step k acc := by
    unfold k0_t2_body
    iintro ⟨H, %ha⟩
    sl_exec
    sl_step
    sl_unfold_words
    isplitl [H]; · iexact H
    ipureintro
    subst ha
    refine Eq.trans ?_ (iterFin_succ k0_t2_loop.trips
      (fun w a => Scalar.addi a (tabAt (tbM0_0.view.read (Elt F) xt) (k0_off18 i w))) 0#32 k).symm
    exact congrArg₂ Scalar.addi rfl (readAt_atO pos_S2048 _ _ _ (by decide) _ _ _)

/-- The loop over a batch's words that counts the hits. -/
@[sl_loop] def loop6 (v4 : BitVec 32) (k0_h1 : k0_cond1 v4 = 1#1) (arg10 : BitVec 32) (v20 v26 : Elt F .i32)
    (k0_hw1 : k0_chk1 v4 v20 v26) (k0_t5 : Fin (k0_t5_loop v26).trips) (g8 : BufTy.Contents (Elt F) arg8.view.ty) (acc0 : BitVec 32) :
    Idealize.ShloMosaic.LoopInv (M := Mach F) Idealize.ShloMosaic.frame (wpE (defs₀ (F := F)) Variants.none (c : Thread nD τ) none) Set.univ
      (k0_t6_loop v26 k0_t5).lb (k0_t6_loop v26 k0_t5).ub (k0_t6_loop v26 k0_t5).st (k0_t6_ok v4 v20 v26 k0_hw1 k0_t5 k0_h1) acc0
      (k0_t6_body (F := F) i tbM0_0 htbM0_0 arg2 harg2 arg3 harg3 hbM0_0 (Memref.isWhole_whole _) arg5 harg5 arg6 harg6 arg7 harg7 arg8 harg8 cc0_scratch3 v4 k0_h1 arg10 v20 v26 k0_hw1 k0_t5) where
  inv k acc := iprop(held c arg8 g8 ∗ ⌜acc = iterFin (k0_t6_loop v26 k0_t5).trips
    (fun j => addHit arg10 (atO pos_S8x128 (arg8.view.read (Elt F) g8) (k0_off22 v26 k0_t5 j))) acc0 k⌝)
  step k acc := by
    unfold k0_t6_body
    iintro ⟨H, %ha⟩
    sl_exec
    sl_step
    sl_unfold_words
    isplitl [H]; · iexact H
    ipureintro
    subst ha
    exact (congrArg (fun v => addHit arg10 v _) (readAt_atO pos_S8x128 _ _ _ (by decide) _ _ _)).trans
      (iterFin_succ _ _ _ k).symm

/-- The loop over the batches of one sub's exceptions: each is copied in, then counted. -/
@[sl_loop] def loop5 (v4 : BitVec 32) (k0_h1 : k0_cond1 v4 = 1#1) (arg10 : BitVec 32) (v20 v26 : Elt F .i32)
    (k0_hw1 : k0_chk1 v4 v20 v26) (xe : HbBuf0 (F := F) c hbM0_0) (acc0 : BitVec 32) :
    Idealize.ShloMosaic.LoopInv (M := Mach F) Idealize.ShloMosaic.frame (wpE (defs₀ (F := F)) Variants.none (c : Thread nD τ) none) Set.univ
      (k0_t5_loop v26).lb (k0_t5_loop v26).ub (k0_t5_loop v26).st (k0_t5_ok v4 v20 v26 k0_hw1 k0_h1) acc0
      (k0_t5_body (F := F) i tbM0_0 htbM0_0 arg2 harg2 arg3 harg3 hbM0_0 (Memref.isWhole_whole _) arg5 harg5 arg6 harg6 arg7 harg7 arg8 harg8 cc0_scratch3 v4 k0_h1 arg10 v20 v26 k0_hw1) where
  inv k acc := iprop((∃ g8, held c arg8 g8) ∗ hbPt0 c hbM0_0 xe ∗ semVal ((c : Thread nD τ), SemLoc.dma 5) 0
    ∗ (∃ W, owes (c : Thread nD τ) 0 W) ∗ ⌜acc = iterFin (k0_t5_loop v26).trips
      (overBatch (hbM0_0.view.read (Elt F) xe) (addHit arg10) v20 v26) acc0 k⌝)
  step k acc := by
    unfold k0_t5_body
    iintro ⟨⟨%g8, H8⟩, HE, HS, ⟨%W, HW⟩, %ha⟩
    sl_exec
    sl_unfold_words
    isplitl [H8]; · iexists _; iexact H8
    isplitl [HE]; · iexact HE
    isplitl [HS]; · iexact HS
    isplitl [HW]; · iexists _; iexact HW
    ipureintro
    subst ha
    refine Eq.trans ?_ (iterFin_succ _ _ _ k).symm
    exact congrArg (fun X => iterFin (k0_t6_loop v26 k).trips (fun j => addHit arg10 (atO pos_S8x128 X (k0_off22 v26 k j))) _ _)
      (read_copied (F := F) c _ xe _ _ _)

end Cert.KernelIdeal.Gen
-- ==== Proof.KernelIdeal.CountAll.lean ====
/- The loop over the subs that counts the hits of one pair of column blocks. -/
module

public import proofs.«01_k».proof.Proof.KernelIdeal.Count

@[expose] public section

set_option maxRecDepth 16384

set_option warn.classDefReducibility false

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

variable (c : Dev nD) (i : grid0.Coords) (arg2 : Memref sig .tc .vmem S1x16x336x128 .i32) (harg2 : arg2.IsWhole) (arg3 : Memref sig .tc .vmem S160x768 .bf16) (harg3 : arg3.IsWhole) (arg5 : Memref sig .tc .vmem S160x5376 .bf16) (harg5 : arg5.IsWhole) (arg6 : Memref sig .tc .vmem S384x256 .i32) (harg6 : arg6.IsWhole) (arg7 : Memref sig .tc .vmem S160x256 .f32) (harg7 : arg7.IsWhole) (arg8 : Memref sig .tc .smem S8x128 .i32) (harg8 : arg8.IsWhole)
  (xt : TbBuf0 (F := F) c tbM0_0)

theorem chk1_of {v4 : BitVec 32} {a a' b b' : Elt F .i32} (ha : a = a') (hb : b = b') (h : k0_chk1 v4 a' b') : k0_chk1 v4 a b := by
  subst ha hb; exact h

theorem overList_of {α : Type} {E : Vec F S17168x128 .i32} {f : BitVec 32 → α → α} {x : α} {a a' b b' : BitVec 32} (ha : a = a') (hb : b = b') :
    iterFin (k0_t5_loop b).trips (overBatch E f a b) x (k0_t5_loop b).trips = overList E f a' b' x := by subst ha hb; rfl

/-- The loop over the subs: the hits of all of them. -/
@[sl_loop] def loop4 (hr : InRange (F := F) (tbM0_0.view.read (Elt F) xt) i) (v4 : BitVec 32) (k0_h1 : k0_cond1 v4 = 1#1) (arg10 : BitVec 32)
    (xe : HbBuf0 (F := F) c hbM0_0) :
    Idealize.ShloMosaic.LoopInv (M := Mach F) Idealize.ShloMosaic.frame (wpE (defs₀ (F := F)) Variants.none (c : Thread nD τ) none) Set.univ
      k0_t4_loop.lb k0_t4_loop.ub k0_t4_loop.st k0_t4_ok 0#32
      (k0_t4_body (F := F) i tbM0_0 htbM0_0 arg2 harg2 arg3 harg3 hbM0_0 (Memref.isWhole_whole _) arg5 harg5 arg6 harg6 arg7 harg7 arg8 harg8 cc0_scratch3 v4 k0_h1 arg10) where
  inv k acc := iprop(tbPt0 c tbM0_0 xt ∗ (∃ g8, held c arg8 g8) ∗ hbPt0 c hbM0_0 xe ∗ semVal ((c : Thread nD τ), SemLoc.dma 5) 0
    ∗ (∃ W, owes (c : Thread nD τ) 0 W)
    ∗ ⌜acc = overSubs (tbM0_0.view.read (Elt F) xt) (hbM0_0.view.read (Elt F) xe) i (addHit arg10) 0#32 k⌝)
  step k acc := by
    unfold k0_t4_body
    iintro ⟨HT, ⟨%g8, H8⟩, HE, HS, ⟨%W, HW⟩, %ha⟩
    sl_exec (disch := exact chk1_of (readAt_atO pos_S2048 _ _ _ (by decide) _ _ _) (readAt_atO pos_S2048 _ _ _ (by decide) _ _ _) (hr.1 v4 k))
    isplitl [HT]; · iexact HT
    isplitl [H8]; · iexists _; iexact H8
    isplitl [HE]; · iexact HE
    isplitl [HS]; · iexact HS
    isplitl [HW]; · iexists _; iexact HW
    ipureintro
    subst ha
    refine Eq.trans ?_ (iterFin_succ k0_t4_loop.trips (fun w => overList (hbM0_0.view.read (Elt F) xe) (addHit arg10)
      (firstAt (tbM0_0.view.read (Elt F) xt) i w) (countAt (tbM0_0.view.read (Elt F) xt) i w)) 0#32 k).symm
    exact overList_of (a := loop4.sl.r c i xt k) (b := loop4.sl.r_1 c i xt k) (readAt_atO pos_S2048 _ _ _ (by decide) _ _ _)
      (readAt_atO pos_S2048 _ _ _ (by decide) _ _ _)

end Cert.KernelIdeal.Gen
-- ==== Proof.KernelIdeal.Hits.lean ====
/- The loops that add the exceptions of one pair of column blocks to its product. -/
module

public import proofs.«01_k».proof.Proof.KernelIdeal.CountAll

@[expose] public section

set_option maxRecDepth 16384

set_option warn.classDefReducibility false

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

theorem zero_emb {s : Shape} {o : Fin s.rank → ℕ} (h : ∀ a, o a + s.size a ≤ s.size a) (x : s.Idx) :
    (Rect.unit (s := s) o s.size h).emb x = x := funext fun a => Fin.ext (by
  show o a + 1 * (x a).val = (x a).val
  have := h a; omega)

/-- A load of a whole buffer reads what the buffer reads. -/
theorem readAt_all {k : Kind} {sp : Space} {s : Shape} {e : EltTy} (M : Memref sig k sp s e) {o : Fin s.rank → ℕ}
    (h : ∀ a, o a + s.size a ≤ s.size a) (f : BufTy.Contents (Elt F) M.view.ty) :
    View.readAt (Elt F) M.view (Rect.unit (s := s) o s.size h).toLoadRect f = M.view.read (Elt F) f := by
  funext x
  refine congrArg (M.view.read (Elt F) f) (funext fun a => Fin.ext ?_)
  show o a + 1 * (x a).val = (x a).val
  have := h a; omega

/-- What a buffer reads after a store over the whole of it. -/
theorem read_store_all {k : Kind} {sp : Space} {s : Shape} {e : EltTy} (M : Memref sig k sp s e) {o : Fin s.rank → ℕ}
    (h : ∀ a, o a + s.size a ≤ s.size a) (f : BufTy.Contents (Elt F) M.view.ty) (w : s.Idx → Elt F e) :
    M.view.read (Elt F) (M.view.writes (Elt F) f [⟨Rect.unit (s := s) o s.size h, w⟩]) = w := by
  funext x
  have key := View.read_writes_cons_emb M.view f (Rect.unit (s := s) o s.size h) w [] x
  rwa [zero_emb] at key

/-- The loop's test of a word: whether it is a hit. -/
abbrev hitFlag (p v : BitVec 32) : BitVec 1 :=
  Scalar.cmpi .ne (Scalar.extui (Scalar.cmpi .sgt (Scalar.extui (hit p v)) 0#32)) 0#32

/-- The product with one exception added if it is a hit. -/
def addExc (X : Vec F S160x768 .bf16) (p : Fin k0_t3_loop.trips) (v : BitVec 32) (A : Vec F S160x256 .f32) : Vec F S160x256 .f32 :=
  if hitFlag (Scf.iv 0#32 1#32 p) v = 1#1 then k0_pay3 p v X A else A

/-- A trip's store, read: the product with one exception added if it is a hit. -/
theorem read_addExc {arg7 : Memref sig .tc .vmem S160x256 .f32} {arg3 : Memref sig .tc .vmem S160x768 .bf16}
    (p : Fin k0_t3_loop.trips) {w w' : BitVec 32} (hw : w = w') (f7 : BufTy.Contents (Elt F) arg7.view.ty) (g3 : BufTy.Contents (Elt F) arg3.view.ty)
    {A : Vec F S160x256 .f32} (hA : arg7.view.read (Elt F) f7 = A) :
    arg7.view.read (Elt F) (if hc : hitFlag (Scf.iv 0#32 1#32 p) w = 1#1 then
        arg7.view.writes (Elt F) f7 [⟨Rect.unit (s := S160x256) ![0, 0] S160x256.size inb_S160x256_S160x256_0_0,
          k0_pay3 p w (View.readAt (Elt F) arg3.view (Rect.unit (s := S160x768) ![0, 0] S160x768.size inb_S160x768_S160x768_0_0).toLoadRect g3)
            (View.readAt (Elt F) arg7.view (Rect.unit (s := S160x256) ![0, 0] S160x256.size inb_S160x256_S160x256_0_0).toLoadRect f7)⟩]
      else f7) = addExc (arg3.view.read (Elt F) g3) p w' A := by
  subst hw hA
  unfold addExc
  split
  · rw [read_store_all, readAt_all, readAt_all]
  · rfl

variable (c : Dev nD) (i : grid0.Coords) (arg2 : Memref sig .tc .vmem S1x16x336x128 .i32) (harg2 : arg2.IsWhole) (arg3 : Memref sig .tc .vmem S160x768 .bf16) (harg3 : arg3.IsWhole) (arg5 : Memref sig .tc .vmem S160x5376 .bf16) (harg5 : arg5.IsWhole) (arg6 : Memref sig .tc .vmem S384x256 .i32) (harg6 : arg6.IsWhole) (arg7 : Memref sig .tc .vmem S160x256 .f32) (harg7 : arg7.IsWhole) (arg8 : Memref sig .tc .smem S8x128 .i32) (harg8 : arg8.IsWhole)
  (xt : TbBuf0 (F := F) c tbM0_0)

/-- The loop over a batch's words that adds the hits. -/
@[sl_loop] def loop13 (v4 : BitVec 32) (k0_h1 : k0_cond1 v4 = 1#1) (k0_t3 : Fin k0_t3_loop.trips) (v10 : BitVec 32) (k0_h2 : k0_cond2 v10 = 1#1) (v1028 v1034 : Elt F .i32)
    (k0_hw2 : k0_chk2 v4 v10 v1028 v1034) (k0_t12 : Fin (k0_t12_loop v1034).trips) (g8 : BufTy.Contents (Elt F) arg8.view.ty)
    (g3 : BufTy.Contents (Elt F) arg3.view.ty) (A0 : Vec F S160x256 .f32) :
    Idealize.ShloMosaic.LoopInv (M := Mach F) Idealize.ShloMosaic.frame (wpE (defs₀ (F := F)) Variants.none (c : Thread nD τ) none) Set.univ
      (k0_t13_loop v1034 k0_t12).lb (k0_t13_loop v1034 k0_t12).ub (k0_t13_loop v1034 k0_t12).st (k0_t13_ok v4 v10 v1028 v1034 k0_hw2 k0_t12 k0_h1 k0_h2) ⟨⟩
      (k0_t13_body (F := F) i tbM0_0 htbM0_0 arg2 harg2 arg3 harg3 hbM0_0 (Memref.isWhole_whole _) arg5 harg5 arg6 harg6 arg7 harg7 arg8 harg8 cc0_scratch3 v4 k0_h1 k0_t3 (Scf.iv 0#32 1#32 k0_t3) v10 k0_h2 v1028 v1034 k0_hw2 k0_t12) where
  inv k _ := iprop(held c arg8 g8 ∗ held c arg3 g3 ∗ (∃ f7, held c arg7 f7 ∗ ⌜arg7.view.read (Elt F) f7 = iterFin (k0_t13_loop v1034 k0_t12).trips
    (fun j => addExc (arg3.view.read (Elt F) g3) k0_t3 (atO pos_S8x128 (arg8.view.read (Elt F) g8) (k0_off46 v1034 k0_t12 j))) A0 k⌝))
  step k acc := by
    unfold k0_t13_body
    iintro ⟨H8, H3, %f7, H7, %ha⟩
    sl_exec
    sl_step
    isplitl [H8]; · iexact H8
    isplitl [H3]; · iexact H3
    iexists _
    isplitl [H7]; · iexact H7
    ipureintro
    refine Eq.trans ?_ (iterFin_succ (k0_t13_loop v1034 k0_t12).trips
      (fun j => addExc (arg3.view.read (Elt F) g3) k0_t3 (atO pos_S8x128 (arg8.view.read (Elt F) g8) (k0_off46 v1034 k0_t12 j))) A0 k).symm
    exact read_addExc k0_t3 (w := loop13.sl.r arg8 v4 k0_h1 v10 k0_h2 v1028 v1034 k0_hw2 k0_t12 g8 k)
      (readAt_atO pos_S8x128 _ _ _ (by decide) _ _ _) f7 g3 ha

/-- The loop over the batches of one sub's exceptions: each is copied in, then added. -/
@[sl_loop] def loop12 (v4 : BitVec 32) (k0_h1 : k0_cond1 v4 = 1#1) (k0_t3 : Fin k0_t3_loop.trips) (v10 : BitVec 32) (k0_h2 : k0_cond2 v10 = 1#1) (v1028 v1034 : Elt F .i32)
    (k0_hw2 : k0_chk2 v4 v10 v1028 v1034) (xe : HbBuf0 (F := F) c hbM0_0)
    (g3 : BufTy.Contents (Elt F) arg3.view.ty) (A0 : Vec F S160x256 .f32) :
    Idealize.ShloMosaic.LoopInv (M := Mach F) Idealize.ShloMosaic.frame (wpE (defs₀ (F := F)) Variants.none (c : Thread nD τ) none) Set.univ
      (k0_t12_loop v1034).lb (k0_t12_loop v1034).ub (k0_t12_loop v1034).st (k0_t12_ok v4 v10 v1028 v1034 k0_hw2 k0_h1 k0_h2) ⟨⟩
      (k0_t12_body (F := F) i tbM0_0 htbM0_0 arg2 harg2 arg3 harg3 hbM0_0 (Memref.isWhole_whole _) arg5 harg5 arg6 harg6 arg7 harg7 arg8 harg8 cc0_scratch3 v4 k0_h1 k0_t3 (Scf.iv 0#32 1#32 k0_t3) v10 k0_h2 v1028 v1034 k0_hw2) where
  inv k _ := iprop((∃ g8, held c arg8 g8) ∗ hbPt0 c hbM0_0 xe ∗ semVal ((c : Thread nD τ), SemLoc.dma 5) 0
    ∗ (∃ W, owes (c : Thread nD τ) 0 W) ∗ held c arg3 g3 ∗ (∃ f7, held c arg7 f7 ∗ ⌜arg7.view.read (Elt F) f7 = iterFin (k0_t5_loop v1034).trips
    (overBatch (hbM0_0.view.read (Elt F) xe) (addExc (arg3.view.read (Elt F) g3) k0_t3) v1028 v1034) A0 k⌝))
  step k acc := by
    unfold k0_t12_body
    iintro ⟨⟨%g8, H8⟩, HE, HS, ⟨%W, HW⟩, H3, %f7, H7, %ha⟩
    sl_exec
    sl_step
    sl_unfold_words
    isplitl [H8]; · iexists _; iexact H8
    isplitl [HE]; · iexact HE
    isplitl [HS]; · iexact HS
    isplitl [HW]; · iexists _; iexact HW
    isplitl [H3]; · iexact H3
    iexists _
    isplitl [H7]; · iexact H7
    ipureintro
    refine hL3.trans (Eq.trans ?_ (iterFin_succ (k0_t5_loop v1034).trips
      (overBatch (hbM0_0.view.read (Elt F) xe) (addExc (arg3.view.read (Elt F) g3) k0_t3) v1028 v1034) A0 k).symm)
    rw [← ha]
    exact congrArg (fun X => iterFin (k0_t13_loop v1034 k).trips
        (fun j => addExc (arg3.view.read (Elt F) g3) k0_t3 (atO pos_S8x128 X (k0_off46 v1034 k j))) (arg7.view.read (Elt F) f7) _)
      (read_copied (F := F) c _ xe _ _ _)

theorem chk2_of {v4 v10 : BitVec 32} {a a' b b' : Elt F .i32} (ha : a = a') (hb : b = b') (h : k0_chk2 v4 v10 a' b') : k0_chk2 v4 v10 a b := by
  subst ha hb; exact h

/-- The loop over the subs that adds the hits of all of them. -/
@[sl_loop] def loop11 (hr : InRange (F := F) (tbM0_0.view.read (Elt F) xt) i) (v4 : BitVec 32) (k0_h1 : k0_cond1 v4 = 1#1) (k0_t3 : Fin k0_t3_loop.trips)
    (v10 : BitVec 32) (k0_h2 : k0_cond2 v10 = 1#1) (xe : HbBuf0 (F := F) c hbM0_0)
    (g3 : BufTy.Contents (Elt F) arg3.view.ty) (A0 : Vec F S160x256 .f32) :
    Idealize.ShloMosaic.LoopInv (M := Mach F) Idealize.ShloMosaic.frame (wpE (defs₀ (F := F)) Variants.none (c : Thread nD τ) none) Set.univ
      k0_t11_loop.lb k0_t11_loop.ub k0_t11_loop.st k0_t11_ok ⟨⟩
      (k0_t11_body (F := F) i tbM0_0 htbM0_0 arg2 harg2 arg3 harg3 hbM0_0 (Memref.isWhole_whole _) arg5 harg5 arg6 harg6 arg7 harg7 arg8 harg8 cc0_scratch3 v4 k0_h1 k0_t3 (Scf.iv 0#32 1#32 k0_t3) v10 k0_h2) where
  inv k _ := iprop(tbPt0 c tbM0_0 xt ∗ (∃ g8, held c arg8 g8) ∗ hbPt0 c hbM0_0 xe ∗ semVal ((c : Thread nD τ), SemLoc.dma 5) 0
    ∗ (∃ W, owes (c : Thread nD τ) 0 W) ∗ held c arg3 g3 ∗ (∃ f7, held c arg7 f7 ∗ ⌜arg7.view.read (Elt F) f7 =
    overSubs (tbM0_0.view.read (Elt F) xt) (hbM0_0.view.read (Elt F) xe) i (addExc (arg3.view.read (Elt F) g3) k0_t3) A0 k⌝))
  step k acc := by
    unfold k0_t11_body
    iintro ⟨HT, ⟨%g8, H8⟩, HE, HS, ⟨%W, HW⟩, H3, %f7, H7, %ha⟩
    sl_exec (disch := exact chk2_of (readAt_atO pos_S2048 _ _ _ (by decide) _ _ _) (readAt_atO pos_S2048 _ _ _ (by decide) _ _ _) (hr.2 v4 v10 k))
    sl_step
    isplitl [HT]; · iexact HT
    isplitl [H8]; · iexists _; iexact H8
    isplitl [HE]; · iexact HE
    isplitl [HS]; · iexact HS
    isplitl [HW]; · iexists _; iexact HW
    isplitl [H3]; · iexact H3
    iexists _
    isplitl [H7]; · iexact H7
    ipureintro
    refine hL6.trans (Eq.trans ?_ (iterFin_succ k0_t4_loop.trips (fun w => overList (hbM0_0.view.read (Elt F) xe) (addExc (arg3.view.read (Elt F) g3) k0_t3)
      (firstAt (tbM0_0.view.read (Elt F) xt) i w) (countAt (tbM0_0.view.read (Elt F) xt) i w)) A0 k).symm)
    refine (overList_of (a := loop11.sl.r c i xt k) (b := loop11.sl.r_1 c i xt k) (readAt_atO pos_S2048 _ _ _ (by decide) _ _ _)
      (readAt_atO pos_S2048 _ _ _ (by decide) _ _ _)).trans ?_
    exact congrArg (overList (hbM0_0.view.read (Elt F) xe) (addExc (arg3.view.read (Elt F) g3) k0_t3) _ _) ha

end Cert.KernelIdeal.Gen
-- ==== Proof.KernelIdeal.Buffer.lean ====
/- The buffer of unpacked fields: what it reads once a pair of column blocks has been unpacked into it. -/
module

public import proofs.«01_k».proof.Proof.KernelIdeal.Hits
public import Idealize.ShloMosaic.Lib.Pipeline.Value

@[expose] public section

set_option maxRecDepth 16384

set_option warn.classDefReducibility false

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- Field `f` of a word and of its upper half, each under the exponent bits of a number from 128 on. -/
def fieldOf (f : ℕ) (w : BitVec 32) : BitVec 32 :=
  IntOp.ori (IntOp.andi (match f with | 0 => w | 1 => IntOp.shrui .vector w 5#32 | _ => IntOp.shrui .vector w 10#32) 2031647#32) 1124090624#32

theorem pos_S1x16x336x128 : ∀ a, 0 < S1x16x336x128.size a := by decide

/-- The unpacked fields of pair `p`: the row of 8 `3 w + f` holds field `f` of sub `w`'s words. -/
def aBuf (X : Vec F S1x16x336x128 .i32) (p : ℕ) : Vec F S384x256 .i32 := fun y =>
  fieldOf ((y 0).val / 8 % 3) (atO pos_S1x16x336x128 X
    ![0, (y 0).val / 24, 16 * p + 8 * ((y 1).val / 128) + (y 0).val % 8, (y 1).val % 128])

/-- The index of a [1,1,8,128] block at a place of [8,128]. -/
def unit4 (x : S8x128.Idx) : S1x1x8x128.Idx := fun a => ⟨![0, 0, (x 0).val, (x 1).val] a, by
  have h0 : (x 0).val < 8 := (x 0).isLt
  have h1 : (x 1).val < 128 := (x 1).isLt
  fin_cases a
  · exact Nat.one_pos
  · exact Nat.one_pos
  · exact h0
  · exact h1⟩

theorem cast4 (v : Vec F S1x1x8x128 .i32) (x : S8x128.Idx) :
    shapeCast S8x128 v shapeCasts_S1x1x8x128_S8x128 x = v (unit4 x) :=
  shapeCast_apply v _ x (unit4 x) (by
    rw [Shape.rowMajor_val_four, Shape.rowMajor_val_two]
    show ((0 * 1 + 0) * 8 + (x 0).val) * 128 + (x 1).val = (x 0).val * 128 + (x 1).val
    omega)

theorem field0 (v : Vec F S1x1x8x128 .i32) (x : S8x128.Idx) : k0_pay9 v x = fieldOf 0 (v (unit4 x)) := by
  rw [← cast4 v x]
  unfold k0_pay9
  show shapeCast S8x128 _ shapeCasts_S8x128_S8x128 x = _
  rw [shapeCast_self]; rfl
theorem field1 (v : Vec F S1x1x8x128 .i32) (x : S8x128.Idx) : k0_pay10 v x = fieldOf 1 (v (unit4 x)) := by
  rw [← cast4 v x]
  unfold k0_pay10
  show shapeCast S8x128 _ shapeCasts_S8x128_S8x128 x = _
  rw [shapeCast_self]; rfl
theorem field2 (v : Vec F S1x1x8x128 .i32) (x : S8x128.Idx) : k0_pay11 v x = fieldOf 2 (v (unit4 x)) := by
  rw [← cast4 v x]
  unfold k0_pay11
  show shapeCast S8x128 _ shapeCasts_S8x128_S8x128 x = _
  rw [shapeCast_self]; rfl

/-- A block read at offsets `o`, unpacked and stored at rows from `r0`, columns from `r1`, agrees with the buffer. -/
theorem agrees {arg2 : Memref sig .tc .vmem S1x16x336x128 .i32} (g2 : BufTy.Contents (Elt F) arg2.view.ty) (p : ℕ) {o : Fin 4 → ℕ}
    (h : ∀ a, o a + S1x1x8x128.size a ≤ S1x16x336x128.size a) {r0 r1 : ℕ} (h' : ∀ a, (![r0, r1] : Fin 2 → ℕ) a + S8x128.size a ≤ S384x256.size a)
    (ho : o = ![0, r0 / 24, 16 * p + r1 / 16, 0]) (h0 : 8 ∣ r0) (h1 : 128 ∣ r1) (x : S8x128.Idx) :
    fieldOf (r0 / 8 % 3) (View.readAt (Elt F) arg2.view (Rect.unit (s := S1x16x336x128) o S1x1x8x128.size h).toLoadRect g2 (unit4 x))
      = aBuf (arg2.view.read (Elt F) g2) p ((Rect.unit (s := S384x256) ![r0, r1] S8x128.size h').emb x) := by
  have x0 : (x 0).val < 8 := (x 0).isLt
  have x1 : (x 1).val < 128 := (x 1).isLt
  have e0 : ((Rect.unit (s := S384x256) ![r0, r1] S8x128.size h').emb x 0).val = r0 + 1 * (x 0).val := rfl
  have e1 : ((Rect.unit (s := S384x256) ![r0, r1] S8x128.size h').emb x 1).val = r1 + 1 * (x 1).val := rfl
  unfold aBuf
  rw [e0, e1]
  subst ho
  have hq : (r0 + 1 * (x 0).val) / 8 % 3 = r0 / 8 % 3 := by omega
  rw [hq]
  refine congrArg (fun v => fieldOf (r0 / 8 % 3) v) ?_
  refine congrArg (arg2.view.read (Elt F) g2) (funext fun a => Fin.ext ?_)
  have b1 : r0 / 24 + 1 ≤ 16 := h 1
  have b2 : 16 * p + r1 / 16 + 8 ≤ 336 := h 2
  have b3 : r1 + 128 ≤ 256 := h' 1
  fin_cases a
  · rfl
  · show r0 / 24 + 1 * 0 = (r0 + 1 * (x 0).val) / 24 % 16
    omega
  · show 16 * p + r1 / 16 + 1 * (x 0).val = (16 * p + 8 * ((r1 + 1 * (x 1).val) / 128) + (r0 + 1 * (x 0).val) % 8) % 336
    omega
  · show 0 + 1 * (x 1).val = (r1 + 1 * (x 1).val) % 128 % 128
    omega

theorem piece0 {arg2 : Memref sig .tc .vmem S1x16x336x128 .i32} (g2 : BufTy.Contents (Elt F) arg2.view.ty) (p : ℕ) {o : Fin 4 → ℕ}
    (h : ∀ a, o a + S1x1x8x128.size a ≤ S1x16x336x128.size a) {r0 r1 : ℕ} (h' : ∀ a, (![r0, r1] : Fin 2 → ℕ) a + S8x128.size a ≤ S384x256.size a)
    (ho : o = ![0, r0 / 24, 16 * p + r1 / 16, 0]) (h0 : 8 ∣ r0) (h1 : 128 ∣ r1) (hf : r0 / 8 % 3 = 0) (x : S8x128.Idx) :
    k0_pay9 (View.readAt (Elt F) arg2.view (Rect.unit (s := S1x16x336x128) o S1x1x8x128.size h).toLoadRect g2) x
      = aBuf (arg2.view.read (Elt F) g2) p ((Rect.unit (s := S384x256) ![r0, r1] S8x128.size h').emb x) := by
  rw [← agrees g2 p h h' ho h0 h1, hf]; exact field0 _ x
theorem piece1 {arg2 : Memref sig .tc .vmem S1x16x336x128 .i32} (g2 : BufTy.Contents (Elt F) arg2.view.ty) (p : ℕ) {o : Fin 4 → ℕ}
    (h : ∀ a, o a + S1x1x8x128.size a ≤ S1x16x336x128.size a) {r0 r1 : ℕ} (h' : ∀ a, (![r0, r1] : Fin 2 → ℕ) a + S8x128.size a ≤ S384x256.size a)
    (ho : o = ![0, r0 / 24, 16 * p + r1 / 16, 0]) (h0 : 8 ∣ r0) (h1 : 128 ∣ r1) (hf : r0 / 8 % 3 = 1) (x : S8x128.Idx) :
    k0_pay10 (View.readAt (Elt F) arg2.view (Rect.unit (s := S1x16x336x128) o S1x1x8x128.size h).toLoadRect g2) x
      = aBuf (arg2.view.read (Elt F) g2) p ((Rect.unit (s := S384x256) ![r0, r1] S8x128.size h').emb x) := by
  rw [← agrees g2 p h h' ho h0 h1, hf]; exact field1 _ x
theorem piece2 {arg2 : Memref sig .tc .vmem S1x16x336x128 .i32} (g2 : BufTy.Contents (Elt F) arg2.view.ty) (p : ℕ) {o : Fin 4 → ℕ}
    (h : ∀ a, o a + S1x1x8x128.size a ≤ S1x16x336x128.size a) {r0 r1 : ℕ} (h' : ∀ a, (![r0, r1] : Fin 2 → ℕ) a + S8x128.size a ≤ S384x256.size a)
    (ho : o = ![0, r0 / 24, 16 * p + r1 / 16, 0]) (h0 : 8 ∣ r0) (h1 : 128 ∣ r1) (hf : r0 / 8 % 3 = 2) (x : S8x128.Idx) :
    k0_pay11 (View.readAt (Elt F) arg2.view (Rect.unit (s := S1x16x336x128) o S1x1x8x128.size h).toLoadRect g2) x
      = aBuf (arg2.view.read (Elt F) g2) p ((Rect.unit (s := S384x256) ![r0, r1] S8x128.size h').emb x) := by
  rw [← agrees g2 p h h' ho h0 h1, hf]; exact field2 _ x

/-- The whole buffer loaded after pieces that agree with the unpacked fields and tile it. -/
theorem load_aBuf {arg6 : Memref sig .tc .vmem S384x256 .i32} (X : Vec F S1x16x336x128 .i32) (p : ℕ) (L : List (View.Piece (Elt F) S384x256 .i32))
    (hL : ∀ q ∈ L, ∀ x : q.1.shape.Idx, q.2 x = aBuf X p (q.1.emb x)) (ht : View.Piece.tiled L S8x128.size = true)
    (h : ∀ a, (![0, 0] : Fin 2 → ℕ) a + S384x256.size a ≤ S384x256.size a) :
    arg6.view.readCov L (Rect.unit (s := S384x256) ![0, 0] S384x256.size h).toLoadRect = aBuf X p := by
  refine (readAt_all arg6 h (arg6.view.writes (Elt F) arg6.view.junk L)).trans (funext fun y => ?_)
  exact View.read_writes_apply_of_pieces arg6.view _ (aBuf X p) L hL y (View.cover_of_tiled L S8x128.size ht y)

/-- The block of pair `p` replaced. -/
def putPair (p : ℕ) (w : Vec F S160x256 .bf16) (Y : Vec F S160x5376 .bf16) : Vec F S160x5376 .bf16 := fun y =>
  if (y 1).val / 256 = p then w (fun a => ⟨![(y 0).val, (y 1).val % 256] a, by
    have h0 : (y 0).val < 160 := (y 0).isLt
    fin_cases a
    · exact h0
    · exact Nat.mod_lt _ (by decide)⟩) else Y y

theorem read_put {arg5 : Memref sig .tc .vmem S160x5376 .bf16} (f : BufTy.Contents (Elt F) arg5.view.ty) (p : ℕ) {o : Fin 2 → ℕ}
    (h : ∀ a, o a + S160x256.size a ≤ S160x5376.size a) (ho : o = ![0, 256 * p]) (w : Vec F S160x256 .bf16) :
    arg5.view.read (Elt F) (arg5.view.writes (Elt F) f [⟨Rect.unit (s := S160x5376) o S160x256.size h, w⟩])
      = putPair p w (arg5.view.read (Elt F) f) := by
  subst ho
  funext y
  unfold putPair
  split
  · rename_i hy
    rw [View.read_writes_cons_hit_of_coords arg5.view f _ _ _ (fun a => ⟨![(y 0).val, (y 1).val % 256] a, by
      have h0 : (y 0).val < 160 := (y 0).isLt
      fin_cases a
      · exact h0
      · exact Nat.mod_lt _ (by decide)⟩) y (fun a => by
      fin_cases a
      · show (y 0).val = 0 + 1 * (y 0).val; omega
      · show (y 1).val = 256 * p + 1 * ((y 1).val % 256); omega)]
  · rename_i hy
    rw [View.writes_cons, View.read_slice_write_of_not_mem]
    · rfl
    · rw [Rect.map_emb_univ]
      intro hm
      obtain ⟨x, hx⟩ := (Rect.unit (s := S160x5376) ![0, 256 * p] S160x256.size h).toLoadRect.exists_idx_of_mem hm
      have h1 := congrArg (fun z : S160x5376.Idx => (z 1).val) hx
      have h2 : 256 * p + 1 * (x 1).val = (y 1).val := h1
      have h3 : (x 1).val < 256 := (x 1).isLt
      omega

/-- The product of the scaled rows with pair `p`'s unpacked values. -/
def product (X2 : Vec F S1x16x336x128 .i32) (X3 : Vec F S160x768 .bf16) (p : ℕ) : FVec F S160x256 .f32 := k0_pay154 X3 (aBuf X2 p)

end Cert.KernelIdeal.Gen
-- ==== Proof.KernelIdeal.Products.lean ====
/- The loop that stores the products of the pairs of column blocks. -/
module

public import proofs.«01_k».proof.Proof.KernelIdeal.Buffer

@[expose] public section

set_option maxRecDepth 16384

set_option warn.classDefReducibility false

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

variable (c : Dev nD) (i : grid0.Coords) (arg2 : Memref sig .tc .vmem S1x16x336x128 .i32) (harg2 : arg2.IsWhole) (arg3 : Memref sig .tc .vmem S160x768 .bf16) (harg3 : arg3.IsWhole) (arg5 : Memref sig .tc .vmem S160x5376 .bf16) (harg5 : arg5.IsWhole) (arg6 : Memref sig .tc .vmem S384x256 .i32) (harg6 : arg6.IsWhole) (arg7 : Memref sig .tc .vmem S160x256 .f32) (harg7 : arg7.IsWhole) (arg8 : Memref sig .tc .smem S8x128 .i32) (harg8 : arg8.IsWhole)
  (xt : TbBuf0 (F := F) c tbM0_0)

theorem off17_eq : ∀ k : Fin k0_t1_loop.trips, k0_off17 k = ![0, 256 * k.val] := by decide

set_option maxHeartbeats 4000000 in
/-- The loop over the pairs: each one's product is stored over its block. -/
@[sl_loop] def loop1 (g2 : BufTy.Contents (Elt F) arg2.view.ty) (g3 : BufTy.Contents (Elt F) arg3.view.ty) (Y0 : Vec F S160x5376 .bf16) :
    Idealize.ShloMosaic.LoopInv (M := Mach F) Idealize.ShloMosaic.frame (wpE (defs₀ (F := F)) Variants.none (c : Thread nD τ) none) Set.univ
      k0_t1_loop.lb k0_t1_loop.ub k0_t1_loop.st k0_t1_ok ⟨⟩
      (k0_t1_body (F := F) i tbM0_0 htbM0_0 arg2 harg2 arg3 harg3 hbM0_0 (Memref.isWhole_whole _) arg5 harg5 arg6 harg6 arg7 harg7 arg8 harg8 cc0_scratch3) where
  inv k _ := iprop(held c arg2 g2 ∗ held c arg3 g3 ∗ (∃ f6, held c arg6 f6) ∗ (∃ f5, held c arg5 f5 ∗ ⌜arg5.view.read (Elt F) f5 =
    iterFin k0_t1_loop.trips (fun p => putPair p (k0_pay1 (product (arg2.view.read (Elt F) g2) (arg3.view.read (Elt F) g3) p))) Y0 k⌝))
  step k acc := by
    unfold k0_t1_body
    iintro ⟨H2, H3, ⟨%f6, H6⟩, %f5, H5, %ha⟩
    sl_exec
    sl_step
    isplitl [H2]; · iexact H2
    isplitl [H3]; · iexact H3
    isplitl [H6]; · iexists _; iexact H6
    iexists _
    isplitl [H5]; · iexact H5
    ipureintro
    refine Eq.trans ?_ (iterFin_succ k0_t1_loop.trips (fun p => putPair p (k0_pay1 (product (arg2.view.read (Elt F) g2) (arg3.view.read (Elt F) g3) p))) Y0 k).symm
    rw [← ha]
    clear ha
    refine (read_put f5 k.val (k0_off17_inb k) (off17_eq k) _).trans ?_
    have hG : loop1.sl.v1003 arg2 arg6 g2 k = aBuf (arg2.view.read (Elt F) g2) k.val := by
      unfold loop1.sl.v1003 loop1.sl.H6_96
      refine load_aBuf _ _ _ ?_ rfl _
      iterate 32 (
        refine List.forall_mem_cons.2 ⟨piece2 g2 k.val _ (by decide) ?_ (by decide) (by decide) (by decide), ?_⟩
        · revert k; decide
        refine List.forall_mem_cons.2 ⟨piece1 g2 k.val _ (by decide) ?_ (by decide) (by decide) (by decide), ?_⟩
        · revert k; decide
        refine List.forall_mem_cons.2 ⟨piece0 g2 k.val _ (by decide) ?_ (by decide) (by decide) (by decide), ?_⟩
        · revert k; decide)
      exact fun q hq => absurd hq List.not_mem_nil
    exact congrArg₂ (fun (a : Vec F S160x768 .bf16) (b : Vec F S384x256 .i32) => putPair k.val (k0_pay1 (k0_pay154 a b)) (arg5.view.read (Elt F) f5))
      (readAt_all arg3 _ g3) hG

end Cert.KernelIdeal.Gen
-- ==== Proof.KernelIdeal.Fix.lean ====
/- The loop that recomputes the pairs of column blocks that have exceptions. -/
module

public import proofs.«01_k».proof.Proof.KernelIdeal.Products

@[expose] public section

set_option maxRecDepth 16384

set_option warn.classDefReducibility false

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The number of a pair's hits. -/
abbrev hitsOf (T : Vec F S2048 .i32) (E : Vec F S17168x128 .i32) (i : grid0.Coords) (p : Fin k0_t3_loop.trips) : BitVec 32 :=
  overSubs T E i (addHit (Scf.iv 0#32 1#32 p)) 0#32 k0_t4_loop.trips

/-- The product of a pair with its exceptions added. -/
abbrev fixedOf (T : Vec F S2048 .i32) (E : Vec F S17168x128 .i32) (i : grid0.Coords) (X2 : Vec F S1x16x336x128 .i32) (X3 : Vec F S160x768 .bf16)
    (p : Fin k0_t3_loop.trips) : Vec F S160x256 .f32 :=
  overSubs T E i (addExc X3 p) (k0_pay2 (product X2 X3 p)) k0_t4_loop.trips

/-- A pair's block replaced by the product with the exceptions added, if the pair has any. -/
def fixPair (T : Vec F S2048 .i32) (E : Vec F S17168x128 .i32) (i : grid0.Coords) (X2 : Vec F S1x16x336x128 .i32) (X3 : Vec F S160x768 .bf16)
    (p : Fin k0_t3_loop.trips) (Y : Vec F S160x5376 .bf16) : Vec F S160x5376 .bf16 :=
  if k0_cond2 (hitsOf T E i p) = 1#1 then putPair p (k0_pay7 (fixedOf T E i X2 X3 p)) Y else Y

theorem off51_eq : ∀ k : Fin k0_t3_loop.trips, k0_off51 k = ![0, 256 * k.val] := by decide

variable (c : Dev nD) (i : grid0.Coords) (arg2 : Memref sig .tc .vmem S1x16x336x128 .i32) (harg2 : arg2.IsWhole) (arg3 : Memref sig .tc .vmem S160x768 .bf16) (harg3 : arg3.IsWhole) (arg5 : Memref sig .tc .vmem S160x5376 .bf16) (harg5 : arg5.IsWhole) (arg6 : Memref sig .tc .vmem S384x256 .i32) (harg6 : arg6.IsWhole) (arg7 : Memref sig .tc .vmem S160x256 .f32) (harg7 : arg7.IsWhole) (arg8 : Memref sig .tc .smem S8x128 .i32) (harg8 : arg8.IsWhole)
  (xt : TbBuf0 (F := F) c tbM0_0)

set_option maxHeartbeats 4000000 in
/-- The loop over the pairs that have exceptions. -/
@[sl_loop] def loop3 (hr : InRange (F := F) (tbM0_0.view.read (Elt F) xt) i) (v4 : BitVec 32) (k0_h1 : k0_cond1 v4 = 1#1) (xe : HbBuf0 (F := F) c hbM0_0)
    (g2 : BufTy.Contents (Elt F) arg2.view.ty) (g3 : BufTy.Contents (Elt F) arg3.view.ty) (Y0 : Vec F S160x5376 .bf16) :
    Idealize.ShloMosaic.LoopInv (M := Mach F) Idealize.ShloMosaic.frame (wpE (defs₀ (F := F)) Variants.none (c : Thread nD τ) none) Set.univ
      k0_t3_loop.lb k0_t3_loop.ub k0_t3_loop.st k0_t3_ok ⟨⟩
      (k0_t3_body (F := F) i tbM0_0 htbM0_0 arg2 harg2 arg3 harg3 hbM0_0 (Memref.isWhole_whole _) arg5 harg5 arg6 harg6 arg7 harg7 arg8 harg8 cc0_scratch3 v4 k0_h1) where
  inv k _ := iprop(tbPt0 c tbM0_0 xt ∗ (∃ g8, held c arg8 g8) ∗ hbPt0 c hbM0_0 xe ∗ semVal ((c : Thread nD τ), SemLoc.dma 5) 0
    ∗ (∃ W, owes (c : Thread nD τ) 0 W) ∗ held c arg2 g2 ∗ held c arg3 g3 ∗ (∃ f6, held c arg6 f6) ∗ (∃ f7, held c arg7 f7)
    ∗ (∃ f5, held c arg5 f5 ∗ ⌜arg5.view.read (Elt F) f5 = iterFin k0_t3_loop.trips
      (fixPair (tbM0_0.view.read (Elt F) xt) (hbM0_0.view.read (Elt F) xe) i (arg2.view.read (Elt F) g2) (arg3.view.read (Elt F) g3)) Y0 k⌝))
  step k acc := by
    unfold k0_t3_body
    iintro ⟨HT, ⟨%g8, H8⟩, HE, HS, ⟨%W, HW⟩, H2, H3, ⟨%f6, H6⟩, ⟨%f7, H7⟩, %f5, H5, %ha⟩
    sl_exec
    split
    · rename_i hb
      sl_exec
      sl_step
      isplitl [HT]; · iexact HT
      isplitl [H8]; · iexists _; iexact H8
      isplitl [HE]; · iexact HE
      isplitl [HS]; · iexact HS
      isplitl [HW]; · iexists _; iexact HW
      isplitl [H2]; · iexact H2
      isplitl [H3]; · iexact H3
      isplitl [H6]; · iexists _; iexact H6
      isplitl [H7]; · iexists _; iexact H7
      iexists _
      isplitl [H5]; · iexact H5
      ipureintro
      refine Eq.trans ?_ (iterFin_succ k0_t3_loop.trips (fixPair (tbM0_0.view.read (Elt F) xt) (hbM0_0.view.read (Elt F) xe) i
        (arg2.view.read (Elt F) g2) (arg3.view.read (Elt F) g3)) Y0 k).symm
      rw [← ha]
      refine Eq.trans ?_ (if_pos hb).symm
      clear ha hb
      refine (read_put f5 k.val (k0_off51_inb k) (off51_eq k) _).trans ?_
      rw [readAt_all, hL7]
      clear hL7
      have hG : loop3.sl.v1007 arg2 arg6 g2 k = aBuf (arg2.view.read (Elt F) g2) k.val := by
        unfold loop3.sl.v1007 loop3.sl.H6_96
        refine load_aBuf _ _ _ ?_ rfl _
        iterate 32 (
          refine List.forall_mem_cons.2 ⟨piece2 g2 k.val _ (by decide) ?_ (by decide) (by decide) (by decide), ?_⟩
          · revert k; decide
          refine List.forall_mem_cons.2 ⟨piece1 g2 k.val _ (by decide) ?_ (by decide) (by decide) (by decide), ?_⟩
          · revert k; decide
          refine List.forall_mem_cons.2 ⟨piece0 g2 k.val _ (by decide) ?_ (by decide) (by decide) (by decide), ?_⟩
          · revert k; decide)
        exact fun q hq => absurd hq List.not_mem_nil
      have hp : loop3.sl.r_3 arg2 arg3 arg6 g2 g3 k = product (arg2.view.read (Elt F) g2) (arg3.view.read (Elt F) g3) k.val :=
        congrArg₂ (fun (a : Vec F S160x768 .bf16) (b : Vec F S384x256 .i32) => k0_pay154 a b) (readAt_all arg3 _ g3) hG
      exact congrArg (fun A => putPair k.val (k0_pay7 (overSubs (tbM0_0.view.read (Elt F) xt) (hbM0_0.view.read (Elt F) xe) i
          (addExc (arg3.view.read (Elt F) g3) k) A k0_t4_loop.trips)) (arg5.view.read (Elt F) f5))
        ((read_store_all arg7 inb_S160x256_S160x256_0_0 arg7.view.junk _).trans (congrArg k0_pay2 hp))
    · rename_i hb
      sl_step
      isplitl [HT]; · iexact HT
      isplitl [H8]; · iexists _; iexact H8
      isplitl [HE]; · iexact HE
      isplitl [HS]; · iexact HS
      isplitl [HW]; · iexists _; iexact HW
      isplitl [H2]; · iexact H2
      isplitl [H3]; · iexact H3
      isplitl [H6]; · iexists _; iexact H6
      isplitl [H7]; · iexists _; iexact H7
      iexists _
      isplitl [H5]; · iexact H5
      ipureintro
      refine Eq.trans ?_ (iterFin_succ k0_t3_loop.trips (fixPair (tbM0_0.view.read (Elt F) xt) (hbM0_0.view.read (Elt F) xe) i
        (arg2.view.read (Elt F) g2) (arg3.view.read (Elt F) g3)) Y0 k).symm
      rw [← ha]
      exact (if_neg hb).symm

end Cert.KernelIdeal.Gen
-- ==== Proof.KernelIdeal.Block.lean ====
/- The output's block: pair after pair of column blocks. -/
module

public import proofs.«01_k».proof.Proof.KernelIdeal.Fix

@[expose] public section

set_option maxRecDepth 16384

set_option warn.classDefReducibility false

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

theorem iterFin_zero {α : Type} (n : ℕ) (f : Fin n → α → α) (a : α) : iterFin n f a 0 = a := rfl

/-- The block whose pair `p` of column blocks is `w p`. -/
def tiles (w : ℕ → Vec F S160x256 .bf16) : Vec F S160x5376 .bf16 := fun y =>
  w ((y 1).val / 256) (fun a => ⟨![(y 0).val, (y 1).val % 256] a, by
    have h0 : (y 0).val < 160 := (y 0).isLt
    fin_cases a
    · exact h0
    · exact Nat.mod_lt _ (by decide)⟩)

theorem putPair_apply (p : ℕ) (w : ℕ → Vec F S160x256 .bf16) (Y : Vec F S160x5376 .bf16) (y) :
    putPair p (w p) Y y = if (y 1).val / 256 = p then tiles w y else Y y := by
  unfold putPair tiles
  split
  · rename_i h; rw [h]
  · rfl

/-- Storing pair after pair leaves the block of all of them, whatever was there. -/
theorem iterFin_putPair (n : ℕ) (w : ℕ → Vec F S160x256 .bf16) (Y : Vec F S160x5376 .bf16) (k : ℕ) (hk : k ≤ n) :
    iterFin n (fun p => putPair p.val (w p.val)) Y k = fun y => if (y 1).val / 256 < k then tiles w y else Y y := by
  induction k with
  | zero => funext y; rw [if_neg (Nat.not_lt_zero _)]; rfl
  | succ k ih =>
    refine (iterFin_succ n (fun p => putPair p.val (w p.val)) Y ⟨k, hk⟩).trans ?_
    rw [ih (by omega)]
    funext y
    rw [putPair_apply]
    by_cases h : (y 1).val / 256 = k
    · rw [if_pos h, if_pos (by omega)]
    · rw [if_neg h]
      by_cases h' : (y 1).val / 256 < k
      · rw [if_pos h', if_pos (by omega)]
      · rw [if_neg h', if_neg (by omega)]

/-- Pair `p`'s columns of the block: the product, with the exceptions added if the pair has any. -/
def fixedTile (T : Vec F S2048 .i32) (E : Vec F S17168x128 .i32) (i : grid0.Coords) (X2 : Vec F S1x16x336x128 .i32) (X3 : Vec F S160x768 .bf16)
    (p : ℕ) : Vec F S160x256 .bf16 :=
  if h : p < k0_t3_loop.trips then
    if k0_cond2 (hitsOf T E i ⟨p, h⟩) = 1#1 then k0_pay7 (fixedOf T E i X2 X3 ⟨p, h⟩) else k0_pay1 (product X2 X3 p)
  else k0_pay1 (product X2 X3 p)

theorem fixPair_tiles (T : Vec F S2048 .i32) (E : Vec F S17168x128 .i32) (i : grid0.Coords) (X2 : Vec F S1x16x336x128 .i32) (X3 : Vec F S160x768 .bf16)
    (p : Fin k0_t3_loop.trips) (Y : Vec F S160x5376 .bf16)
    (hY : ∀ y, (y 1).val / 256 = p.val → Y y = tiles (fun p => k0_pay1 (product X2 X3 p)) y) :
    fixPair T E i X2 X3 p Y = putPair p.val (fixedTile T E i X2 X3 p.val) Y := by
  unfold fixPair fixedTile
  rw [dif_pos p.isLt]
  split
  · rfl
  · funext y
    rw [putPair_apply p.val (fun p => k0_pay1 (product X2 X3 p))]
    split
    · rename_i h; exact hY y h
    · rfl

/-- The exceptions' loop over the block of the products leaves the block of the corrected pairs. -/
theorem iterFin_fixPair (T : Vec F S2048 .i32) (E : Vec F S17168x128 .i32) (i : grid0.Coords) (X2 : Vec F S1x16x336x128 .i32) (X3 : Vec F S160x768 .bf16)
    (k : ℕ) (hk : k ≤ k0_t3_loop.trips) :
    iterFin k0_t3_loop.trips (fixPair T E i X2 X3) (tiles fun p => k0_pay1 (product X2 X3 p)) k
      = iterFin k0_t3_loop.trips (fun p => putPair p.val (fixedTile T E i X2 X3 p.val)) (tiles fun p => k0_pay1 (product X2 X3 p)) k := by
  induction k with
  | zero => rw [iterFin_zero, iterFin_zero]
  | succ k ih =>
    refine (iterFin_succ k0_t3_loop.trips (fixPair T E i X2 X3) _ ⟨k, hk⟩).trans
      (Eq.trans ?_ (iterFin_succ k0_t3_loop.trips (fun p => putPair p.val (fixedTile T E i X2 X3 p.val)) _ ⟨k, hk⟩).symm)
    rw [ih (by omega)]
    refine fixPair_tiles T E i X2 X3 ⟨k, hk⟩ _ fun y hy => ?_
    rw [iterFin_putPair _ _ _ _ (by omega)]
    exact if_neg (Nat.not_lt.2 (Nat.le_of_eq hy.symm))

theorem lt_trips1 (y : S160x5376.Idx) : (y 1).val / 256 < k0_t1_loop.trips := by
  have h : (y 1).val < 5376 := (y 1).isLt
  have e : k0_t1_loop.trips = 21 := by decide
  omega
theorem lt_trips3 (y : S160x5376.Idx) : (y 1).val / 256 < k0_t3_loop.trips := by
  have h : (y 1).val < 5376 := (y 1).isLt
  have e : k0_t3_loop.trips = 21 := by decide
  omega

/-- What the body leaves in the output's block. -/
def blockOf (T : Vec F S2048 .i32) (E : Vec F S17168x128 .i32) (i : grid0.Coords) (X2 : Vec F S1x16x336x128 .i32) (X3 : Vec F S160x768 .bf16) :
    Vec F S160x5376 .bf16 :=
  if k0_cond1 (totalOf T i k0_t2_loop.trips) = 1#1 then tiles (fixedTile T E i X2 X3) else tiles fun p => k0_pay1 (product X2 X3 p)

theorem loop1_end (X2 : Vec F S1x16x336x128 .i32) (X3 : Vec F S160x768 .bf16) (Y : Vec F S160x5376 .bf16) :
    iterFin k0_t1_loop.trips (fun p => putPair p (k0_pay1 (product X2 X3 p))) Y k0_t1_loop.trips = tiles fun p => k0_pay1 (product X2 X3 p) := by
  rw [iterFin_putPair k0_t1_loop.trips (fun p => k0_pay1 (product X2 X3 p)) Y _ le_rfl]
  funext y
  rw [if_pos (lt_trips1 y)]

theorem loop3_end (T : Vec F S2048 .i32) (E : Vec F S17168x128 .i32) (i : grid0.Coords) (X2 : Vec F S1x16x336x128 .i32) (X3 : Vec F S160x768 .bf16) :
    iterFin k0_t3_loop.trips (fixPair T E i X2 X3) (tiles fun p => k0_pay1 (product X2 X3 p)) k0_t3_loop.trips
      = tiles (fixedTile T E i X2 X3) := by
  rw [iterFin_fixPair T E i X2 X3 _ le_rfl, iterFin_putPair _ _ _ _ le_rfl]
  funext y
  rw [if_pos (lt_trips3 y)]

end Cert.KernelIdeal.Gen
-- ==== Proof.KernelIdeal.Run.lean ====
/- The run of the kernel's body at one grid point. -/
module

public import proofs.«01_k».proof.Proof.KernelIdeal.Block

@[expose] public section

set_option maxRecDepth 16384

set_option warn.classDefReducibility false

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

set_option maxHeartbeats 4000000 in
/-- The body's triple: on whole staging memrefs the inputs' buffers end as they were and the output's at its block. -/
theorem kernelRun (c : Dev nD) (i : grid0.Coords) (arg2 : Memref sig .tc .vmem S1x16x336x128 .i32) (harg2 : arg2.IsWhole) (arg3 : Memref sig .tc .vmem S160x768 .bf16) (harg3 : arg3.IsWhole) (arg5 : Memref sig .tc .vmem S160x5376 .bf16) (harg5 : arg5.IsWhole) (arg6 : Memref sig .tc .vmem S384x256 .i32) (harg6 : arg6.IsWhole) (arg7 : Memref sig .tc .vmem S160x256 .f32) (harg7 : arg7.IsWhole) (arg8 : Memref sig .tc .smem S8x128 .i32) (harg8 : arg8.IsWhole)
    (x0 : Vec F S1x16x336x128 .i32) (x1 : Vec F S160x768 .bf16) (xt : TbBuf0 (F := F) c tbM0_0) (xe : HbBuf0 (F := F) c hbM0_0)
    (hr : InRange (F := F) (tbM0_0.view.read (Elt F) xt) i) :
      ∀ (W : Waits sig Unit) (K : PUnit → sProp (MT nD τ sig Unit (Elt F) ℕ (Pipeline.UD sig nD τ) ℕ)),
        iprop(owns (c : Thread nD τ) arg2 fullShare x0 ∗ owns (c : Thread nD τ) arg3 fullShare x1 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ tbPt0 c tbM0_0 xt ∗ semVal ((c : Thread nD τ), SemLoc.dma 5) 0 ∗ hbPt0 c hbM0_0 xe ∗ owes (c : Thread nD τ) 0 W
            ∗ (iprop(owns (c : Thread nD τ) arg2 fullShare x0 ∗ owns (c : Thread nD τ) arg3 fullShare x1 ∗ owns (c : Thread nD τ) arg5 fullShare (blockOf (tbM0_0.view.read (Elt F) xt) (hbM0_0.view.read (Elt F) xe) i x0 x1) ∗ (∃ d, owns (c : Thread nD τ) arg6 fullShare d) ∗ (∃ d, owns (c : Thread nD τ) arg7 fullShare d) ∗ (∃ d, owns (c : Thread nD τ) arg8 fullShare d) ∗ tbPt0 c tbM0_0 xt ∗ semVal ((c : Thread nD τ), SemLoc.dma 5) 0 ∗ hbPt0 c hbM0_0 xe ∗ (∃ W', owes (c : Thread nD τ) 0 W')) -∗ K ⟨⟩))
          ⊢ wp Idealize.ShloMosaic.frame (wpE (defs₀ (F := F)) Variants.none c none) Set.univ (cc0_spmm i tbM0_0 htbM0_0 arg2 harg2 arg3 harg3 (Memref.whole main_arg3) (Memref.isWhole_whole _) arg5 harg5 arg6 harg6 arg7 harg7 arg8 harg8 cc0_scratch3) K := by
  intro W K
  simp only [cc0_spmm_eq_skeleton]; unfold cc0_spmm_skel
  unfold owns
  iintro ⟨⟨%f0, %hf0, H0⟩, ⟨%f1, %hf1, H1⟩, ⟨%d2, %f2, -, H2⟩, ⟨%ds0, %fs0, -, HS0⟩, ⟨%ds1, %fs1, -, HS1⟩, ⟨%ds2, %fs2, -, HS2⟩, HT0, Hq0, Hh0, HW, Hk⟩
  obtain rfl := harg2.eq_unread hf0; obtain rfl := harg3.eq_unread hf1
  sl_exec
  have hL4 := hL4.trans (loop1_end _ _ _)
  rw [hf0, hf1] at hL4
  split
  · rename_i hb
    sl_exec
    rw [hf0, hf1] at hL10
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; swap; · iexact H2
      ipureintro
      refine (hL10.trans (congrArg (fun Y => iterFin k0_t3_loop.trips (fixPair (tbM0_0.view.read (Elt F) xt) (hbM0_0.view.read (Elt F) xe) i x0 x1) Y
        k0_t3_loop.trips) hL4)).trans ?_
      exact (loop3_end _ _ _ _ _).trans (if_pos hb).symm
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    isplitl [HT0]; · iexact HT0
    isplitl [Hq0]; · iexact Hq0
    isplitl [Hh0]; · iexact Hh0
    iexists _; iexact HW
  · rename_i hb
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; swap; · iexact H2
      ipureintro
      rw [hL4]
      exact (if_neg hb).symm
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    isplitl [HT0]; · iexact HT0
    isplitl [Hq0]; · iexact Hq0
    isplitl [Hh0]; · iexact Hh0
    iexists _; iexact HW

end Cert.KernelIdeal.Gen
-- ==== Proof.KernelIdeal.Frame.lean ====
/- The launch of the kernel: its result array and its frame. -/
module

public import proofs.«01_k».proof.Proof.KernelIdeal.Run

public import Idealize.ShloMosaic.Lib.Claim

@[expose] public section

set_option maxRecDepth 16384

set_option warn.classDefReducibility false

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)
/-! ## The pipeline's proof data -/

/-- The body's block at point `t`. -/
abbrev outBlock (hO : Ok m) (c : Dev nD) (t : Fin (cfgM m hO).N) : Vec F S160x5376 .bf16 :=
  blockOf (tbM0_0.view.read (Elt F) (tbl m 0)) (hbM0_0.view.read (Elt F) (V m c main_arg3)) (grid0.coords t) (iblk m hO c 0 t) (iblk m hO c 1 t)

/-- The proof data of the one pipeline on core `c`: the arrays as the region finds them (`V`); after the body at
    point `t` each input's buffer at its block and the outputs, FORGOTTEN, at `Dat.unnamed`; the invariant
    (Lib/Pipeline/Frame.lean `ΦD`: the scoped rest, the generator register, the own cells at zero, the HBM operands at
    their launch contents; and the tables' halves, `ΦT`); nothing owed; full shares. -/
def dats (hO : Ok m) (_ : Fin 1) (c : Dev nD) : Dat τ (Elt F) Unit ℕ (Pipeline.UD sig nD τ) ℕ (cfgM m hO) c where
  A w := V m c (Pipeline.arrRef spec0 w)
  after w t := match w with
    | ⟨0, _⟩ => iblk m hO c 0 t
    | ⟨1, _⟩ => iblk m hO c 1 t
    | ⟨2, _⟩ => outBlock m hO c t
  Φ _ := iprop(Pipeline.ΦD osem0 spec0 H0 (V m) c ∗ Pipeline.ΦT pre0 (tbl m) c)
  q _ := fullShare
  owed _ := 0

/-- The proof data's arrays are the region-entry contents: the proof data's definition projected (`dsimp`), so that
    `V` — a fold over @main's host prefix, long for some programs — is never unfolded to check it. -/
theorem A_eq (hO : Ok m) (c : Dev nD) (w : Fin (cfgM m hO).W) : (dats m hO 0 c).A w = V m c (Pipeline.arrRef spec0 w) := by
  dsimp only [dats]

/-- What the body leaves, window by window (the proof data's `match` reduced by `dsimp`). -/
theorem after0_0 (hO : Ok m) (c : Dev nD) (t : Fin (cfgM m hO).N) : (dats m hO 0 c).after 0 t = iblk m hO c 0 t := by dsimp only [dats]; try rfl
theorem after0_1 (hO : Ok m) (c : Dev nD) (t : Fin (cfgM m hO).N) : (dats m hO 0 c).after 1 t = iblk m hO c 1 t := by dsimp only [dats]; try rfl

theorem after0_2 (hO : Ok m) (c : Dev nD) (t : Fin (cfgM m hO).N) : (dats m hO 0 c).after 2 t = outBlock m hO c t := by dsimp only [dats]; try rfl

/-- Each input's current staging buffer holds its block at every point, fetched there or not (`beforeK_W_of`). -/
theorem before0_0 (hO : Ok m) (c : Dev nD) (t : Fin (cfgM m hO).N) (d) : (dats m hO 0 c).before 0 t d = iblk m hO c 0 t :=
  before0_0_of m hO (dats m hO 0 c) (A_eq m hO c 0) (after0_0 m hO c) t d
theorem before0_1 (hO : Ok m) (c : Dev nD) (t : Fin (cfgM m hO).N) (d) : (dats m hO 0 c).before 1 t d = iblk m hO c 1 t :=
  before0_1_of m hO (dats m hO 0 c) (A_eq m hO c 1) (after0_1 m hO c) t d

/-! ## The body obligation, at a generic point -/

/-- What the body is called with at point `t` (Lib/Pipeline.lean `BodyObligation`'s precondition, the windows one by one), -/
def bodyPre (hO : Ok m) (c : Dev nD) (t : Fin (cfgM m hO).N) : sProp (MT nD τ sig Unit (Elt F) ℕ (Pipeline.UD sig nD τ) ℕ) :=
  iprop((dats m hO 0 c).Φ t.castSucc ∗ (dats m hO 0 c).owesAt () t.castSucc
    ∗ (∃ d, owns (c : Thread nD τ) (ms0_0 m hO t) fullShare ((dats m hO 0 c).before 0 t d))
    ∗ (∃ d, owns (c : Thread nD τ) (ms0_1 m hO t) fullShare ((dats m hO 0 c).before 1 t d))
    ∗ (∃ d, owns (c : Thread nD τ) (ms0_2 m hO t) fullShare ((dats m hO 0 c).before 2 t d)))

/-- and what it returns. -/
def bodyPost (hO : Ok m) (c : Dev nD) (t : Fin (cfgM m hO).N) : sProp (MT nD τ sig Unit (Elt F) ℕ (Pipeline.UD sig nD τ) ℕ) :=
  iprop((dats m hO 0 c).Φ t.succ ∗ (dats m hO 0 c).owesAt () t.succ
    ∗ owns (c : Thread nD τ) (ms0_0 m hO t) fullShare ((dats m hO 0 c).after 0 t)
    ∗ owns (c : Thread nD τ) (ms0_1 m hO t) fullShare ((dats m hO 0 c).after 1 t)
    ∗ owns (c : Thread nD τ) (ms0_2 m hO t) fullShare ((dats m hO 0 c).after 2 t))

/-- The body at any point: the inputs' memrefs hold their blocks (`before0_W`); so the
    run applies; the invariant (`PhiD0_eq`) hands the body its scratch, the register, its DMA cells at zero and the HBM operands, and takes them back as they were; the core's `owes` goes in at whatever the points before recorded and comes back with this point's waits, within the next point's bound (everything). -/
theorem sound_body (hO : Ok m) (hr : ∀ i, InRange (F := F) (tbM0_0.view.read (Elt F) (tbl m 0)) i) (c : Dev nD) (t : Fin (cfgM m hO).N) :
    bodyPre m hO c t ⊢ wp Idealize.ShloMosaic.frame (wpE (defs₀ (F := F)) Variants.none c none) Set.univ (bodyAt0 (adm m hO) t) (fun _ => bodyPost m hO c t) := by
  unfold bodyPre bodyPost bodyAt0
  simp only [before0_0, before0_1]
  rw [show (dats m hO 0 c).Φ t.succ = (dats m hO 0 c).Φ t.castSucc from rfl,
    after0_0, after0_1, after0_2]
  rw [show (dats m hO 0 c).Φ t.castSucc = iprop(Pipeline.ΦD osem0 spec0 H0 (V m) c ∗ Pipeline.ΦT pre0 (tbl m) c) from rfl, PhiD0_eq, PhiT0_eq]
  unfold Dat.owesAt Pipeline.owesWithin
  rw [show (dats m hO 0 c).owed t.castSucc = 0 from rfl, show (dats m hO 0 c).owed t.succ = 0 from rfl]
  iintro ⟨⟨⟨⟨HS0, HS1, HS2⟩, Hg, Hq0, Hh0⟩, HT0⟩, ⟨%W, -, HW⟩, ⟨%d0, H0⟩, ⟨%d1, H1⟩, ⟨%d2, H2⟩⟩
  iapply ((kernelRun c (grid0.coords t) _ _ _ _ _ _ _ _ _ _ _ _ (iblk m hO c 0 t) (iblk m hO c 1 t) (tbl m 0) (V m c main_arg3) (hr _)) W _)
  isplitl [H0]; · iexact H0
  isplitl [H1]; · iexact H1
  isplitl [H2]; · iexists _; iexact H2
  isplitl [HS0]; · iexact HS0
  isplitl [HS1]; · iexact HS1
  isplitl [HS2]; · iexact HS2
  isplitl [HT0]; · iexact HT0
  isplitl [Hq0]; · iexact Hq0
  isplitl [Hh0]; · iexact Hh0
  isplitl [HW]; · iexact HW
  iintro ⟨H0, H1, H2, HS0, HS1, HS2, HT0, Hq0, Hh0, ⟨%W', HW'⟩⟩
  isplitl [HS0 HS1 HS2 Hg Hq0 Hh0 HT0]
  · isplitl [HS0 HS1 HS2 Hg Hq0 Hh0]
    · isplitl [HS0 HS1 HS2]
      · isplitl [HS0]; · iexact HS0
        isplitl [HS1]; · iexact HS1
        iexact HS2
      isplitl [Hg]
      · iexact Hg
      isplitl [Hq0]
      · iexact Hq0
      iexact Hh0
    iexact HT0
  isplitl [HW']
  · iexists W'; isplitr; · ipureintro; exact fun _ _ => Or.inl trivial
    iexact HW'
  isplitl [H0]; · iexact H0
  isplitl [H1]; · iexact H1
  iexact H2

/-- The body table's row at point `t`'s slots is the body as `bodyAt0` spells it. -/
theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

/-- The library's body obligation, at every point: the body's triple restated (Lib/Pipeline/FrameBody.lean `triple_restated`). -/
theorem body_obligation (hO : Ok m) (hr : ∀ i, InRange (F := F) (tbM0_0.view.read (Elt F) (tbl m 0)) i) (c : Dev nD) : BodyObligation (dats (F := F) m hO 0 c) (defs₀ (F := F)) Variants.none () Set.univ := fun t => by
  rw [bigSep_W0, bigSep_W0, defs₀_row m hO]
  exact triple_restated (sound_body m hO hr c t) rfl .rfl fun _ => .rfl

/-! ## The run and the frame -/

set_option backward.isDefEq.respectTransparency.types false in
/-- The launch: every weakly fair execution from zero counters ends with the arrays as the proof data says, every other
    buffer as it was, and every counter at zero. -/
theorem run_main_quiescent (hO : Ok m) (hr : ∀ i, InRange (F := F) (tbM0_0.view.read (Elt F) (tbl m 0)) i) :
    θ_run defs (onTc (τ := τ) (main (F := F))) (s₀ m ρ) (fun r => Pipeline.FramePost (Pipeline.pin pcfgs fun _ => adm m hO) (dats m hO) 0 (V m) r ∧ r.2.sem = fun _ => 0) :=
  Pipeline.θ_run_frameP_dma (Q' := _) pcfgs (fun _ => adm m hO) (dats m hO) (0 : Fin 1) launch0 osem0 defs₀ Variants.none ownSemFacts0 H0 H0_sub m ρ main
    (hbody := fun c => (body_obligation m hO hr c).loose) (hshare := fun c => (dats m hO 0 c).share_full fun _ => rfl)
    (howed := fun _ _ => rfl) (V := V m) (hmain := hmain m Variants.none) (hA := A_eq m hO) (hpf := V_pre m) (hin := fun _ => .rfl) (hout := fun c => by change iprop(_ ∗ _) ⊢ _; iintro ⟨HD, -⟩; iexact HD)

/-- The run: the result array holds what the write-backs left, the arguments are unchanged and the counters are zero. -/
theorem run_value (hO : Ok m) (hr : ∀ i, InRange (F := F) (tbM0_0.view.read (Elt F) (tbl m 0)) i) :
    θ_run defs (onTc (τ := τ) (main (F := F))) ⟨m, fun _ => 0, ρ⟩ (fun r => (∀ c : Dev nD,
      r.2.mem ((c.tc : Thread nD τ).loc main_v0) = (dats m hO 0 c).arrAt 2 (cfgM m hO).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) ∧ r.2.sem = fun _ => 0) :=
  (θ_run defs _ _).mono (fun _ h => ⟨fun c => ⟨(h.1 c).1 2,
      ((h.1 c).2 main_arg0 (by decide : main_arg0 ∈ Pipeline.restRefs sig spec0)).trans (V_main_arg0 m c),
      ((h.1 c).1 0).trans (((dats m hO 0 c).arrAt_in 0 rfl _).trans ((A_eq m hO c 0).trans (V_main_arg1 m c))),
      ((h.1 c).1 1).trans (((dats m hO 0 c).arrAt_in 1 rfl _).trans ((A_eq m hO c 1).trans (V_main_arg2 m c))),
      ((h.1 c).2 main_arg3 (by decide : main_arg3 ∈ Pipeline.restRefs sig spec0)).trans (V_main_arg3 m c)⟩, h.2⟩)
    (run_main_quiescent m ρ hO hr)

/-- The frame. -/
theorem frame (hO : Ok m) (hr : ∀ i, InRange (F := F) (tbM0_0.view.read (Elt F) (tbl m 0)) i) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) ∧ r.2.sem = fun _ => 0) :=
  (θ_run defs _ _).mono (fun _ h => ⟨fun c => (h.1 c).2, h.2⟩) (run_value m ρ hO hr)

end Cert.KernelIdeal.Gen
-- ==== Proof.KernelIdeal.Inbounds.lean ====
/- The precondition puts every sub's exceptions inside their array: every transfer and load of the kernel is in bounds. -/
module

public import proofs.«01_k».proof.Proof.KernelIdeal.Bounds
public import proofs.«01_k».proof.Proof.KernelIdeal.Frame
public import proofs.«01_k».proof.Proof.Pre

@[expose] public section

set_option maxRecDepth 16384

noncomputable section

namespace Cert.KernelIdeal.Gen

open Idealize.ShloMosaic Idealize.ShloMosaic.TcCoe

variable {F : FTy → Type} [FloatOps F]

set_option maxHeartbeats 1000000 in
/-- Where the kernel reads a sub's first place and number in the table: column 2 and column 0 of the core's row, at the slab. -/
theorem off19_at : ∀ (i : grid0.Coords) (w : Fin k0_t4_loop.trips), k0_off19 i w 0 = 64 * (((i 0).val % 2) * 16 + w.val) + 16 * 2 + (i 0).val / 2 := by
  decide +kernel
theorem off20_at : ∀ (i : grid0.Coords) (w : Fin k0_t4_loop.trips), k0_off20 i w 0 = 64 * (((i 0).val % 2) * 16 + w.val) + 16 * 0 + (i 0).val / 2 := by
  decide +kernel
theorem off18_at : ∀ (i : grid0.Coords) (w : Fin k0_t2_loop.trips), k0_off18 i w 0 = 64 * (((i 0).val % 2) * 16 + w.val) + 16 * 0 + (i 0).val / 2 := by
  decide +kernel

/-- The table's word read at `o` is the word numbered `n`. -/
theorem tabAt_word (T : Vec F S2048 .i32) (o : Fin 1 → ℕ) (n : ℕ) (h : o 0 = n) : tabAt T o = Cert.Pre_exceptions_in_range.word T n := by
  refine congrArg T (funext fun a => Fin.ext ?_)
  have ha : a = 0 := Subsingleton.elim _ _
  subst ha
  exact congrArg (· % 2048) h

variable [Cert.Pre_exceptions_in_range.Facts]

/-- Every sub's exceptions fit. -/
theorem fits_of_pre (T : Vec F S2048 .i32) (W : Vec F S30x16x336x128 .i32) (X : Vec F S160x768 .bf16) (E : Vec F S17168x128 .i32)
    (h : Cert.Pre_exceptions_in_range.fn (F := F) T W X E = fun _ => 1#1) (i : grid0.Coords) (w : Fin k0_t4_loop.trips) :
    Fits (firstAt T i w) (countAt T i w) := by
  have hi : (i 0).val < 30 := (i 0).isLt
  have hw : w.val < 16 := w.isLt.trans_le (by decide)
  obtain ⟨h1, h2, h3, h4⟩ := Cert.Pre_exceptions_in_range.decoded (F := F) T W X E h ⟨((i 0).val % 2) * 16 + w.val, by omega⟩ ⟨(i 0).val / 2, by omega⟩
  rw [firstAt, countAt, tabAt_word T _ _ (off19_at i w), tabAt_word T _ _ (off20_at i w)]
  exact ⟨h1, h2, h3, h4⟩

/-- The run's hypothesis, from the precondition on the arguments. -/
theorem inRange_of_pre (m : (ℓ : Loc nD τ sig) → Buf (Elt F) ℓ)
    (h : Cert.Pre_exceptions_in_range.fn (F := F) (m (((0 : Dev nD).tc : Thread nD τ).loc main_arg0)) (m (((0 : Dev nD).tc : Thread nD τ).loc main_arg1))
      (m (((0 : Dev nD).tc : Thread nD τ).loc main_arg2)) (m (((0 : Dev nD).tc : Thread nD τ).loc main_arg3)) = fun _ => 1#1) (i : grid0.Coords) :
    InRange (F := F) (tbM0_0.view.read (Elt F) (tbl m 0)) i :=
  inRange_of _ i fun w => fits_of_pre _ _ _ _ h i w

end Cert.KernelIdeal.Gen
-- ==== Proof.KernelIdeal.Lists.lean ====
/- The kernel's loops over a block's exceptions are folds over one list of words. -/
module

public import proofs.«01_k».proof.Proof.KernelIdeal.Inbounds
public import proofs.«01_k».proof.Proof.KernelIdeal.Block

@[expose] public section

set_option maxRecDepth 16384

noncomputable section

namespace Cert.KernelIdeal.Gen

open Idealize.ShloMosaic Idealize.ShloMosaic.TcCoe

variable {F : FTy → Type} [FloatOps F]

/-- A loop whose trips each fold `g` over a list folds it over the lists' concatenation. -/
theorem iterFin_foldl {α β : Type} (n : ℕ) (f : Fin n → α → α) (g : β → α → α) (l : ℕ → List β)
    (hf : ∀ (k : Fin n) a, f k a = (l k.val).foldl (fun a v => g v a) a) (a : α) (k : ℕ) (hk : k ≤ n) :
    iterFin n f a k = ((List.range k).flatMap l).foldl (fun a v => g v a) a := by
  induction k with
  | zero => rfl
  | succ k ih =>
    rw [List.range_succ, List.flatMap_append, List.foldl_append, ← ih (by omega)]
    refine (iterFin_succ n f a ⟨k, hk⟩).trans ?_
    rw [hf]
    simp

/-- The word at place `P` of the exceptions. -/
def excAt (E : Vec F S17168x128 .i32) (P : ℕ) : BitVec 32 := atO pos_S17168x128 E ![P / 128, P % 128]

/-- The `n` words from place `a`. -/
def stretch (E : Vec F S17168x128 .i32) (a n : ℕ) : List (BitVec 32) := (List.range n).map fun t => excAt E (a + t)

theorem stretch_add (E : Vec F S17168x128 .i32) (a n k : ℕ) : stretch E a (n + k) = stretch E a n ++ stretch E (a + n) k := by
  unfold stretch
  rw [List.range_add, List.map_append, List.map_map]
  refine congrArg (_ ++ ·) (List.map_congr_left fun t _ => ?_)
  exact congrArg (excAt E) (Nat.add_assoc a n t).symm

/-- Batches of at most 1024 words make up the stretch. -/
theorem stretch_batches (E : Vec F S17168x128 .i32) (a n k : ℕ) :
    ((List.range k).flatMap fun b => stretch E (a + 1024 * b) (min (n - 1024 * b) 1024)) = stretch E a (min n (1024 * k)) := by
  induction k with
  | zero => simp [stretch]
  | succ k ih =>
    rw [List.range_succ, List.flatMap_append, ih, List.flatMap_singleton]
    by_cases h : n ≤ 1024 * k
    · rw [show min (n - 1024 * k) 1024 = 0 by omega, show min n (1024 * (k + 1)) = min n (1024 * k) by omega]
      simp [stretch]
    · rw [show min n (1024 * (k + 1)) = 1024 * k + min (n - 1024 * k) 1024 by omega, stretch_add, show min n (1024 * k) = 1024 * k by omega]

theorem wordOf_eq (E : Vec F S17168x128 .i32) {a n : BitVec 32} (h : Fits a n) (k : Fin (k0_t5_loop n).trips) (j : Fin (k0_t6_loop n k).trips) :
    wordOf E a n k j = excAt E (a.toInt.toNat + 1024 * k.val + j.val) := by
  obtain ⟨e2, hj⟩ := off22 h k j
  have e1 := off21 h k
  have hb := batch_lt h k
  obtain ⟨h1, h2, h3, h4⟩ := h
  unfold wordOf
  rw [e1, e2]
  refine congrArg E (funext fun x => Fin.ext ?_)
  fin_cases x
  · show ((a.toInt / 128 + 8 * k.val).toNat + j.val / 128 % 8) % 17168 = (a.toInt.toNat + 1024 * k.val + j.val) / 128 % 17168
    congr 1
    omega
  · show (0 + j.val % 128 % 128) % 128 = (a.toInt.toNat + 1024 * k.val + j.val) % 128 % 128
    omega

/-- The loop over one sub's exceptions folds over its stretch. -/
theorem overList_eq {α : Type} (E : Vec F S17168x128 .i32) (f : BitVec 32 → α → α) {a n : BitVec 32} (h : Fits a n) (x : α) :
    overList E f a n x = (stretch E a.toInt.toNat n.toInt.toNat).foldl (fun x v => f v x) x := by
  have hb : ∀ (k : Fin (k0_t5_loop n).trips) y, overBatch E f a n k y
      = (stretch E (a.toInt.toNat + 1024 * k.val) (min (n.toInt.toNat - 1024 * k.val) 1024)).foldl (fun x v => f v x) y := fun k y => by
    unfold overBatch
    rw [iterFin_foldl (k0_t6_loop n k).trips (fun j => f (wordOf E a n k j)) f (fun j => [excAt E (a.toInt.toNat + 1024 * k.val + j)])
      (fun j y => by rw [wordOf_eq E h k j]; rfl) y _ le_rfl]
    have h6 := trips6 h k
    have hn := h.n0
    rw [h6, show (min (n.toInt - 1024 * (k.val : Int)) 1024).toNat = min (n.toInt.toNat - 1024 * k.val) 1024 by omega]
    unfold stretch
    rw [List.map_eq_flatMap]
  unfold overList
  rw [iterFin_foldl (k0_t5_loop n).trips (overBatch E f a n) f
    (fun k => stretch E (a.toInt.toNat + 1024 * k) (min (n.toInt.toNat - 1024 * k) 1024)) hb x _ le_rfl, stretch_batches, trips5 h]
  have hn := h.n0
  rw [show min n.toInt.toNat (1024 * ((n.toInt + 1023) / 1024).toNat) = n.toInt.toNat by omega]

/-- The first place of sub `w`'s exceptions of the block `i` computes, and their number. -/
def firstN (T : Vec F S2048 .i32) (i : grid0.Coords) (w : ℕ) : ℕ :=
  (Cert.Pre_exceptions_in_range.word T (64 * (((i 0).val % 2) * 16 + w) + 16 * 2 + (i 0).val / 2)).toInt.toNat
def countN (T : Vec F S2048 .i32) (i : grid0.Coords) (w : ℕ) : ℕ :=
  (Cert.Pre_exceptions_in_range.word T (64 * (((i 0).val % 2) * 16 + w) + 16 * 0 + (i 0).val / 2)).toInt.toNat

/-- The block's exceptions, in the order the kernel goes through them. -/
def words (T : Vec F S2048 .i32) (E : Vec F S17168x128 .i32) (i : grid0.Coords) : List (BitVec 32) :=
  (List.range 16).flatMap fun w => stretch E (firstN T i w) (countN T i w)

theorem trips4 : k0_t4_loop.trips = 16 := by decide
theorem trips2 : k0_t2_loop.trips = 16 := by decide

theorem overSubs_eq {α : Type} (T : Vec F S2048 .i32) (E : Vec F S17168x128 .i32) (i : grid0.Coords) (h : ∀ w, Fits (firstAt T i w) (countAt T i w))
    (f : BitVec 32 → α → α) (x : α) :
    overSubs T E i f x k0_t4_loop.trips = (words T E i).foldl (fun x v => f v x) x := by
  unfold overSubs
  rw [iterFin_foldl k0_t4_loop.trips (fun w => overList E f (firstAt T i w) (countAt T i w)) f (fun w => stretch E (firstN T i w) (countN T i w))
    (fun w y => by
      rw [overList_eq E f (h w), firstAt, countAt, tabAt_word T _ _ (off19_at i w), tabAt_word T _ _ (off20_at i w)]
      rfl) x _ le_rfl, trips4]
  rfl

theorem countN_le (T : Vec F S2048 .i32) (i : grid0.Coords) (h : ∀ w, Fits (firstAt T i w) (countAt T i w)) (w : ℕ) (hw : w < 16) :
    countN T i w ≤ 2197504 := by
  obtain ⟨h1, h2, h3, h4⟩ := h ⟨w, hw⟩
  rw [countAt, tabAt_word T _ _ (off20_at i _)] at h4
  change (firstAt T i ⟨w, hw⟩).toInt + (Cert.Pre_exceptions_in_range.word T (64 * (((i 0).val % 2) * 16 + w) + 16 * 0 + (i 0).val / 2)).toInt ≤ 2197504 at h4
  unfold countN
  omega

/-- Fewer exceptions than words count. -/
theorem length_words (T : Vec F S2048 .i32) (E : Vec F S17168x128 .i32) (i : grid0.Coords) (h : ∀ w, Fits (firstAt T i w) (countAt T i w)) :
    (words T E i).length ≤ 16 * 2197504 := by
  unfold words
  rw [List.length_flatMap]
  refine (List.sum_le_card_nsmul _ 2197504 fun x hx => ?_).trans (by simp)
  obtain ⟨w, hw, rfl⟩ := List.mem_map.1 hx
  rw [stretch, List.length_map, List.length_range]
  exact countN_le T i h w (List.mem_range.1 hw)

/-- The table's counts add up to the number of the block's exceptions. -/
theorem totalOf_eq (T : Vec F S2048 .i32) (E : Vec F S17168x128 .i32) (i : grid0.Coords) (h : ∀ w, Fits (firstAt T i w) (countAt T i w)) :
    totalOf T i k0_t2_loop.trips = BitVec.ofNat 32 (words T E i).length := by
  have key : ∀ k ≤ 16, totalOf T i k = BitVec.ofNat 32 ((List.range k).flatMap fun w => stretch E (firstN T i w) (countN T i w)).length := by
    intro k hk
    induction k with
    | zero => rfl
    | succ k ih =>
      refine (iterFin_succ k0_t2_loop.trips (fun w a => Scalar.addi a (tabAt T (k0_off18 i w))) 0#32 ⟨k, hk⟩).trans ?_
      rw [List.range_succ, List.flatMap_append, List.length_append, List.flatMap_singleton, BitVec.ofNat_add, ← ih (by omega)]
      refine congrArg₂ (· + ·) rfl ?_
      obtain ⟨h1, h2, h3, h4⟩ := h ⟨k, hk⟩
      rw [countAt, tabAt_word T _ _ (off20_at i _)] at h1
      rw [tabAt_word T _ _ (off18_at i ⟨k, hk⟩), stretch, List.length_map, List.length_range]
      unfold countN
      change 0 ≤ (Cert.Pre_exceptions_in_range.word T (64 * (((i 0).val % 2) * 16 + k) + 16 * 0 + (i 0).val / 2)).toInt at h1
      change Cert.Pre_exceptions_in_range.word T (64 * (((i 0).val % 2) * 16 + k) + 16 * 0 + (i 0).val / 2) = _
      generalize Cert.Pre_exceptions_in_range.word T (64 * (((i 0).val % 2) * 16 + k) + 16 * 0 + (i 0).val / 2) = v at *
      refine BitVec.eq_of_toNat_eq ?_
      have hc := BitVec.toInt_eq_toNat_cond v
      have hl := v.isLt
      rw [BitVec.toNat_ofNat, Nat.mod_eq_of_lt (by split at hc <;> omega)]
      split at hc <;> omega
  rw [trips2]
  exact key 16 le_rfl

/-- Counting hits counts them. -/
theorem foldl_addHit (p : BitVec 32) (l : List (BitVec 32)) (n : ℕ) :
    l.foldl (fun a v => addHit p v a) (BitVec.ofNat 32 n) = BitVec.ofNat 32 (n + l.countP fun v => hit p v = 1#1) := by
  induction l generalizing n with
  | nil => rfl
  | cons v l ih =>
    rw [List.foldl_cons, List.countP_cons]
    have e : addHit p v (BitVec.ofNat 32 n) = BitVec.ofNat 32 (n + if hit p v = 1#1 then 1 else 0) := by
      unfold addHit
      rw [BitVec.ofNat_add]
      refine congrArg₂ (· + ·) rfl ?_
      rcases (by revert v; intro v; generalize hit p v = b; revert b; decide : hit p v = 0#1 ∨ hit p v = 1#1) with e | e <;> rw [e] <;> rfl
    rw [e, ih]
    congr 1
    simp only [decide_eq_true_eq]
    omega

/-- A number is positive as the kernel tests it. -/
theorem cond1_ofNat (n : ℕ) (h : n < 2 ^ 31) : k0_cond1 (BitVec.ofNat 32 n) = 1#1 ↔ 0 < n := by
  have e : (BitVec.ofNat 32 n).toInt = n := by
    rw [BitVec.toInt_eq_toNat_cond, BitVec.toNat_ofNat, Nat.mod_eq_of_lt (by omega)]
    rw [if_pos (by omega)]
  have key : IntOp.cmpi .sgt (BitVec.ofNat 32 n) 0#32 = 1#1 ↔ 0 < n := by
    rw [IntOp.cmpi_sgt, e]
    exact Int.natCast_pos
  rw [← key]
  show Scalar.cmpi .ne (Scalar.extui (IntOp.cmpi .sgt (BitVec.ofNat 32 n) 0#32)) 0#32 = 1#1 ↔ _
  generalize IntOp.cmpi .sgt (BitVec.ofNat 32 n) 0#32 = b
  revert b
  decide
theorem cond2_ofNat (n : ℕ) (h : n < 2 ^ 31) : k0_cond2 (BitVec.ofNat 32 n) = 1#1 ↔ 0 < n := cond1_ofNat n h

end Cert.KernelIdeal.Gen
-- ==== Proof.Spec.lean ====
/- The result as a function of the arguments, entry by entry: the dense counts' products plus the exceptions'. Row and
   column numbers are naturals; an array is read at a place modulo its extents, so that no evidence is carried along. -/
module

public import proofs.«01_k».proof.Proof.Pre
public import Idealize.ShloMosaic.PureOps.Ideal

@[expose] public section

noncomputable section

namespace Cert.Spec

open Idealize.ShloMosaic Idealize.ShloMosaic.Pointwise

/-- The words of the dense counts, and the exceptions' words, by place. -/
def wordAt (W : IVec ⟨4, ![30, 16, 336, 128]⟩ 32) (s w a l : ℕ) : BitVec 32 :=
  W (ix4 ⟨s % 30, Nat.mod_lt _ (by decide)⟩ ⟨w % 16, Nat.mod_lt _ (by decide)⟩ ⟨a % 336, Nat.mod_lt _ (by decide)⟩ ⟨l % 128, Nat.mod_lt _ (by decide)⟩)
def excAt (E : IVec ⟨2, ![17168, 128]⟩ 32) (P : ℕ) : BitVec 32 :=
  E (ix2 ⟨P / 128 % 17168, Nat.mod_lt _ (by decide)⟩ ⟨P % 128, Nat.mod_lt _ (by decide)⟩)

/-- Block `q`'s slab: the second core has the blocks from 15 on, last first. -/
def slab (q : ℕ) : ℕ := if q < 15 then q else 44 - q

/-- The dense count at row `r`, column `j` of block `q`. -/
def dense (W : IVec ⟨4, ![30, 16, 336, 128]⟩ 32) (q r j : ℕ) : EReal :=
  (((wordAt W (slab q) (r / 48) (8 * (j / 128) + r % 16 / 2) (j % 128) >>> (5 * (r / 16 % 3) + 16 * (r % 2)) &&& 31#32) - 16#32).toInt : ℝ)

/-- The first place of sub `w`'s exceptions of block `q`, and their number. -/
def first (T : IVec ⟨1, ![2048]⟩ 32) (q w : ℕ) : ℕ :=
  (Cert.Pre_exceptions_in_range.word T (64 * ((if q < 15 then 0 else 1) * 16 + w) + 16 * 2 + (if q < 15 then q else 29 - q))).toInt.toNat
def size (T : IVec ⟨1, ![2048]⟩ 32) (q w : ℕ) : ℕ :=
  (Cert.Pre_exceptions_in_range.word T (64 * ((if q < 15 then 0 else 1) * 16 + w) + 16 * 0 + (if q < 15 then q else 29 - q))).toInt.toNat

/-- What the exception `v` adds to row `g` of its column: its row's entry of `x`, times its count. -/
def term (X : FVec Ideal ⟨2, ![160, 768]⟩ .bf16) (g : Fin 160) (v : BitVec 32) : EReal :=
  (∑ r : Fin 768, if BitVec.ofNat 32 r.val = v >>> 8 &&& 1023#32 then X (ix2 g r) else (0 : EReal)) * (((v &&& 255#32) - 128#32).toInt : ℝ)

/-- The result at row `g`, column `j` of block `q`. -/
def entry (T : IVec ⟨1, ![2048]⟩ 32) (W : IVec ⟨4, ![30, 16, 336, 128]⟩ 32) (X : FVec Ideal ⟨2, ![160, 768]⟩ .bf16) (E : IVec ⟨2, ![17168, 128]⟩ 32)
    (g : Fin 160) (q j : ℕ) : EReal :=
  (∑ r : Fin 768, X (ix2 g r) * dense W q r.val j)
    + ∑ w : Fin 16, ∑ P : Fin 2197504,
      if (first T q w.val ≤ P.val ∧ P.val < first T q w.val + size T q w.val) ∧ (excAt E P.val >>> 18).toNat = j then term X g (excAt E P.val) else 0

/-- The result. -/
def result (T : IVec ⟨1, ![2048]⟩ 32) (W : IVec ⟨4, ![30, 16, 336, 128]⟩ 32) (X : FVec Ideal ⟨2, ![160, 768]⟩ .bf16) (E : IVec ⟨2, ![17168, 128]⟩ 32) :
    FVec Ideal ⟨2, ![160, 160000]⟩ .bf16 := fun y => entry T W X E (y 0) ((y 1).val / 5376) ((y 1).val % 5376)

end Cert.Spec
-- ==== Proof.KernelIdeal.Adds.lean ====
/- What the kernel's exceptions add, exactly: an exception adds its term to its own column, and nothing elsewhere. -/
module

public import proofs.«01_k».proof.Proof.KernelIdeal.Lists
public import proofs.«01_k».proof.Proof.Spec
public import Idealize.ShloMosaic.Lib.Pointwise.Reduce

@[expose] public section

set_option maxRecDepth 16384

noncomputable section

namespace Cert.KernelIdeal.Gen

open Idealize.ShloMosaic Idealize.ShloMosaic.TcCoe Idealize.ShloMosaic.Pointwise
open Cert.Spec (term)

theorem iv_eq (p : Fin k0_t3_loop.trips) : Scf.iv 0#32 1#32 p.val = BitVec.ofNat 32 p.val := by
  revert p; decide

/-- The low ten bits do not see whether a shift by 8 repeats the sign. -/
theorem row_bits (v : BitVec 32) : v.sshiftRight 8 &&& 1023#32 = v >>> 8 &&& 1023#32 := by
  refine BitVec.eq_of_getLsbD_eq fun i hi => ?_
  rw [BitVec.getLsbD_and, BitVec.getLsbD_and, BitVec.getLsbD_sshiftRight, BitVec.getLsbD_ushiftRight]
  by_cases h : i < 10
  · rw [if_pos (by omega)]
    simp [show ¬ 32 ≤ i by omega]
  · have e : (1023#32).getLsbD i = false := by
      interval_cases i <;> first | rfl | omega
    rw [e, Bool.and_false, Bool.and_false]

/-- A word's column is column `j` of pair `p`. -/
theorem column_iff (p : Fin k0_t3_loop.trips) (v : BitVec 32) (j : ℕ) (hj : j < 256) :
    IntOp.cmpi .eq (BitVec.ofNat 32 j) (Scalar.subi (Scalar.shrui v 18#32) (Scalar.muli (Scf.iv 0#32 1#32 p.val) 256#32)) = 1#1
      ↔ (v >>> 18).toNat = 256 * p.val + j := by
  have hp : p.val < 21 := p.isLt
  rw [IntOp.cmpi_eq, iv_eq]
  change BitVec.ofNat 32 j = v >>> 18 - BitVec.ofNat 32 p.val * 256#32 ↔ _
  generalize v >>> 18 = u
  generalize p.val = n at *
  rw [← BitVec.toNat_inj]
  simp only [BitVec.toNat_sub, BitVec.toNat_mul, BitVec.toNat_ofNat]
  have := u.isLt
  omega

/-- A hit is a word of one of the pair's columns. -/
theorem hit_iff (p : Fin k0_t3_loop.trips) (v : BitVec 32) :
    hit (Scf.iv 0#32 1#32 p.val) v = 1#1 ↔ 256 * p.val ≤ (v >>> 18).toNat ∧ (v >>> 18).toNat < 256 * p.val + 256 := by
  have hp : p.val < 21 := p.isLt
  unfold hit
  rw [iv_eq]
  change IntOp.andi (IntOp.cmpi .sge (v >>> 18 - BitVec.ofNat 32 p.val * 256#32) 0#32) (IntOp.cmpi .slt (v >>> 18 - BitVec.ofNat 32 p.val * 256#32) 256#32) = 1#1 ↔ _
  have hu : (v >>> 18).toNat < 16384 := by
    rw [BitVec.toNat_ushiftRight, Nat.shiftRight_eq_div_pow]
    have := v.isLt
    omega
  generalize v >>> 18 = u at *
  generalize p.val = n at *
  rw [IntOp.andi_eq_one, IntOp.cmpi_sge, IntOp.cmpi_slt]
  rw [BitVec.toInt_eq_toNat_cond (u - _)]
  simp only [BitVec.toNat_sub, BitVec.toNat_mul, BitVec.toNat_ofNat]
  change (0 : Int) ≤ _ ∧ _ < (256 : Int) ↔ _
  split <;> omega

theorem hitFlag_iff (p v : BitVec 32) : hitFlag p v = 1#1 ↔ hit p v = 1#1 := by
  unfold hitFlag
  generalize hit p v = b
  revert b
  decide

/-- One exception's part of column `n`. -/
def part (X : Vec Ideal S160x768 .bf16) (g : Fin 160) (n : ℕ) (v : BitVec 32) : EReal := if (v >>> 18).toNat = n then term X g v else 0

theorem select_iff {α : Type} {c : BitVec 1} {Q : Prop} [Decidable Q] (h : c = 1#1 ↔ Q) (a b : α) : Scalar.select c a b = if Q then a else b :=
  if_congr h rfl rfl

theorem addExc_at (X : Vec Ideal S160x768 .bf16) (p : Fin k0_t3_loop.trips) (v : BitVec 32) (A : Vec Ideal S160x256 .f32) (g : Fin 160) (j : Fin 256) :
    addExc X p v A (ix2 g j) = A (ix2 g j) + part X g (256 * p.val + j.val) v := by
  have hj := j.isLt
  unfold addExc
  rw [if_congr ((hitFlag_iff _ v).trans (hit_iff p v)) rfl rfl]
  unfold part
  split
  · pointwise [k0_pay3]
    rw [select_iff (column_iff p v j.val hj)]
    split
    · refine congrArg (A (ix2 g j) + ·) ((mul_comm _ _).trans ?_)
      unfold term
      refine congrArg₂ (· * ·) (Finset.sum_congr rfl fun r _ => select_iff ?_ _ _) rfl
      rw [← row_bits]
      exact IntOp.cmpi_eq
    · exact (add_zero _).symm
  · rw [if_neg (by omega), add_zero]

theorem foldl_addExc_at (X : Vec Ideal S160x768 .bf16) (p : Fin k0_t3_loop.trips) (l : List (BitVec 32)) (A : Vec Ideal S160x256 .f32) (g : Fin 160) (j : Fin 256) :
    l.foldl (fun A v => addExc X p v A) A (ix2 g j) = A (ix2 g j) + (l.map (part X g (256 * p.val + j.val))).sum := by
  induction l generalizing A with
  | nil => simp
  | cons v l ih => rw [List.foldl_cons, ih, addExc_at, List.map_cons, List.sum_cons, add_assoc]

/-- If no word is a hit of the pair, the words have no part in the pair's columns. -/
theorem parts_of_no_hit (X : Vec Ideal S160x768 .bf16) (p : Fin k0_t3_loop.trips) (l : List (BitVec 32)) (g : Fin 160) (j : Fin 256)
    (h : ¬ 0 < l.countP fun v => hit (Scf.iv 0#32 1#32 p.val) v = 1#1) : (l.map (part X g (256 * p.val + j.val))).sum = 0 := by
  have hj := j.isLt
  refine List.sum_eq_zero fun x hx => ?_
  obtain ⟨v, hv, rfl⟩ := List.mem_map.1 hx
  refine if_neg fun e => h (List.countP_pos_iff.2 ⟨v, hv, ?_⟩)
  rw [decide_eq_true_eq, hit_iff]
  omega

theorem sum_list_range (n : ℕ) (f : ℕ → EReal) : ((List.range n).map f).sum = ∑ t ∈ Finset.range n, f t := by
  induction n with
  | zero => rfl
  | succ n ih => rw [List.range_succ, List.map_append, List.sum_append, ih, Finset.sum_range_succ]; simp

theorem sum_stretch (E : Vec Ideal S17168x128 .i32) (a n : ℕ) (h : a + n ≤ 2197504) (c : BitVec 32 → EReal) :
    ((stretch E a n).map c).sum = ∑ P : Fin 2197504, if a ≤ P.val ∧ P.val < a + n then c (excAt E P.val) else 0 := by
  have e : ((stretch E a n).map c).sum = ∑ t ∈ Finset.range n, c (excAt E (a + t)) := by
    unfold stretch
    rw [List.map_map]
    exact sum_list_range n _
  rw [e, Fin.sum_univ_eq_sum_range (fun P => if a ≤ P ∧ P < a + n then c (excAt E P) else 0) 2197504, ← Finset.sum_filter]
  have f : (Finset.range 2197504).filter (fun P => a ≤ P ∧ P < a + n) = Finset.Ico a (a + n) := by
    ext P
    simp only [Finset.mem_filter, Finset.mem_range, Finset.mem_Ico]
    omega
  rw [f, Finset.sum_Ico_eq_sum_range, Nat.add_sub_cancel_left]

theorem sum_flatMap_range (k : ℕ) (l : ℕ → List (BitVec 32)) (c : BitVec 32 → EReal) :
    (((List.range k).flatMap l).map c).sum = ∑ w : Fin k, ((l w.val).map c).sum := by
  induction k with
  | zero => rfl
  | succ k ih => rw [List.range_succ, List.flatMap_append, List.map_append, List.sum_append, ih, List.flatMap_singleton, Fin.sum_univ_castSucc]; rfl

end Cert.KernelIdeal.Gen
-- ==== Proof.KernelIdeal.Fields.lean ====
/- The unpacked fields, exactly: a half of a word of the buffer reads as 128 plus a 5-bit field, and the products take
   144 away, so that what is multiplied is the field less 16. -/
module

public import proofs.«01_k».proof.Proof.KernelIdeal.Adds
public import Idealize.ShloMosaic.Lib.BitcastPair

@[expose] public section

set_option maxRecDepth 16384

noncomputable section

namespace Cert.KernelIdeal.Gen

open Idealize.ShloMosaic Idealize.ShloMosaic.TcCoe Idealize.ShloMosaic.Pointwise
open Cert.Spec (term dense wordAt slab)

/-- Sixteen bits with exponent 7 read as 128 plus the low bits. -/
theorem ofBits_field (k : ℕ) (hk : k < 32) : Ideal.ofBits FTy.bf16 (BitVec.ofNat 16 (17152 + k)) = (((128 + k : ℕ) : ℝ) : EReal) := by
  have e1 : ((BitVec.ofNat 16 (17152 + k)).extractLsb' 15 1 == 1#1) = false := by interval_cases k <;> rfl
  have e2 : ((BitVec.ofNat 16 (17152 + k)).extractLsb' 7 8).toNat = 134 := by interval_cases k <;> rfl
  have e3 : ((BitVec.ofNat 16 (17152 + k)).extractLsb' 0 7).toNat = k := by interval_cases k <;> rfl
  unfold Ideal.ofBits Ideal.ieee
  simp only [e1, e2, e3]
  norm_num

theorem ofBits_bias : Ideal.ofBits FTy.bf16 17168#16 = ((144 : ℝ) : EReal) := by
  refine (ofBits_field 16 (by decide)).trans ?_
  norm_num

theorem field_lt (u : BitVec 32) : (u &&& 31#32).toNat < 32 := by
  rw [BitVec.toNat_and]
  exact Nat.lt_of_le_of_lt Nat.and_le_right (by decide)

/-- Half `h` of a word of the buffer is a field of the word it was unpacked from. -/
theorem half_field (f h : ℕ) (hf : f < 3) (hh : h < 2) (v : BitVec 32) :
    (fieldOf f v).extractLsb' (16 * h) 16 = BitVec.ofNat 16 (17152 + (v >>> (5 * f + 16 * h) &&& 31#32).toNat) := by
  have hk : (v >>> (5 * f + 16 * h) &&& 31#32).toNat < 32 := field_lt _
  have e : BitVec.ofNat 16 (17152 + (v >>> (5 * f + 16 * h) &&& 31#32).toNat) = (v >>> (5 * f + 16 * h) &&& 31#32).setWidth 16 ||| 17152#16 := by
    rw [← BitVec.ofNat_toNat]
    generalize (v >>> (5 * f + 16 * h) &&& 31#32).toNat = k at hk
    interval_cases k <;> rfl
  rw [e]
  unfold fieldOf
  refine BitVec.eq_of_getLsbD_eq fun i hi => ?_
  interval_cases f <;> interval_cases h <;> interval_cases i <;> simp [IntOp.ori, IntOp.andi, IntOp.shrui, BitVec.getLsbD_extractLsb']

/-- A field less 16, as a number. -/
theorem field_sub (u : BitVec 32) : ((128 + (u &&& 31#32).toNat : ℕ) : ℝ) - 144 = ((((u &&& 31#32) - 16#32).toInt : ℤ) : ℝ) := by
  have hk : (u &&& 31#32).toNat < 32 := field_lt _
  have e : ((u &&& 31#32) - 16#32).toInt = ((u &&& 31#32).toNat : ℤ) - 16 := by
    generalize u &&& 31#32 = z at hk
    obtain ⟨k, hk', rfl⟩ : ∃ k, k < 32 ∧ z = BitVec.ofNat 32 k := ⟨z.toNat, hk, BitVec.eq_of_toNat_eq (by rw [BitVec.toNat_ofNat, Nat.mod_eq_of_lt (by omega)])⟩
    clear hk
    interval_cases k <;> rfl
  rw [e]
  push_cast
  ring

theorem aBuf_at (X2 : Vec Ideal S1x16x336x128 .i32) (p : ℕ) (y : S384x256.Idx) (a b : ℕ) (h0 : (y 0).val = a) (h1 : (y 1).val = b) :
    aBuf X2 p y = fieldOf (a / 8 % 3) (atO pos_S1x16x336x128 X2 ![0, a / 24, 16 * p + 8 * (b / 128) + a % 8, b % 128]) := by
  subst h0 h1; rfl

/-- Column `j` of pair `p` of the products, for a slab `X2` of the words `W`. -/
theorem product_at (W : Vec Ideal S30x16x336x128 .i32) (X2 : Vec Ideal S1x16x336x128 .i32) (X3 : Vec Ideal S160x768 .bf16) (q p : ℕ) (hp : p < 21)
    (hX : ∀ w a l : ℕ, atO pos_S1x16x336x128 X2 ![0, w, a, l] = wordAt W (slab q) w a l) (g : Fin 160) (j : Fin 256) :
    product X2 X3 p (ix2 g j) = ∑ r : Fin 768, X3 (ix2 g r) * dense W q r.val (256 * p + j.val) := by
  have hj := j.isLt
  unfold product
  pointwise [k0_pay154]
  refine Finset.sum_congr rfl fun r _ => congrArg (X3 (ix2 g r) * ·) ?_
  have hr := r.isLt
  rw [bitcast_32_16]
  change Ideal.ofBits FTy.bf16 (BitVec.extractLsb' (16 * (r.val % 2)) 16 _) - _ = _
  rw [aBuf_at X2 p (bitcasts_S384x256_w32_S768x256_w16.srcIdx (ix2 r j) (S768x256.row (ix2 r j) / 2) _) (r.val / 2) j.val (Shape.Bitcasts.srcIdx_row _ _ _ _ 0 rfl) (Shape.Bitcasts.srcIdx_other _ _ _ _ 1 (by decide)), hX,
    half_field _ _ (Nat.mod_lt _ (by decide)) (Nat.mod_lt _ (by decide)), ofBits_field _ (field_lt _), ofBits_bias, ← EReal.coe_sub, field_sub]
  unfold dense
  rw [show r.val / 2 / 24 = r.val / 48 by omega, show r.val / 2 / 8 % 3 = r.val / 16 % 3 by omega,
    show 16 * p + 8 * (j.val / 128) + r.val / 2 % 8 = 8 * ((256 * p + j.val) / 128) + r.val % 16 / 2 by omega,
    show (256 * p + j.val) % 128 = j.val % 128 by omega]

end Cert.KernelIdeal.Gen
-- ==== Proof.KernelIdeal.Exact.lean ====
/- What the body leaves in the output's block, exactly: the entries of one block of the result. -/
module

public import proofs.«01_k».proof.Proof.KernelIdeal.Fields

@[expose] public section

set_option maxRecDepth 16384

noncomputable section

namespace Cert.KernelIdeal.Gen

open Idealize.ShloMosaic Idealize.ShloMosaic.TcCoe Idealize.ShloMosaic.Pointwise
open Cert.Spec (term dense wordAt slab first size entry)

theorem excAt_eq (E : Vec Ideal S17168x128 .i32) (P : ℕ) : excAt E P = Cert.Spec.excAt E P := by
  refine congrArg E (funext fun a => Fin.ext ?_)
  fin_cases a
  · rfl
  · exact Nat.mod_mod _ _

/-- The block of columns that grid point `i` computes. -/
def blockNo (i : grid0.Coords) : ℕ := if (i 0).val % 2 = 0 then (i 0).val / 2 else 29 - (i 0).val / 2

theorem point_lt (i : grid0.Coords) : (i 0).val < 30 := (i 0).isLt

theorem blockNo_cases (i : grid0.Coords) :
    (i 0).val % 2 = (if blockNo i < 15 then 0 else 1) ∧ (i 0).val / 2 = (if blockNo i < 15 then blockNo i else 29 - blockNo i) := by
  have hi := point_lt i
  unfold blockNo
  generalize (i 0).val = n at *
  rcases Nat.mod_two_eq_zero_or_one n with e | e
  · rw [if_pos e, if_pos (by omega), if_pos (by omega)]
    exact ⟨e, rfl⟩
  · rw [if_neg (show ¬ n % 2 = 0 by omega), if_neg (by omega), if_neg (by omega)]
    omega

theorem firstN_eq (T : Vec Ideal S2048 .i32) (i : grid0.Coords) (w : ℕ) : firstN T i w = first T (blockNo i) w := by
  unfold firstN first
  rw [(blockNo_cases i).1, (blockNo_cases i).2]

theorem countN_eq (T : Vec Ideal S2048 .i32) (i : grid0.Coords) (w : ℕ) : countN T i w = size T (blockNo i) w := by
  unfold countN size
  rw [(blockNo_cases i).1, (blockNo_cases i).2]

theorem firstN_countN_le (T : Vec Ideal S2048 .i32) (i : grid0.Coords) (h : ∀ w, Fits (firstAt T i w) (countAt T i w)) (w : Fin k0_t4_loop.trips) :
    firstN T i w.val + countN T i w.val ≤ 2197504 := by
  have ef : firstN T i w.val = (firstAt T i w).toInt.toNat := by
    unfold firstAt firstN
    rw [tabAt_word T _ _ (off19_at i w)]
  have ec : countN T i w.val = (countAt T i w).toInt.toNat := by
    unfold countAt countN
    rw [tabAt_word T _ _ (off20_at i w)]
  obtain ⟨h1, h2, h3, h4⟩ := h w
  omega

theorem pay1_at (A : FVec Ideal S160x256 .f32) (y : S160x256.Idx) : (k0_pay1 A y : EReal) = A y := rfl
theorem pay7_at (A : Vec Ideal S160x256 .f32) (y : S160x256.Idx) : k0_pay7 A y = A y := by
  unfold k0_pay7
  rfl

variable (T : Vec Ideal S2048 .i32) (E : Vec Ideal S17168x128 .i32) (i : grid0.Coords)

/-- The parts of the block's exceptions in a column. -/
def parts (X : Vec Ideal S160x768 .bf16) (g : Fin 160) (n : ℕ) : EReal := ((words T E i).map (part X g n)).sum

theorem parts_eq (h : ∀ w, Fits (firstAt T i w) (countAt T i w)) (X : Vec Ideal S160x768 .bf16) (g : Fin 160) (n : ℕ) :
    parts T E i X g n = ∑ w : Fin 16, ∑ P : Fin 2197504,
      if (first T (blockNo i) w.val ≤ P.val ∧ P.val < first T (blockNo i) w.val + size T (blockNo i) w.val) ∧ (Cert.Spec.excAt E P.val >>> 18).toNat = n
        then term X g (Cert.Spec.excAt E P.val) else 0 := by
  unfold parts words
  rw [sum_flatMap_range]
  refine Finset.sum_congr rfl fun w _ => ?_
  rw [sum_stretch E _ _ (firstN_countN_le T i h ⟨w.val, by rw [trips4]; exact w.isLt⟩)]
  refine Finset.sum_congr rfl fun P _ => ?_
  rw [firstN_eq, countN_eq, excAt_eq]
  unfold part
  rw [← ite_and]

theorem fixedTile_at (h : ∀ w, Fits (firstAt T i w) (countAt T i w)) (X2 : Vec Ideal S1x16x336x128 .i32) (X3 : Vec Ideal S160x768 .bf16)
    (p : ℕ) (hp : p < k0_t3_loop.trips) (g : Fin 160) (j : Fin 256) :
    fixedTile T E i X2 X3 p (ix2 g j) = product X2 X3 p (ix2 g j) + parts T E i X3 g (256 * p + j.val) := by
  have hl := length_words T E i h
  have e : hitsOf T E i ⟨p, hp⟩ = BitVec.ofNat 32 ((words T E i).countP fun v => hit (Scf.iv 0#32 1#32 p) v = 1#1) :=
    (overSubs_eq T E i h _ _).trans ((foldl_addHit _ _ 0).trans (by rw [Nat.zero_add]))
  have hc : ((words T E i).countP fun v => hit (Scf.iv 0#32 1#32 p) v = 1#1) < 2 ^ 31 :=
    Nat.lt_of_le_of_lt (List.countP_le_length.trans hl) (by decide)
  unfold fixedTile
  rw [dif_pos hp, e, if_congr (cond2_ofNat _ hc) rfl rfl]
  split
  · rw [pay7_at, fixedOf, overSubs_eq T E i h]
    refine (foldl_addExc_at X3 ⟨p, hp⟩ (words T E i) (k0_pay2 (product X2 X3 p)) g j).trans (congrArg (· + _) ?_)
    unfold k0_pay2
    rw [shapeCast_self]
  · rename_i hn
    have z := parts_of_no_hit X3 ⟨p, hp⟩ (words T E i) g j hn
    rw [pay1_at]
    unfold parts
    rw [z, add_zero]

theorem tiles_at (w : ℕ → Vec Ideal S160x256 .bf16) (g : Fin 160) (c : Fin 5376) :
    tiles w (ix2 g c) = w (c.val / 256) (ix2 g ⟨c.val % 256, Nat.mod_lt _ (by decide)⟩) := by
  refine congrArg (w (c.val / 256)) (funext fun a => ?_)
  fin_cases a <;> rfl

/-- The block's columns, with the exceptions' parts. -/
theorem blockOf_at (h : ∀ w, Fits (firstAt T i w) (countAt T i w)) (W : Vec Ideal S30x16x336x128 .i32) (X2 : Vec Ideal S1x16x336x128 .i32) (X3 : Vec Ideal S160x768 .bf16)
    (hX : ∀ w a l : ℕ, atO pos_S1x16x336x128 X2 ![0, w, a, l] = wordAt W (slab (blockNo i)) w a l) (g : Fin 160) (c : Fin 5376) :
    blockOf T E i X2 X3 (ix2 g c) = entry T W X3 E g (blockNo i) c.val := by
  have hc := c.isLt
  have e : 256 * (c.val / 256) + c.val % 256 = c.val := Nat.div_add_mod _ _
  have hp : product X2 X3 (c.val / 256) (ix2 g ⟨c.val % 256, Nat.mod_lt _ (by decide)⟩) = ∑ r : Fin 768, X3 (ix2 g r) * dense W (blockNo i) r.val c.val := by
    rw [product_at W X2 X3 (blockNo i) (c.val / 256) (by omega) hX, e]
  unfold blockOf entry
  rw [totalOf_eq T E i h, if_congr (cond1_ofNat _ (Nat.lt_of_le_of_lt (length_words T E i h) (by decide))) rfl rfl, ← parts_eq T E i h]
  split
  · rw [tiles_at]
    refine (fixedTile_at T E i h X2 X3 (c.val / 256) (lt_trips3 (ix2 g c)) g ⟨c.val % 256, Nat.mod_lt _ (by decide)⟩).trans ?_
    rw [hp, e]
  · rename_i hn
    rw [tiles_at]
    have z : words T E i = [] := List.eq_nil_of_length_eq_zero (by omega)
    unfold parts
    rw [z, List.map_nil, List.sum_nil, add_zero]
    exact (pay1_at _ _).trans hp

end Cert.KernelIdeal.Gen
-- ==== Proof.KernelIdeal.Array.lean ====
/- The result array after the run: block after block, the result described. -/
module

public import proofs.«01_k».proof.Proof.KernelIdeal.Exact
public import proofs.«01_k».proof.Proof.KernelIdeal.Frame
public import Idealize.ShloMosaic.Lib.Pipeline.ValueKit

@[expose] public section

set_option maxRecDepth 16384

noncomputable section

namespace Cert.KernelIdeal.Gen

open Idealize.ShloMosaic Idealize.ShloMosaic.TcCoe Idealize.ShloMosaic.Pointwise
open Cert.Spec (term dense wordAt slab first size entry result)

/-- The blocks the windows name at a grid point. -/
theorem index_words : ∀ t : Fin grid0.N, cc0_transform_0 (grid0.coords t) = ![slab (blockNo (grid0.coords t)), 0, 0, 0] := by decide +kernel
theorem index_rows : ∀ t : Fin grid0.N, cc0_transform_1 (grid0.coords t) = ![0, 0] := by decide +kernel
theorem index_result : ∀ t : Fin grid0.N, cc0_transform_3 (grid0.coords t) = ![0, blockNo (grid0.coords t)] := by decide +kernel
theorem index_onto : ∀ q : Fin 30, ∃ t : Fin grid0.N, blockNo (grid0.coords t) = q.val := by decide +kernel
theorem block_lt : ∀ t : Fin grid0.N, blockNo (grid0.coords t) < 30 := by decide +kernel
theorem slab_lt : ∀ t : Fin grid0.N, slab (blockNo (grid0.coords t)) < 30 := by decide +kernel
theorem flush_fact : ∀ t : Fin grid0.N,
    (true && (t.val + 1 = grid0.N || decide (∃ h : t.val + 1 < grid0.N, cc0_transform_3 (grid0.coords ⟨t.val + 1, h⟩) ≠ cc0_transform_3 (grid0.coords t)))) = true := by
  decide +kernel

variable (m : (ℓ : Loc nD τ sig) → Buf (Elt Ideal) ℓ) (hO : Ok m) (c : Dev nD)

theorem flush_all (t : Fin (cfgM m hO).N) : ((cfgM m hO).win 2).flush t = true := flush_fact t

theorem extent_rows : ∀ t : Fin grid0.N, (clip0_2 (grid0.coords t) 0).extent 160 = 160 := by decide +kernel
theorem extent_columns : ∀ t : Fin grid0.N, (clip0_2 (grid0.coords t) 1).extent 5376 = min 5376 (160000 - blockNo (grid0.coords t) * 5376) := by decide +kernel

/-- The first window's block is a slab of the words. -/
theorem slab_at (t : Fin (cfgM m hO).N) (w a l : ℕ) :
    atO pos_S1x16x336x128 (iblk m hO c 0 t) ![0, w, a, l] = wordAt (m ((c.tc : Thread nD τ).loc main_arg1)) (slab (blockNo (grid0.coords t))) w a l := by
  have hs := slab_lt t
  have hx := index_words t
  unfold atO iblk wordAt
  refine congrArg (m ((c.tc : Thread nD τ).loc main_arg1)) (funext fun b => Fin.ext ?_)
  change cc0_transform_0 (grid0.coords t) b * S1x16x336x128.size b + 1 * (![0, w, a, l] b % S1x16x336x128.size b) = _
  rw [hx]
  fin_cases b
  · show slab (blockNo (grid0.coords t)) * 1 + 1 * (0 % 1) = slab (blockNo (grid0.coords t)) % 30
    omega
  · show 0 * 16 + 1 * (w % 16) = w % 16
    omega
  · show 0 * 336 + 1 * (a % 336) = a % 336
    omega
  · show 0 * 128 + 1 * (l % 128) = l % 128
    omega

theorem rows_eq (t : Fin (cfgM m hO).N) : iblk m hO c 1 t = m ((c.tc : Thread nD τ).loc main_arg2) := by
  have hx := index_rows t
  suffices h : ∀ y : S160x768.Idx, iblk m hO c 1 t y = m ((c.tc : Thread nD τ).loc main_arg2) y from funext h
  intro y
  unfold iblk
  refine congrArg (m ((c.tc : Thread nD τ).loc main_arg2)) (funext fun b => Fin.ext ?_)
  change cc0_transform_1 (grid0.coords t) b * S160x768.size b + 1 * (y b).val = (y b).val
  rw [hx]
  fin_cases b
  · show 0 * 160 + 1 * (y 0).val = (y 0).val
    omega
  · show 0 * 768 + 1 * (y 1).val = (y 1).val
    omega

/-- What the body leaves at a place of the output's block is the result at the place it is stored to. -/
theorem out_at (hr : ∀ i w, Fits (firstAt (F := Ideal) (m ((c.tc : Thread nD τ).loc main_arg0)) i w) (countAt (F := Ideal) (m ((c.tc : Thread nD τ).loc main_arg0)) i w))
    (hc : c = 0) (t : Fin (cfgM m hO).N) (z : S160x5376.Idx) (i : S160x160000.Idx) (h0 : (i 0).val = (z 0).val)
    (h1 : (i 1).val = blockNo (grid0.coords t) * 5376 + (z 1).val) :
    outBlock m hO c t z = result (m ((c.tc : Thread nD τ).loc main_arg0)) (m ((c.tc : Thread nD τ).loc main_arg1))
      (m ((c.tc : Thread nD τ).loc main_arg2)) (m ((c.tc : Thread nD τ).loc main_arg3)) i := by
  have hz : (z 1).val < 5376 := (z 1).isLt
  have e : z = ix2 (n0 := 160) (n1 := 5376) (z 0) (z 1) := by funext b; fin_cases b <;> rfl
  subst hc
  rw [e]
  refine (blockOf_at _ _ _ (hr _) (m (((0 : Dev nD).tc : Thread nD τ).loc main_arg1)) _ _ (slab_at m hO 0 t) _ _).trans ?_
  unfold result
  rw [show (i 1).val / 5376 = blockNo (grid0.coords t) by omega, show (i 1).val % 5376 = (z 1).val by omega, show i 0 = z 0 from Fin.ext h0, rows_eq]
  rfl

theorem mem_out (t : Fin (cfgM m hO).N) (i : S160x160000.Idx) : i ∈ (((cfgM m hO).win 2).blk t).view.set ↔
    ∀ a, cc0_transform_3 (grid0.coords t) a * S160x5376.size a ≤ (i a).val
      ∧ (i a).val < cc0_transform_3 (grid0.coords t) a * S160x5376.size a + (clip0_2 (grid0.coords t) a).extent (S160x5376.size a) := by
  exact (((cfgM m hO).win 2).emb_mem_blk_iff t i rfl)

theorem covered (i : S160x160000.Idx) : ∃ t : Fin (cfgM m hO).N, ((cfgM m hO).win 2).flush t = true ∧ i ∈ (((cfgM m hO).win 2).blk t).view.set := by
  have h0 : (i 0).val < 160 := (i 0).isLt
  have h1 : (i 1).val < 160000 := (i 1).isLt
  obtain ⟨t, ht⟩ := index_onto ⟨(i 1).val / 5376, by omega⟩
  refine ⟨t, flush_all m hO t, ?_⟩
  rw [mem_out]
  intro a
  rw [index_result t]
  fin_cases a
  · have e := extent_rows t
    show 0 * 160 ≤ (i 0).val ∧ (i 0).val < 0 * 160 + (clip0_2 (grid0.coords t) 0).extent 160
    rw [e]
    omega
  · have e := extent_columns t
    show blockNo (grid0.coords t) * 5376 ≤ (i 1).val ∧ (i 1).val < blockNo (grid0.coords t) * 5376 + (clip0_2 (grid0.coords t) 1).extent 5376
    rw [e, ht]
    show (i 1).val / 5376 * 5376 ≤ (i 1).val ∧ (i 1).val < (i 1).val / 5376 * 5376 + min 5376 (160000 - (i 1).val / 5376 * 5376)
    omega

/-- The result array is the result described. -/
theorem array_eq (hr : ∀ i w, Fits (firstAt (F := Ideal) (m ((c.tc : Thread nD τ).loc main_arg0)) i w) (countAt (F := Ideal) (m ((c.tc : Thread nD τ).loc main_arg0)) i w))
    (hc : c = 0) : (dats m hO 0 c).arrAt 2 (cfgM m hO).N = result (m ((c.tc : Thread nD τ).loc main_arg0)) (m ((c.tc : Thread nD τ).loc main_arg1))
      (m ((c.tc : Thread nD τ).loc main_arg2)) (m ((c.tc : Thread nD τ).loc main_arg3)) := by
  refine (dats m hO 0 c).arrAt_eq_of_emb 2 _ (fun t hf y => ?_) (covered m hO)
  rw [after0_2]
  blk_simp
  have e := index_result t
  have hy : ∀ a : Fin 2, ((((cfgM m hO).win 2).blk t).view.emb y a).val = cc0_transform_3 (grid0.coords t) a * S160x5376.size a + 1 * (y a).val := fun a => rfl
  rw [e] at hy
  refine out_at m hO c hr hc t _ _ ?_ ?_
  · refine (hy 0).trans ?_
    exact (congrArg (· + _) (Nat.zero_mul _)).trans ((Nat.zero_add _).trans (Nat.one_mul _))
  · refine (hy 1).trans ?_
    exact congrArg (blockNo (grid0.coords t) * 5376 + ·) (Nat.one_mul _)

end Cert.KernelIdeal.Gen
-- ==== Proof.ReferenceIdeal.Pieces.lean ====
/- The reference's result in named pieces. -/
module

public import proofs.«01_k».proof.Proof.Gen.ReferenceIdeal.Run
public import Idealize.ShloMosaic.Lib.Pointwise
public import Idealize.ShloMosaic.Lib.Pointwise.Reduce
public import Idealize.ShloMosaic.Lib.TwoAxisContraction
public import Idealize.ShloMosaic.Lib.Pipeline.Value

@[expose] public section

set_option maxRecDepth 16384

noncomputable section

namespace Cert.ReferenceIdeal.Gen

open Idealize.ShloMosaic Idealize.ShloMosaic.TcCoe

variable {F : FTy → Type} [FloatOps F]

/-- The table with the second core's slabs in the blocks' order. -/
def tableOf (T : IVec S2048 32) : IVec S16x4x30 32 :=
  concatenate S16x4x30 2 [⟨S16x4x15, (shapeCast _ (extractStridedSlice S1x16x4x15 ![0, 0, 0, 0] (extractStridedSlice S2x16x4x15 ![0, 0, 0, 0] (shapeCast _ T shapeCasts_S2048_S2x16x4x16) slices_S2x16x4x16_S2x16x4x15_0_0_0_0) slices_S2x16x4x15_S1x16x4x15_0_0_0_0) shapeCasts_S1x16x4x15_S16x4x15)⟩, ⟨S16x4x15, (Host.reverse [2] (shapeCast _ (extractStridedSlice S1x16x4x15 ![1, 0, 0, 0] (extractStridedSlice S2x16x4x15 ![0, 0, 0, 0] (shapeCast _ T shapeCasts_S2048_S2x16x4x16) slices_S2x16x4x16_S2x16x4x15_0_0_0_0) slices_S2x16x4x15_S1x16x4x15_1_0_0_0) shapeCasts_S1x16x4x15_S16x4x15))⟩] concatenates_S16x4x15_S16x4x15_S16x4x30_d2

/-- The words in the blocks' order, by block, sub, tile of columns, row of 8 and lane. -/
def wordsOf (W : IVec S30x16x336x128 32) : IVec S30x16x42x8x128 32 :=
  shapeCast _ (concatenate S30x16x336x128 0 [⟨S15x16x336x128, (extractStridedSlice S15x16x336x128 ![0, 0, 0, 0] W slices_S30x16x336x128_S15x16x336x128_0_0_0_0)⟩, ⟨S15x16x336x128, (Host.reverse [0] (extractStridedSlice S15x16x336x128 ![15, 0, 0, 0] W slices_S30x16x336x128_S15x16x336x128_15_0_0_0))⟩] concatenates_S15x16x336x128_S15x16x336x128_S30x16x336x128_d0) shapeCasts_S30x16x336x128_S30x16x42x8x128

/-- The six fields of every word, less 16. -/
def fieldsOf (V : IVec S30x16x42x8x128 32) : IVec S30x16x42x8x128x3x2 32 :=
  subi (andi (Host.shrui (broadcastInDim S30x16x42x8x128x3x2 ![0, 1, 2, 3, 4, 5, 6] bcast_S30x16x42x8x128x1x1_S30x16x42x8x128x3x2_0_1_2_3_4_5_6 (broadcastInDim S30x16x42x8x128x1x1 ![0, 1, 2, 3, 4] bcast_S30x16x42x8x128_S30x16x42x8x128x1x1_0_1_2_3_4 V)) (broadcastInDim S30x16x42x8x128x3x2 ![5, 6] bcast_S3x2_S30x16x42x8x128x3x2_5_6 (addi (broadcastInDim S3x2 ![0, 1] bcast_S3x1_S3x2_0_1 (muli (broadcastInDim S3x1 ![] bcast_S_S3x1 (constantI S_ 32 5#32)) (broadcastInDim S3x1 ![0] bcast_S3_S3x1_0 (iotaInDim S3 32 0)))) (broadcastInDim S3x2 ![0, 1] bcast_S1x2_S3x2_0_1 (broadcastInDim S1x2 ![1] bcast_S2_S1x2_1 (muli (broadcastInDim S2 ![] bcast_S_S2 (constantI S_ 32 16#32)) (iotaInDim S2 32 0))))))) (broadcastInDim S30x16x42x8x128x3x2 ![] bcast_S_S30x16x42x8x128x3x2 (constantI S_ 32 31#32))) (broadcastInDim S30x16x42x8x128x3x2 ![] bcast_S_S30x16x42x8x128x3x2 (constantI S_ 32 16#32))

/-- The dense counts. -/
def denseOf (W : IVec S30x16x336x128 32) : IVec S768x161280 32 :=
  shapeCast S768x161280 (transpose S16x3x8x2x30x42x128 [1, 5, 3, 6, 0, 2, 4] (fieldsOf (wordsOf W)) transposes_S30x16x42x8x128x3x2_S16x3x8x2x30x42x128_1_5_3_6_0_2_4) shapeCasts_S16x3x8x2x30x42x128_S768x161280

/-- Whether a row is the one of the exception at a place. -/
def oneHot (E : IVec S17168x128 32) : FVec F S768x2197504 .f32 :=
  uitofp .f32 (cmpi .eq (broadcastInDim S768x2197504 ![0, 1] bcast_S768x1_S768x2197504_0_1 (broadcastInDim S768x1 ![0] bcast_S768_S768x1_0 (iotaInDim S768 32 0))) (broadcastInDim S768x2197504 ![0, 1] bcast_S1x2197504_S768x2197504_0_1 (broadcastInDim S1x2197504 ![1] bcast_S2197504_S1x2197504_1 (andi (Host.shrui (shapeCast _ E shapeCasts_S17168x128_S2197504) (broadcastInDim S2197504 ![] bcast_S_S2197504 (constantI S_ 32 8#32))) (broadcastInDim S2197504 ![] bcast_S_S2197504 (constantI S_ 32 1023#32))))))

/-- The exceptions' counts. -/
def countOf (E : IVec S17168x128 32) : FVec F S2197504 .f32 :=
  sitofp .f32 (subi (andi (shapeCast _ E shapeCasts_S17168x128_S2197504) (broadcastInDim S2197504 ![] bcast_S_S2197504 (constantI S_ 32 255#32))) (broadcastInDim S2197504 ![] bcast_S_S2197504 (constantI S_ 32 128#32)))

/-- What the exception at a place adds to its column. -/
def termOf (X : FVec F S160x768 .bf16) (E : IVec S17168x128 32) : FVec F S160x16x2197504 .f32 :=
  broadcastInDim S160x16x2197504 ![0, 1, 2] bcast_S160x1x2197504_S160x16x2197504_0_1_2 (broadcastInDim S160x1x2197504 ![0, 2] bcast_S160x2197504_S160x1x2197504_0_2 (mulf (Host.dotGeneral dot_S160x768_S768x2197504_S160x2197504_1_0_0_1_n_n (some .fp32) (extf .f32 X bitsLt_bf16_f32) (oneHot E)) (broadcastInDim S160x2197504 ![0, 1] bcast_S1x2197504_S160x2197504_0_1 (broadcastInDim S1x2197504 ![1] bcast_S2197504_S1x2197504_1 (countOf E)))))

/-- The first places of the subs' exceptions. -/
def firstOf (T : IVec S2048 32) : IVec S16x30 32 :=
  shapeCast S16x30 (extractStridedSlice S16x1x30 ![0, 2, 0] (tableOf T) slices_S16x4x30_S16x1x30_0_2_0) shapeCasts_S16x1x30_S16x30

/-- The numbers of the subs' exceptions. -/
def sizeOf (T : IVec S2048 32) : IVec S16x30 32 :=
  shapeCast S16x30 (extractStridedSlice S16x1x30 ![0, 0, 0] (tableOf T) slices_S16x4x30_S16x1x30_0_0_0) shapeCasts_S16x1x30_S16x30

/-- Whether a place is among a sub's exceptions. -/
def memberOf (T : IVec S2048 32) : IVec S16x30x2197504 1 :=
  andi (cmpi .sle (broadcastInDim S16x30x2197504 ![0, 1, 2] bcast_S16x30x1_S16x30x2197504_0_1_2 (broadcastInDim S16x30x1 ![0, 1] bcast_S16x30_S16x30x1_0_1 (firstOf T))) (broadcastInDim S16x30x2197504 ![0, 1, 2] bcast_S1x1x2197504_S16x30x2197504_0_1_2 (broadcastInDim S1x1x2197504 ![2] bcast_S2197504_S1x1x2197504_2 (iotaInDim S2197504 32 0)))) (cmpi .slt (broadcastInDim S16x30x2197504 ![0, 1, 2] bcast_S1x1x2197504_S16x30x2197504_0_1_2 (broadcastInDim S1x1x2197504 ![2] bcast_S2197504_S1x1x2197504_2 (iotaInDim S2197504 32 0))) (broadcastInDim S16x30x2197504 ![0, 1, 2] bcast_S16x30x1_S16x30x2197504_0_1_2 (addi (broadcastInDim S16x30x1 ![0, 1] bcast_S16x30_S16x30x1_0_1 (firstOf T)) (broadcastInDim S16x30x1 ![0, 1] bcast_S16x30_S16x30x1_0_1 (sizeOf T)))))

/-- Whether a column is the one of the exception at a place. -/
def columnOf (E : IVec S17168x128 32) : IVec S5376x2197504 1 :=
  cmpi .eq (broadcastInDim S5376x2197504 ![0, 1] bcast_S1x2197504_S5376x2197504_0_1 (broadcastInDim S1x2197504 ![1] bcast_S2197504_S1x2197504_1 (Host.shrui (shapeCast _ E shapeCasts_S17168x128_S2197504) (broadcastInDim S2197504 ![] bcast_S_S2197504 (constantI S_ 32 18#32))))) (broadcastInDim S5376x2197504 ![0, 1] bcast_S5376x1_S5376x2197504_0_1 (broadcastInDim S5376x1 ![0] bcast_S5376_S5376x1_0 (iotaInDim S5376 32 0)))

/-- Whether the exception at a place belongs to a sub's column. -/
def hitOf (T : IVec S2048 32) (E : IVec S17168x128 32) : FVec F S16x30x5376x2197504 .f32 :=
  uitofp .f32 (andi (broadcastInDim S16x30x5376x2197504 ![0, 1, 2, 3] bcast_S16x30x1x2197504_S16x30x5376x2197504_0_1_2_3 (broadcastInDim S16x30x1x2197504 ![0, 1, 3] bcast_S16x30x2197504_S16x30x1x2197504_0_1_3 (memberOf T))) (broadcastInDim S16x30x5376x2197504 ![0, 1, 2, 3] bcast_S1x1x5376x2197504_S16x30x5376x2197504_0_1_2_3 (broadcastInDim S1x1x5376x2197504 ![2, 3] bcast_S5376x2197504_S1x1x5376x2197504_2_3 (columnOf E))))

/-- The result. -/
def resultOf (T : IVec S2048 32) (W : IVec S30x16x336x128 32) (X : FVec F S160x768 .bf16) (E : IVec S17168x128 32) : FVec F S160x160000 .bf16 :=
  truncf .bf16 (extractStridedSlice S160x160000 ![0, 0] (addf (Host.dotGeneral dot_S160x768_S768x161280_S160x161280_1_0_0_1_n_n (some .fp32) (extf .f32 X bitsLt_bf16_f32) (sitofp .f32 (denseOf W))) (shapeCast _ (Host.dotGeneral dot_S160x16x2197504_S16x30x5376x2197504_S160x30x5376_12_03_0_12_n_n (some .fp32) (termOf X E) (hitOf T E)) shapeCasts_S160x30x5376_S160x161280)) slices_S160x161280_S160x160000_0_0) bitsLt_bf16_f32

theorem res_eq (m : (ℓ : Loc nD τ sig) → Buf (Elt F) ℓ) (c : Dev nD) :
    Value.res_main_v95 m c = resultOf (m ((c.tc : Thread nD τ).loc main_arg0)) (m ((c.tc : Thread nD τ).loc main_arg1))
      (m ((c.tc : Thread nD τ).loc main_arg2)) (m ((c.tc : Thread nD τ).loc main_arg3)) := rfl

end Cert.ReferenceIdeal.Gen
-- ==== Proof.ReferenceIdeal.Read.lean ====
/- The reference's pieces, entry by entry. -/
module

public import proofs.«01_k».proof.Proof.ReferenceIdeal.Pieces
public import proofs.«01_k».proof.Proof.Spec

@[expose] public section

set_option maxRecDepth 16384

noncomputable section

namespace Cert.ReferenceIdeal.Gen

open Idealize.ShloMosaic Idealize.ShloMosaic.TcCoe Idealize.ShloMosaic.Pointwise
open Cert.Spec

theorem exc_ix (E : IVec S17168x128 32) (P : Fin 2197504) (h : P.val / 128 < 17168) (h' : P.val % 128 < 128) :
    E (ix2 ⟨P.val / 128, h⟩ ⟨P.val % 128, h'⟩) = excAt E P.val := by
  unfold excAt
  simp only [Nat.mod_eq_of_lt h]

/-- A bit read as a number. -/
theorem ideal_bit (b : BitVec 1) : FloatOps.uitofp (F := Ideal) FTy.f32 b = if b = 1#1 then (1 : EReal) else 0 := by
  show (((b.toNat : ℕ) : ℝ) : EReal) = _
  rcases (by revert b; decide : b = 0#1 ∨ b = 1#1) with rfl | rfl <;> simp

theorem oneHot_at (E : IVec S17168x128 32) (r : Fin 768) (P : Fin 2197504) :
    oneHot (F := Ideal) E (ix2 r P) = if BitVec.ofNat 32 r.val = excAt E P.val >>> 8 &&& 1023#32 then 1 else 0 := by
  pointwise [oneHot]
  rw [exc_ix E P, ideal_bit]
  refine if_congr IntOp.cmpi_eq ?_ ?_ <;> rfl

theorem countOf_at (E : IVec S17168x128 32) (P : Fin 2197504) :
    countOf (F := Ideal) E (ix1 P) = ((((excAt E P.val &&& 255#32) - 128#32).toInt : ℝ) : EReal) := by
  pointwise [countOf]
  rw [exc_ix E P]
  rfl

theorem termOf_at (X : FVec Ideal S160x768 .bf16) (E : IVec S17168x128 32) (g : Fin 160) (w : Fin 16) (P : Fin 2197504) :
    termOf X E (ix3 g w P) = term X g (excAt E P.val) := by
  pointwise [termOf]
  rw [countOf_at]
  unfold term
  refine congrArg (· * _) (Finset.sum_congr rfl fun r _ => ?_)
  rw [oneHot_at]
  split
  · exact mul_one _
  · exact mul_zero _

theorem columnOf_at (E : IVec S17168x128 32) (j : Fin 5376) (P : Fin 2197504) :
    columnOf E (ix2 j P) = 1#1 ↔ (excAt E P.val >>> 18).toNat = j.val := by
  pointwise [columnOf]
  rw [exc_ix E P, IntOp.cmpi_eq, ← BitVec.toNat_inj, BitVec.toNat_ofNat, Nat.mod_eq_of_lt (by have := j.isLt; omega)]
  rfl

/-- Places below 2197504 are words as they are integers. -/
theorem memberOf_at (T : IVec S2048 32) (w : Fin 16) (q : Fin 30) (P : Fin 2197504) (h0 : 0 ≤ (sizeOf T (ix2 w q)).toInt)
    (h1 : 0 ≤ (firstOf T (ix2 w q)).toInt) (h2 : (firstOf T (ix2 w q)).toInt + (sizeOf T (ix2 w q)).toInt ≤ 2197504) :
    memberOf T (ix3 w q P) = 1#1 ↔ (firstOf T (ix2 w q)).toInt.toNat ≤ P.val
      ∧ P.val < (firstOf T (ix2 w q)).toInt.toNat + (sizeOf T (ix2 w q)).toInt.toNat := by
  pointwise [memberOf]
  have hP := P.isLt
  have eP : (BitVec.ofNat 32 P.val).toInt = P.val := by
    rw [BitVec.toInt_eq_toNat_cond, BitVec.toNat_ofNat, Nat.mod_eq_of_lt (by omega), if_pos (by omega)]
  have eA : (IntOp.addi (firstOf T (ix2 w q)) (sizeOf T (ix2 w q))).toInt = (firstOf T (ix2 w q)).toInt + (sizeOf T (ix2 w q)).toInt :=
    WordArith.toInt_add_of_bounds _ _ (by omega) (by omega)
  rw [IntOp.andi_eq_one, IntOp.cmpi_sle, IntOp.cmpi_slt, eP, eA]
  omega

theorem hitOf_at (T : IVec S2048 32) (E : IVec S17168x128 32) (w : Fin 16) (q : Fin 30) (j : Fin 5376) (P : Fin 2197504) :
    hitOf (F := Ideal) T E (ix4 w q j P) = if memberOf T (ix3 w q P) = 1#1 ∧ columnOf E (ix2 j P) = 1#1 then (1 : EReal) else 0 := by
  pointwise [hitOf]
  rw [ideal_bit]
  exact if_congr IntOp.andi_eq_one rfl rfl

theorem word_ix (T : IVec S2048 32) (n : ℕ) (h : n < 2048) : Cert.Pre_exceptions_in_range.word T n = T (ix1 ⟨n, h⟩) := by
  refine congrArg T (funext fun a => ?_)
  obtain rfl : a = 0 := Subsingleton.elim _ _
  exact Fin.ext (Nat.mod_eq_of_lt h)

theorem tableOf_lo (T : IVec S2048 32) (w : Fin 16) (o : Fin 4) (q : Fin 30) (hq : q.val < 15) :
    tableOf T (ix3 w o q) = Cert.Pre_exceptions_in_range.word T (64 * (0 * 16 + w.val) + 16 * o.val + q.val) := by
  unfold tableOf
  rw [concatenate_pair_apply_left 2 _ _ concatenates_S16x4x15_S16x4x15_S16x4x30_d2 (ix3 w o q) rfl (ix3 w o ⟨q.val, hq⟩)
    (by intro b; fin_cases b <;> rfl)]
  pointwise
  have := w.isLt
  have := o.isLt
  rw [word_ix _ _ (by omega)]
  refine congrArg T (congrArg ix1 (Fin.ext ?_))
  simp
  omega

theorem tableOf_hi (T : IVec S2048 32) (w : Fin 16) (o : Fin 4) (q : Fin 30) (hq : ¬ q.val < 15) :
    tableOf T (ix3 w o q) = Cert.Pre_exceptions_in_range.word T (64 * (1 * 16 + w.val) + 16 * o.val + (29 - q.val)) := by
  unfold tableOf
  have := q.isLt
  rw [concatenate_pair_apply_right 2 _ _ concatenates_S16x4x15_S16x4x15_S16x4x30_d2 (ix3 w o q) rfl rfl (ix3 w o ⟨q.val - 15, by omega⟩)
    (by intro b hb; fin_cases b <;> first | rfl | exact absurd rfl hb) (by show q.val - 15 + 15 = q.val; omega)]
  pointwise
  have := w.isLt
  have := o.isLt
  rw [word_ix _ _ (by omega)]
  refine congrArg T (congrArg ix1 (Fin.ext ?_))
  simp
  omega

theorem firstOf_table (T : IVec S2048 32) (w : Fin 16) (q : Fin 30) : firstOf T (ix2 w q) = tableOf T (ix3 w 2 q) := by
  pointwise [firstOf]

theorem sizeOf_table (T : IVec S2048 32) (w : Fin 16) (q : Fin 30) : sizeOf T (ix2 w q) = tableOf T (ix3 w 0 q) := by
  pointwise [sizeOf]

end Cert.ReferenceIdeal.Gen
-- ==== Proof.ReferenceIdeal.Cells.lean ====
/- The reference's words, tables and exceptions in the plain words of the result. -/
module

public import proofs.«01_k».proof.Proof.ReferenceIdeal.Read

@[expose] public section

set_option maxRecDepth 16384

noncomputable section

namespace Cert.ReferenceIdeal.Gen

open Idealize.ShloMosaic Idealize.ShloMosaic.TcCoe Idealize.ShloMosaic.Pointwise Cert.Spec

/-- Field `a` of half `b` of a word. -/
theorem shift_at (v : BitVec 32) (a b : ℕ) (ha : a < 3) (hb : b < 2) :
    IntOp.shrui ArithUnit.host v (IntOp.addi (IntOp.muli (5#32) (BitVec.ofNat 32 a)) (IntOp.muli (16#32) (BitVec.ofNat 32 b))) = v >>> (5 * a + 16 * b) := by
  interval_cases a <;> interval_cases b <;> rfl

theorem wordAt_ix (W : IVec S30x16x336x128 32) (s w a l : ℕ) (s' : Fin 30) (w' : Fin 16) (a' : Fin 336) (l' : Fin 128)
    (hs : s'.val = s) (hw : w'.val = w) (ha : a'.val = a) (hl : l'.val = l) : W (ix4 s' w' a' l') = wordAt W s w a l := by
  subst hs hw ha hl
  unfold wordAt
  simp only [Nat.mod_eq_of_lt s'.isLt, Nat.mod_eq_of_lt w'.isLt, Nat.mod_eq_of_lt a'.isLt, Nat.mod_eq_of_lt l'.isLt]

/-- The precondition's bounds, sub by sub and block by block. -/
def Bounds (T : IVec S2048 32) : Prop := ∀ (w : Fin 16) (q : Fin 30), 0 ≤ (sizeOf T (ix2 w q)).toInt ∧ 0 ≤ (firstOf T (ix2 w q)).toInt
  ∧ (firstOf T (ix2 w q)).toInt + (sizeOf T (ix2 w q)).toInt ≤ 2197504

theorem firstOf_at (T : IVec S2048 32) (w : Fin 16) (q : Fin 30) : (firstOf T (ix2 w q)).toInt.toNat = first T q.val w.val := by
  rw [firstOf_table]
  unfold first
  by_cases h : q.val < 15
  · rw [tableOf_lo T w 2 q h, if_pos h, if_pos h]; rfl
  · rw [tableOf_hi T w 2 q h, if_neg h, if_neg h]; rfl

theorem sizeOf_at (T : IVec S2048 32) (w : Fin 16) (q : Fin 30) : (sizeOf T (ix2 w q)).toInt.toNat = size T q.val w.val := by
  rw [sizeOf_table]
  unfold size
  by_cases h : q.val < 15
  · rw [tableOf_lo T w 0 q h, if_pos h, if_pos h]; rfl
  · rw [tableOf_hi T w 0 q h, if_neg h, if_neg h]; rfl

/-- The exceptions' part of an entry. -/
theorem exceptions_at (T : IVec S2048 32) (X : FVec Ideal S160x768 .bf16) (E : IVec S17168x128 32) (hB : Bounds T)
    (g : Fin 160) (q : Fin 30) (j : Fin 5376) (w : Fin 16) (P : Fin 2197504) :
    termOf X E (ix3 g w P) * hitOf T E (ix4 w q j P)
      = if (first T q.val w.val ≤ P.val ∧ P.val < first T q.val w.val + size T q.val w.val) ∧ (excAt E P.val >>> 18).toNat = j.val
        then term X g (excAt E P.val) else 0 := by
  obtain ⟨h0, h1, h2⟩ := hB w q
  rw [termOf_at, hitOf_at, if_congr (and_congr (memberOf_at T w q P h0 h1 h2) (columnOf_at E j P)) rfl rfl, firstOf_at, sizeOf_at]
  split
  · exact mul_one _
  · exact mul_zero _

/-- The precondition gives the bounds. -/
theorem bounds_of_pre [Cert.Pre_exceptions_in_range.Facts] (T : IVec S2048 32) (W : IVec S30x16x336x128 32) (X : FVec Ideal S160x768 .bf16) (E : IVec S17168x128 32)
    (h : Cert.Pre_exceptions_in_range.fn T W X E = fun _ => 1#1) : Bounds T := by
  intro w q
  have hw := w.isLt
  have hq := q.isLt
  rw [firstOf_table, sizeOf_table]
  by_cases hc : q.val < 15
  · have d := Cert.Pre_exceptions_in_range.decoded T W X E h ⟨w.val, by omega⟩ ⟨q.val, hc⟩
    rw [tableOf_lo T w 2 q hc, tableOf_lo T w 0 q hc]
    have e : 64 * (0 * 16 + w.val) = 64 * w.val := by omega
    rw [e]
    exact ⟨d.1, d.2.1, d.2.2.2⟩
  · have d := Cert.Pre_exceptions_in_range.decoded T W X E h ⟨16 + w.val, by omega⟩ ⟨29 - q.val, by omega⟩
    rw [tableOf_hi T w 2 q hc, tableOf_hi T w 0 q hc]
    exact ⟨d.1, d.2.1, d.2.2.2⟩

end Cert.ReferenceIdeal.Gen
-- ==== Proof.ReferenceIdeal.Dense.lean ====
/- The reference's dense counts, read at an index. -/
module

public import proofs.«01_k».proof.Proof.ReferenceIdeal.Cells

@[expose] public section

set_option maxRecDepth 16384

noncomputable section

namespace Cert.ReferenceIdeal.Gen

open Idealize.ShloMosaic Idealize.ShloMosaic.TcCoe Idealize.ShloMosaic.Pointwise Cert.Spec

/-- The second core's slabs are in the blocks' order. -/
theorem wordsOf_at (W : IVec S30x16x336x128 32) (q : Fin 30) (w : Fin 16) (t : Fin 42) (s : Fin 8) (l : Fin 128) :
    wordsOf W (ix5 q w t s l) = wordAt W (slab q.val) w.val (8 * t.val + s.val) l.val := by
  have hq := q.isLt
  pointwise [wordsOf]
  unfold slab
  split
  · refine wordAt_ix W _ _ _ _ _ _ _ _ rfl rfl ?_ rfl
    show t.val * 8 + s.val = _
    omega
  · refine wordAt_ix W _ _ _ _ _ _ _ _ ?_ rfl ?_ rfl
    · show 15 + (15 - (q.val - 15 + 1)) = 44 - q.val
      omega
    · show t.val * 8 + s.val = _
      omega

theorem fieldsOf_at (V : IVec S30x16x42x8x128 32) (q : Fin 30) (w : Fin 16) (t : Fin 42) (s : Fin 8) (l : Fin 128) (f : Fin 3) (h : Fin 2) :
    fieldsOf V (ix7 q w t s l f h) = (V (ix5 q w t s l) >>> (5 * f.val + 16 * h.val) &&& 31#32) - 16#32 := by
  pointwise [fieldsOf]
  rw [shift_at _ _ _ f.isLt h.isLt]
  rfl

/-- The dense count of row `r`, column `c`. -/
theorem denseOf_at (W : IVec S30x16x336x128 32) (r : Fin 768) (c : Fin 161280) :
    FloatOps.sitofp (F := Ideal) FTy.f32 (denseOf W (ix2 r c)) = dense W (c.val / 5376) r.val (c.val % 5376) := by
  pointwise [denseOf]
  rw [fieldsOf_at, wordsOf_at]
  unfold dense
  rw [show c.val % 5376 / 128 = c.val / 128 % 42 by omega, show r.val % 16 / 2 = r.val / 2 % 8 by omega, show c.val % 5376 % 128 = c.val % 128 by omega]
  rfl

end Cert.ReferenceIdeal.Gen
-- ==== Proof.ReferenceIdeal.Result.lean ====
/- The reference's result, read at an index. -/
module

public import proofs.«01_k».proof.Proof.ReferenceIdeal.Dense

@[expose] public section

set_option maxRecDepth 16384

noncomputable section

namespace Cert.ReferenceIdeal.Gen

open Idealize.ShloMosaic Idealize.ShloMosaic.TcCoe Idealize.ShloMosaic.Pointwise Cert.Spec

theorem resultOf_at (T : IVec S2048 32) (W : IVec S30x16x336x128 32) (X : FVec Ideal S160x768 .bf16) (E : IVec S17168x128 32)
    (hB : Bounds T) (g : Fin 160) (c : Fin 160000) :
    resultOf T W X E (ix2 g c) = entry T W X E g (c.val / 5376) (c.val % 5376) := by
  pointwise [resultOf]
  refine congrArg₂ (· + ·) (Finset.sum_congr rfl fun r _ => ?_) (Finset.sum_congr rfl fun w _ => Finset.sum_congr rfl fun P _ => ?_)
  · exact congrArg (X (ix2 g r) * ·) (denseOf_at W r ⟨c.val, _⟩)
  · exact exceptions_at T X E hB g _ _ w P

/-- The reference's result is the one described. -/
theorem resultOf_eq (T : IVec S2048 32) (W : IVec S30x16x336x128 32) (X : FVec Ideal S160x768 .bf16) (E : IVec S17168x128 32)
    (hB : Bounds T) : resultOf T W X E = result T W X E := by
  funext y
  obtain ⟨g, c, rfl⟩ : ∃ g c, y = ix2 g c := ⟨y 0, y 1, funext fun a => by fin_cases a <;> rfl⟩
  exact resultOf_at T W X E hB g c

end Cert.ReferenceIdeal.Gen
-- ==== Proof.PrepIdeal.Arrays.lean ====
/- The two arrays that the preparation leaves: the scaled rows and the packed words, entry by entry. -/
module

public import proofs.«01_k».proof.Proof.Gen.PrepIdeal.Frame
public import Idealize.ShloMosaic.PureOps.Ideal
public import Idealize.ShloMosaic.Lib.Pipeline.Value
public import Idealize.ShloMosaic.Lib.Pointwise
public import Idealize.ShloMosaic.Lib.BitcastFour
public import Idealize.ShloMosaic.Lib.Pipeline.ValueKit
public import Idealize.ShloMosaic.Lib.StableHlo.RunRead

@[expose] public section

set_option maxRecDepth 16384

noncomputable section

namespace Cert.PrepIdeal.Gen

open Idealize.ShloMosaic Idealize.ShloMosaic.TcCoe Idealize.ShloMosaic.Pointwise Idealize.SL.Sem

variable (m : (ℓ : Loc nD τ sig) → Buf (Elt Ideal) ℓ) (c : Dev nD)

/-- What the host hands the call: the rows of x turned to columns, the scales as words in one row, the bytes in rows of 128. -/
theorem host_x : V m c main_v0 = transpose S160x768 [1, 0] (m ((c.tc : Thread nD τ).loc main_arg0)) transposes_S768x160_S160x768_1_0 := by
  show StableHlo.after hostOps0 (fun b => m (c, b)) _ = _
  after_results_simp <;> rfl
theorem host_scale : V m c main_v2 = shapeCast S1x768 (extui 32 (m ((c.tc : Thread nD τ).loc main_arg1)) natLt_8_32) shapeCasts_S768_S1x768 := by
  show StableHlo.after hostOps0 (fun b => m (c, b)) _ = _
  after_results_simp <;> rfl
theorem host_bytes : V m c main_v3 = shapeCast S3000x128 (m ((c.tc : Thread nD τ).loc main_arg2)) shapeCasts_S384000_S3000x128 := by
  show StableHlo.after hostOps0 (fun b => m (c, b)) _ = _
  after_results_simp <;> rfl

/-- Every window is its whole array. -/
theorem block_x (t : Fin cfg0.N) : iblk m c 0 t = V m c main_v0 := by
  suffices h : ∀ y : S160x768.Idx, iblk m c 0 t y = V m c main_v0 y from funext h
  intro y
  unfold iblk
  refine congrArg (V m c main_v0) (funext fun b => Fin.ext ?_)
  fin_cases b
  · show 0 * 160 + 1 * (y 0).val = (y 0).val
    omega
  · show 0 * 768 + 1 * (y 1).val = (y 1).val
    omega
theorem block_scale (t : Fin cfg0.N) : iblk m c 1 t = V m c main_v2 := by
  suffices h : ∀ y : S1x768.Idx, iblk m c 1 t y = V m c main_v2 y from funext h
  intro y
  unfold iblk
  refine congrArg (V m c main_v2) (funext fun b => Fin.ext ?_)
  fin_cases b
  · show 0 * 1 + 1 * (y 0).val = (y 0).val
    omega
  · show 0 * 768 + 1 * (y 1).val = (y 1).val
    omega
theorem block_bytes (t : Fin cfg0.N) : iblk m c 2 t = V m c main_v3 := by
  suffices h : ∀ y : S3000x128.Idx, iblk m c 2 t y = V m c main_v3 y from funext h
  intro y
  unfold iblk
  refine congrArg (V m c main_v3) (funext fun b => Fin.ext ?_)
  fin_cases b
  · show 0 * 3000 + 1 * (y 0).val = (y 0).val
    omega
  · show 0 * 128 + 1 * (y 1).val = (y 1).val
    omega

theorem zeros : (![0, 0] : Fin 2 → ℕ) = fun _ => 0 := by funext a; fin_cases a <;> rfl

/-- The block that the body leaves in each output is its payload. -/
theorem out_rows (x0 : Vec Ideal S160x768 .bf16) (x1 : Vec Ideal S1x768 .i32) (x2 : Vec Ideal S3000x128 .i8) :
    out0_3 x0 x1 x2 = k0_pay1 x1 x0 := by
  unfold out0_3
  rw [View.canon_unit_zero zeros, View.ld_unit_zero zeros, View.ld_unit_zero zeros]
theorem out_words (x0 : Vec Ideal S160x768 .bf16) (x1 : Vec Ideal S1x768 .i32) (x2 : Vec Ideal S3000x128 .i8) :
    out0_4 x0 x1 x2 = k0_pay2 x2 := by
  unfold out0_4
  rw [View.canon_unit_zero zeros, View.ld_unit_zero zeros]

/-- The scaled rows' array after the run. -/
theorem rows_array : (dats m 0 c).arrAt 3 cfg0.N = k0_pay1 (V m c main_v2) (V m c main_v0) := by
  refine (dats m 0 c).arrAt_eq_of_emb 3 _ (fun t hf y => ?_) (fun i => ?_)
  · rw [after0_3, block_x, block_scale, out_rows]
    blk_simp
    refine congrArg (k0_pay1 (V m c main_v2) (V m c main_v0)) (funext fun b => Fin.ext ?_)
    fin_cases b
    · show (y 0).val = 0 * 160 + 1 * (y 0).val
      omega
    · show (y 1).val = 0 * 768 + 1 * (y 1).val
      omega
  · refine ⟨⟨0, by decide⟩, flush0_3 _, (((cfg0.win 3).emb_mem_blk_iff _ i rfl)).2 fun a => ?_⟩
    have h0 : (i 0).val < 160 := (i 0).isLt
    have h1 : (i 1).val < 768 := (i 1).isLt
    fin_cases a
    · show 0 * 160 ≤ (i 0).val ∧ (i 0).val < 0 * 160 + 160
      omega
    · show 0 * 768 ≤ (i 1).val ∧ (i 1).val < 0 * 768 + 768
      omega

/-- The words' array after the run. -/
theorem words_array : (dats m 0 c).arrAt 4 cfg0.N = k0_pay2 (F := Ideal) (V m c main_v3) := by
  refine (dats m 0 c).arrAt_eq_of_emb 4 _ (fun t hf y => ?_) (fun i => ?_)
  · rw [after0_4, block_bytes, out_words]
    blk_simp
    refine congrArg (k0_pay2 (F := Ideal) (V m c main_v3)) (funext fun b => Fin.ext ?_)
    fin_cases b
    · show (y 0).val = 0 * 750 + 1 * (y 0).val
      omega
    · show (y 1).val = 0 * 128 + 1 * (y 1).val
      omega
  · refine ⟨⟨0, by decide⟩, flush0_4 _, (((cfg0.win 4).emb_mem_blk_iff _ i rfl)).2 fun a => ?_⟩
    have h0 : (i 0).val < 750 := (i 0).isLt
    have h1 : (i 1).val < 128 := (i 1).isLt
    fin_cases a
    · show 0 * 750 ≤ (i 0).val ∧ (i 0).val < 0 * 750 + 750
      omega
    · show 0 * 128 ≤ (i 1).val ∧ (i 1).val < 0 * 128 + 128
      omega

/-- The two arrays as functions of the arguments. -/
def rowsOf (X : FVec Ideal S768x160 .bf16) (S : IVec S768 8) : FVec Ideal S160x768 .bf16 :=
  k0_pay1 (F := Ideal) (shapeCast S1x768 (extui 32 S natLt_8_32) shapeCasts_S768_S1x768) (transpose S160x768 [1, 0] X transposes_S768x160_S160x768_1_0)
def wordsOf (B : IVec S384000 8) : IVec S750x128 32 := k0_pay2 (F := Ideal) (shapeCast S3000x128 B shapeCasts_S384000_S3000x128)

/-- An entry of the kernel's scaled rows. -/
theorem rows_at (X : FVec Ideal S768x160 .bf16) (S : IVec S768 8) (g : Fin 160) (r : Fin 768) :
    rowsOf X S (ix2 g r)
      = X (ix2 r g) * (Ideal.ofBits .f32 ((S (ix1 r)).setWidth 32 <<< 23) * Ideal.ofBits .f32 0x3F000000#32) := by
  pointwise [rowsOf, k0_pay1]
  rfl

/-- A word of the kernel: the bytes of four rows, lowest first. -/
theorem words_at (B : IVec S384000 8) (a : Fin 750) (l : Fin 128) (b : Fin 4 → BitVec 8)
    (hb : ∀ k : Fin 4, b k = B (ix1 ⟨512 * a.val + 128 * k.val + l.val, by omega⟩)) :
    wordsOf B (ix2 a l)
      = (b 0).setWidth 32 ||| ((b 1).setWidth 32 <<< 8) ||| ((b 2).setWidth 32 <<< 16) ||| ((b 3).setWidth 32 <<< 24) := by
  refine BitVec.eq_of_getLsbD_eq fun q hq => ?_
  rw [four_bytes_getLsbD b q hq]
  unfold wordsOf k0_pay2
  rw [shapeCast_self]
  refine (bitcast_8_32_getLsbD_ix2 _ _ a l q hq ⟨4 * a.val + q / 8, by omega⟩ rfl).trans ?_
  rw [hb]
  refine congrArg (fun v : BitVec 8 => v.getLsbD (q % 8)) (shapeCast_apply _ _ _ _ ?_)
  rw [Shape.rowMajor_val_two, Shape.rowMajor_val_one]
  show 512 * a.val + 128 * (q / 8) + l.val = (4 * a.val + q / 8) * 128 + l.val
  omega

/-- The run leaves the two arrays, and the arguments as they were. -/
theorem run_value (ρ : Dev nD → PrngReg) : θ_run (defs (F := Ideal)) (onTc (τ := τ) (main (F := Ideal))) ⟨m, fun _ => 0, ρ⟩ fun r => ∀ c : Dev nD,
      r.2.mem ((c.tc : Thread nD τ).loc main_v4_0) = rowsOf (m ((c.tc : Thread nD τ).loc main_arg0)) (m ((c.tc : Thread nD τ).loc main_arg1))
      ∧ r.2.mem ((c.tc : Thread nD τ).loc main_v4_1) = wordsOf (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run (defs (F := Ideal)) _ _).mono (fun r h c => ⟨((h c).1 3).trans ((rows_array m c).trans (by rw [host_x, host_scale]; rfl)), ((h c).1 4).trans ((words_array m c).trans (by rw [host_bytes]; rfl)),
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c)⟩)
    (run_main m ρ)

end Cert.PrepIdeal.Gen
-- ==== Proof.PrepReferenceIdeal.Scale.lean ====
/- The scale of a row: the word shifted into a float's exponent is the power of two that the reference states. -/
module

public import Idealize.ShloMosaic.PureOps.Ideal
public import Idealize.ShloMosaic.Lib.Pointwise

@[expose] public section

noncomputable section

namespace Cert.Prep

open Idealize.ShloMosaic

/-- The three fields of a byte shifted by 23: no sign, the byte as exponent, no fraction. -/
theorem fields_of_shift : ∀ s : BitVec 8, ((s.setWidth 32 <<< 23).extractLsb' 31 1 == 1#1) = false
    ∧ ((s.setWidth 32 <<< 23).extractLsb' 23 8).toNat = s.toNat ∧ ((s.setWidth 32 <<< 23).extractLsb' 0 23).toNat = 0 := by
  decide +kernel

theorem exponent_of_byte : ∀ s : BitVec 8, (s.setWidth 32 - 127#32).toInt = (s.toNat : ℤ) - 127 := by
  decide +kernel

theorem two_eq : Ideal.ofBits .f32 0x40000000#32 = ((2 : ℝ) : EReal) := by
  simp [Ideal.ofBits, Ideal.ieee, -EReal.coe_mul]
  norm_num

/-- A significand of 2²³ at the exponent `e` is two to the `e`. -/
theorem power_eq (e : ℤ) : (1 : ℝ) * ((2 ^ 23 + 0 : ℕ) : ℝ) * (2 : ℝ) ^ (e - 23) = (2 : ℝ) ^ e := by
  have h : (2 : ℝ) ^ e = (2 : ℝ) ^ (23 : ℤ) * (2 : ℝ) ^ (e - 23) := by
    rw [← zpow_add₀ (by norm_num)]
    congr 1
    ring
  rw [h, one_mul]
  norm_num

/-- The reading of a pattern without sign and fraction, whose exponent is neither the least nor the greatest. -/
theorem ieee_of_fields (b : BitVec 32) (n : ℕ) (ha : (b.extractLsb' 31 1 == 1#1) = false) (hb : (b.extractLsb' 23 8).toNat = n)
    (hd : (b.extractLsb' 0 23).toNat = 0) (h1 : 1 ≤ n) (h2 : n ≤ 254) :
    Ideal.ieee 8 23 b = (((2 : ℝ) ^ ((n : ℤ) - 127) : ℝ) : EReal) := by
  unfold Ideal.ieee
  have c1 : ¬ n = 2 ^ 8 - 1 := by norm_num; omega
  have c2 : ¬ n = 0 := by omega
  simp only [Nat.reduceAdd, ha, hb, hd, if_neg c1, if_neg c2]
  refine congrArg _ ?_
  rw [← power_eq ((n : ℤ) - 127)]
  norm_num

/-- A scale byte from 1 to 254, shifted into the exponent, is two to the byte less 127. -/
theorem scale_eq (s : BitVec 8) (h1 : 1 ≤ s.toNat) (h2 : s.toNat ≤ 254) :
    Ideal.ofBits .f32 (s.setWidth 32 <<< 23) = Ideal.pow (Ideal.ofBits .f32 0x40000000#32) (((s.setWidth 32 - 127#32).toInt : ℝ) : EReal) := by
  obtain ⟨a, b, d⟩ := fields_of_shift s
  rw [two_eq, exponent_of_byte]
  refine (ieee_of_fields _ _ a b d h1 h2).trans ?_
  show _ = ((Real.rpow 2 (((s.toNat : ℤ) - 127 : ℤ) : ℝ) : ℝ) : EReal)
  exact congrArg _ (Real.rpow_intCast 2 _).symm

end Cert.Prep
-- ==== Proof.PrepReferenceIdeal.Equal.lean ====
/- The arrays of the preparation's kernel and reference are equal. -/
module

public import proofs.«01_k».proof.Proof.PrepIdeal.Arrays
public import proofs.«01_k».proof.Proof.PrepReferenceIdeal.Scale
public import proofs.«01_k».proof.Proof.Gen.PrepReferenceIdeal.Run
public import proofs.«01_k».proof.Pre_scales_normal
public import proofs.«01_k».proof.Proof.Gen.Pre_scales_normal
public import Idealize.ShloMosaic.Lib.ReduceAll
public import Idealize.ShloMosaic.Lib.Affine

@[expose] public section

set_option maxRecDepth 16384

noncomputable section

namespace Cert.Pre_scales_normal

open Idealize.ShloMosaic Idealize.ShloMosaic.Pointwise

theorem byte_range : ∀ s : BitVec 8, 1 ≤ (s.setWidth 32).toInt → (s.setWidth 32).toInt ≤ 254 → 1 ≤ s.toNat ∧ s.toNat ≤ 254 := by
  decide +kernel

/-- The precondition read back: every scale byte is from 1 to 254. -/
theorem decoded [Facts] {F : FTy → Type} [FloatOps F] (X : FVec F S768x160 .bf16) (S : IVec S768 8) (B : IVec S384000 8)
    (h : fn X S B = fun _ => 1#1) (r : Fin 768) : 1 ≤ (S (ix1 r)).toNat ∧ (S (ix1 r)).toNat ≤ 254 := by
  have h0 := congrFun h (fun a => a.elim0)
  unfold fn at h0
  have h1 := Host.reduce_andi_all _ _ _ _ _ h0 (ix1 r)
  obtain ⟨c1, c2⟩ := IntOp.andi_eq_one.1 h1
  have c1 := IntOp.cmpi_sge.1 c1
  have c2 := IntOp.cmpi_sle.1 c2
  exact byte_range _ c1 c2

end Cert.Pre_scales_normal

namespace Cert.PrepReferenceIdeal.Gen

open Idealize.ShloMosaic Idealize.ShloMosaic.TcCoe Idealize.ShloMosaic.Pointwise

/-- The reference's scaled rows and words, as functions of the arguments. -/
def rowsOf (X : FVec Ideal S768x160 .bf16) (S : IVec S768 8) : FVec Ideal S160x768 .bf16 :=
  transpose S160x768 [1, 0] (truncf .bf16 (mulf (extf .f32 X bitsLt_bf16_f32) (broadcastInDim S768x160 ![0, 1] bcast_S768x1_S768x160_0_1 (broadcastInDim S768x1 ![0] bcast_S768_S768x1_0 (mulf (extf .f32 (truncf .bf16 (Host.powf (broadcastInDim S768 ![] bcast_S_S768 (constant S_ .f32 0x40000000#32)) (sitofp .f32 (subi (extui 32 S natLt_8_32) (broadcastInDim S768 ![] bcast_S_S768 (constantI S_ 32 127#32))))) bitsLt_bf16_f32) bitsLt_bf16_f32) (broadcastInDim S768 ![] bcast_S_S768 (constant S_ .f32 0x3F000000#32)))))) bitsLt_bf16_f32) transposes_S768x160_S160x768_1_0
def wordsOf (B : IVec S384000 8) : IVec S750x128 32 :=
  ori (ori (ori (shapeCast _ (extractStridedSlice S750x1x128 ![0, 0, 0] (extui 32 (shapeCast _ B shapeCasts_S384000_S750x4x128) natLt_8_32) slices_S750x4x128_S750x1x128_0_0_0) shapeCasts_S750x1x128_S750x128) (Host.shli (shapeCast _ (extractStridedSlice S750x1x128 ![0, 1, 0] (extui 32 (shapeCast _ B shapeCasts_S384000_S750x4x128) natLt_8_32) slices_S750x4x128_S750x1x128_0_1_0) shapeCasts_S750x1x128_S750x128) (broadcastInDim S750x128 ![] bcast_S_S750x128 (constantI S_ 32 8#32)))) (Host.shli (shapeCast _ (extractStridedSlice S750x1x128 ![0, 2, 0] (extui 32 (shapeCast _ B shapeCasts_S384000_S750x4x128) natLt_8_32) slices_S750x4x128_S750x1x128_0_2_0) shapeCasts_S750x1x128_S750x128) (broadcastInDim S750x128 ![] bcast_S_S750x128 (constantI S_ 32 16#32)))) (Host.shli (shapeCast _ (extractStridedSlice S750x1x128 ![0, 3, 0] (extui 32 (shapeCast _ B shapeCasts_S384000_S750x4x128) natLt_8_32) slices_S750x4x128_S750x1x128_0_3_0) shapeCasts_S750x1x128_S750x128) (broadcastInDim S750x128 ![] bcast_S_S750x128 (constantI S_ 32 24#32)))

/-- An entry of the reference's scaled rows. -/
theorem rows_at (X : FVec Ideal S768x160 .bf16) (S : IVec S768 8) (g : Fin 160) (r : Fin 768) :
    rowsOf X S (ix2 g r) = X (ix2 r g) * (Ideal.pow (Ideal.ofBits .f32 0x40000000#32) ((((S (ix1 r)).setWidth 32 - 127#32).toInt : ℝ) : EReal) * Ideal.ofBits .f32 0x3F000000#32) := by
  pointwise [rowsOf]
  rfl
/-- A word of the reference: the bytes of four rows, lowest first. -/
theorem words_at (B : IVec S384000 8) (a : Fin 750) (l : Fin 128) (b : Fin 4 → BitVec 8)
    (hb : ∀ k : Fin 4, b k = B (ix1 ⟨512 * a.val + 128 * k.val + l.val, by omega⟩)) :
    wordsOf B (ix2 a l) = (b 0).setWidth 32 ||| ((b 1).setWidth 32 <<< 8) ||| ((b 2).setWidth 32 <<< 16) ||| ((b 3).setWidth 32 <<< 24) := by
  pointwise [wordsOf]
  rw [hb, hb, hb, hb]
  refine congrArg₂ IntOp.ori (congrArg₂ IntOp.ori (congrArg₂ IntOp.ori ?_ ?_) ?_) ?_
  · refine congrArg (fun i : Fin 384000 => (B (ix1 i)).setWidth 32) (Fin.ext ?_)
    show a.val * 512 + l.val = 512 * a.val + 128 * 0 + l.val
    omega
  · refine congrArg (fun i : Fin 384000 => (B (ix1 i)).setWidth 32 <<< 8) (Fin.ext ?_)
    show a.val * 512 + 128 + l.val = 512 * a.val + 128 * 1 + l.val
    omega
  · refine congrArg (fun i : Fin 384000 => (B (ix1 i)).setWidth 32 <<< 16) (Fin.ext ?_)
    show a.val * 512 + 256 + l.val = 512 * a.val + 128 * 2 + l.val
    omega
  · refine congrArg (fun i : Fin 384000 => (B (ix1 i)).setWidth 32 <<< 24) (Fin.ext ?_)
    show a.val * 512 + 384 + l.val = 512 * a.val + 128 * 3 + l.val
    omega

/-- The arrays are equal: the rows where every scale byte is from 1 to 254, the words always. -/
theorem rows_eq (X : FVec Ideal S768x160 .bf16) (S : IVec S768 8) (B : IVec S384000 8) (h : Cert.Pre_scales_normal.fn X S B = fun _ => 1#1) :
    Cert.PrepIdeal.Gen.rowsOf X S = rowsOf X S := by
  funext y
  have e : y = ix2 (n0 := 160) (n1 := 768) (y 0) (y 1) := by funext b; fin_cases b <;> rfl
  rw [e]
  obtain ⟨h1, h2⟩ := Cert.Pre_scales_normal.decoded X S B h (y 1)
  refine (Cert.PrepIdeal.Gen.rows_at X S (y 0) (y 1)).trans (Eq.trans ?_ (rows_at X S (y 0) (y 1)).symm)
  rw [Cert.Prep.scale_eq _ h1 h2]
theorem words_eq (B : IVec S384000 8) : Cert.PrepIdeal.Gen.wordsOf B = wordsOf B := by
  funext y
  have e : y = ix2 (n0 := 750) (n1 := 128) (y 0) (y 1) := by funext b; fin_cases b <;> rfl
  rw [e]
  exact (Cert.PrepIdeal.Gen.words_at B (y 0) (y 1) _ fun _ => rfl).trans (words_at B (y 0) (y 1) _ fun _ => rfl).symm

end Cert.PrepReferenceIdeal.Gen
-- ==== Proof.lean ====
module

public import proofs.«01_k».proof.Defs
public import proofs.«01_k».proof.Proof.Kernel.Inbounds
public import proofs.«01_k».proof.Proof.KernelIdeal.Inbounds
public import proofs.«01_k».proof.Proof.KernelIdeal.Array
public import proofs.«01_k».proof.Proof.Gen.ReferenceIdeal.Run
public import proofs.«01_k».proof.Proof.ReferenceIdeal.Result
public import proofs.«01_k».proof.Proof.Gen.Prep.Frame
public import proofs.«01_k».proof.Proof.PrepReferenceIdeal.Equal
public import proofs.«01_k».proof.Proof.Gen.Pre_scales_normal

@[expose] public section

noncomputable section

namespace Cert.Proof

open Idealize.ShloMosaic Idealize.SL.Sem

/-- The kernel's frame: under the precondition every transfer is in bounds, and the run leaves arguments and counters. -/
theorem frame_p : Cert.quiescent_Kernel (hPre_exceptions_in_range := Cert.Pre_exceptions_in_range.Gen.facts) := fun m g hp =>
  Cert.Kernel.Gen.frame m g trivial (Cert.Kernel.Gen.inRange_of_pre m (hp 0))

/-- The same of the idealized kernel. -/
theorem frame_pi : Cert.quiescent_KernelIdeal (hPre_exceptions_in_range := Cert.Pre_exceptions_in_range.Gen.facts) := fun m g hp =>
  Cert.KernelIdeal.Gen.frame m g trivial (Cert.KernelIdeal.Gen.inRange_of_pre m (hp 0))

/-- The reference writes no argument and declares no semaphore. -/
theorem frame_ri : Cert.quiescent_ReferenceIdeal (hPre_exceptions_in_range := Cert.Pre_exceptions_in_range.Gen.facts) := fun m g _ =>
  (θ_run (Cert.ReferenceIdeal.defs (F := Ideal)) _ _).mono
    (fun r h => ⟨fun c => (h c).2, sem_eq_zero_of_no_sems (by decide) r.2⟩) (Cert.ReferenceIdeal.Value.run m g)

/-- With exact arithmetic the kernel and the reference leave the same result: both leave the one described. -/
theorem same_result : Cert.algebraic_KernelIdeal_ReferenceIdeal (hKernelIdeal := Cert.KernelIdeal.Gen.facts)
    (hReferenceIdeal := Cert.ReferenceIdeal.Gen.facts) (hPre_exceptions_in_range := Cert.Pre_exceptions_in_range.Gen.facts) := by
  intro m g m' g' hp ha
  refine ⟨fun c => Cert.Spec.result (m ((c.tc : Thread _ _).loc Cert.KernelIdeal.main_arg0)) (m ((c.tc : Thread _ _).loc Cert.KernelIdeal.main_arg1))
    (m ((c.tc : Thread _ _).loc Cert.KernelIdeal.main_arg2)) (m ((c.tc : Thread _ _).loc Cert.KernelIdeal.main_arg3)), ?_, ?_⟩
  · refine (θ_run (Cert.KernelIdeal.defs (F := Ideal)) _ _).mono (fun r h c => ?_)
      (Cert.KernelIdeal.Gen.run_value m g trivial (Cert.KernelIdeal.Gen.inRange_of_pre m (hp 0)))
    have hc : c = 0 := Subsingleton.elim _ _
    exact ⟨((h.1 c).1).trans (Cert.KernelIdeal.Gen.array_eq m trivial c (by subst hc; exact Cert.KernelIdeal.Gen.fits_of_pre _ _ _ _ (hp 0)) hc), (h.1 c).2⟩
  · refine (θ_run (Cert.ReferenceIdeal.defs (F := Ideal)) _ _).mono (fun r h c => ⟨(h c).1.trans ?_, (h c).2⟩) (Cert.ReferenceIdeal.Value.run m' g')
    obtain ⟨e0, e1, e2, e3⟩ := ha c
    rw [Cert.ReferenceIdeal.Gen.res_eq, e0, e1, e2, e3]
    exact Cert.ReferenceIdeal.Gen.resultOf_eq _ _ _ _ (Cert.ReferenceIdeal.Gen.bounds_of_pre _ _ _ _ (hp c))

/-- The preparation: frames, of every run. -/
theorem frame_prep : Cert.quiescent_Prep := fun m g _ => Cert.Prep.Gen.frame m g
theorem frame_prep_ideal : Cert.quiescent_PrepIdeal := fun m g _ => Cert.PrepIdeal.Gen.frame m g
theorem frame_prep_ri : Cert.quiescent_PrepReferenceIdeal := fun m g _ =>
  (θ_run (Cert.PrepReferenceIdeal.defs (F := Ideal)) _ _).mono
    (fun r h => ⟨fun c => (h c).2.2, sem_eq_zero_of_no_sems (by decide) r.2⟩) (Cert.PrepReferenceIdeal.Value.run m g)

/-- With exact arithmetic the preparation and its reference leave the same scaled rows and the same words. -/
theorem same_prep : Cert.algebraic_PrepIdeal_PrepReferenceIdeal_pre_scales_normal (hPrepIdeal := Cert.PrepIdeal.Gen.facts)
    (hPrepReferenceIdeal := Cert.PrepReferenceIdeal.Gen.facts) (hPre_scales_normal := Cert.Pre_scales_normal.Gen.facts) := by
  intro m g m' g' hp ha
  refine ⟨fun c => Cert.PrepIdeal.Gen.rowsOf (m ((c.tc : Thread _ _).loc Cert.PrepIdeal.main_arg0)) (m ((c.tc : Thread _ _).loc Cert.PrepIdeal.main_arg1)),
    fun c => Cert.PrepIdeal.Gen.wordsOf (m ((c.tc : Thread _ _).loc Cert.PrepIdeal.main_arg2)), Cert.PrepIdeal.Gen.run_value m g, ?_⟩
  refine (θ_run (Cert.PrepReferenceIdeal.defs (F := Ideal)) _ _).mono (fun r h c => ⟨(h c).1.trans ?_, (h c).2.1.trans ?_, (h c).2.2⟩)
    (Cert.PrepReferenceIdeal.Value.run m' g')
  · obtain ⟨e0, e1, e2⟩ := ha c
    rw [e0, e1]
    exact (Cert.PrepReferenceIdeal.Gen.rows_eq _ _ _ (hp c)).symm
  · obtain ⟨e0, e1, e2⟩ := ha c
    rw [e2]
    exact (Cert.PrepReferenceIdeal.Gen.words_eq _).symm

theorem claim : Cert.Claim :=
  ⟨Cert.Kernel.Gen.facts, Cert.KernelIdeal.Gen.facts, Cert.ReferenceIdeal.Gen.facts, Cert.Prep.Gen.facts, Cert.PrepIdeal.Gen.facts,
    Cert.PrepReferenceIdeal.Gen.facts, Cert.Pre_exceptions_in_range.Gen.facts, Cert.Pre_scales_normal.Gen.facts,
    frame_p, frame_pi, frame_ri, frame_prep, frame_prep_ideal, fun m g _ => frame_prep_ideal m g trivial, frame_prep_ri,
    fun m g _ => frame_prep_ri m g trivial, trivial, same_result, trivial, same_prep⟩

end Cert.Proof
